-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mean (m : (ℓ : Loc Cert.Mean.nD Cert.Mean.τ Cert.Mean.sig) → Buf (Elt Bits) ℓ) : Prop :=
  True

def Pre_MeanIdeal (m : (ℓ : Loc Cert.MeanIdeal.nD Cert.MeanIdeal.τ Cert.MeanIdeal.sig) → Buf (Elt Ideal) ℓ) : Prop :=
  True

def Pre_MeanRefIdeal (m : (ℓ : Loc Cert.MeanRefIdeal.nD Cert.MeanRefIdeal.τ Cert.MeanRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Mean [hMean : Cert.Mean.Facts] : Prop :=
  ∀ (m : (ℓ : Loc Cert.Mean.nD Cert.Mean.τ Cert.Mean.sig) → Buf (Elt Bits) ℓ) (g : Dev Cert.Mean.nD → PrngReg), Pre_Mean m →
    θ_run (Cert.Mean.defs (F := Bits)) (onTc (τ := Cert.Mean.τ) (Cert.Mean.main (F := Bits))) ⟨m, fun _ => 0, g⟩ (fun r => (∀ c : Dev Cert.Mean.nD,
      r.2.mem ((c.tc : Thread Cert.Mean.nD Cert.Mean.τ).loc Cert.Mean.main_arg0) = m ((c.tc : Thread Cert.Mean.nD Cert.Mean.τ).loc Cert.Mean.main_arg0))
      ∧ r.2.sem = fun _ => 0)

def quiescent_MeanIdeal [hMeanIdeal : Cert.MeanIdeal.Facts] : Prop :=
  ∀ (m : (ℓ : Loc Cert.MeanIdeal.nD Cert.MeanIdeal.τ Cert.MeanIdeal.sig) → Buf (Elt Ideal) ℓ) (g : Dev Cert.MeanIdeal.nD → PrngReg), Pre_MeanIdeal m →
    θ_run (Cert.MeanIdeal.defs (F := Ideal)) (onTc (τ := Cert.MeanIdeal.τ) (Cert.MeanIdeal.main (F := Ideal))) ⟨m, fun _ => 0, g⟩ (fun r => (∀ c : Dev Cert.MeanIdeal.nD,
      r.2.mem ((c.tc : Thread Cert.MeanIdeal.nD Cert.MeanIdeal.τ).loc Cert.MeanIdeal.main_arg0) = m ((c.tc : Thread Cert.MeanIdeal.nD Cert.MeanIdeal.τ).loc Cert.MeanIdeal.main_arg0))
      ∧ r.2.sem = fun _ => 0)

def quiescent_MeanRefIdeal [hMeanRefIdeal : Cert.MeanRefIdeal.Facts] : Prop :=
  ∀ (m : (ℓ : Loc Cert.MeanRefIdeal.nD Cert.MeanRefIdeal.τ Cert.MeanRefIdeal.sig) → Buf (Elt Ideal) ℓ) (g : Dev Cert.MeanRefIdeal.nD → PrngReg), Pre_MeanRefIdeal m →
    θ_run (Cert.MeanRefIdeal.defs (F := Ideal)) (onTc (τ := Cert.MeanRefIdeal.τ) (Cert.MeanRefIdeal.main (F := Ideal))) ⟨m, fun _ => 0, g⟩ (fun r => (∀ c : Dev Cert.MeanRefIdeal.nD,
      r.2.mem ((c.tc : Thread Cert.MeanRefIdeal.nD Cert.MeanRefIdeal.τ).loc Cert.MeanRefIdeal.main_arg0) = m ((c.tc : Thread Cert.MeanRefIdeal.nD Cert.MeanRefIdeal.τ).loc Cert.MeanRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Mean_MeanIdeal : Prop :=
  IdealRules.named_const.Statement Cert.MeanIdeal.κ "inv_t" .f32 0x39638E39#32 ((4608⁻¹ : ℝ) : EReal)

def algebraic_MeanIdeal_MeanRefIdeal [hMeanIdeal : Cert.MeanIdeal.Facts] [hMeanRefIdeal : Cert.MeanRefIdeal.Facts] : Prop :=
  ∀ (m : (ℓ : Loc Cert.MeanIdeal.nD Cert.MeanIdeal.τ Cert.MeanIdeal.sig) → Buf (Elt Ideal) ℓ) (g : Dev Cert.MeanIdeal.nD → PrngReg)
    (m' : (ℓ : Loc Cert.MeanRefIdeal.nD Cert.MeanRefIdeal.τ Cert.MeanRefIdeal.sig) → Buf (Elt Ideal) ℓ) (g' : Dev Cert.MeanRefIdeal.nD → PrngReg), Pre_MeanIdeal m →
    (∀ c : Dev Cert.MeanIdeal.nD,
      m' ((c.tc : Thread Cert.MeanRefIdeal.nD Cert.MeanRefIdeal.τ).loc Cert.MeanRefIdeal.main_arg0) = m ((c.tc : Thread Cert.MeanIdeal.nD Cert.MeanIdeal.τ).loc Cert.MeanIdeal.main_arg0)) →
    ∃ (v0 : (c : Dev Cert.MeanIdeal.nD) → Buf (Elt Ideal) ((c.tc : Thread Cert.MeanIdeal.nD Cert.MeanIdeal.τ).loc Cert.MeanIdeal.main_v1)),
      θ_run (Cert.MeanIdeal.defs (F := Ideal)) (onTc (τ := Cert.MeanIdeal.τ) (Cert.MeanIdeal.main (F := Ideal))) ⟨m, fun _ => 0, g⟩ (fun r => ∀ c : Dev Cert.MeanIdeal.nD,
          r.2.mem ((c.tc : Thread Cert.MeanIdeal.nD Cert.MeanIdeal.τ).loc Cert.MeanIdeal.main_v1) = v0 c
          ∧ r.2.mem ((c.tc : Thread Cert.MeanIdeal.nD Cert.MeanIdeal.τ).loc Cert.MeanIdeal.main_arg0) = m ((c.tc : Thread Cert.MeanIdeal.nD Cert.MeanIdeal.τ).loc Cert.MeanIdeal.main_arg0))
      ∧ θ_run (Cert.MeanRefIdeal.defs (F := Ideal)) (onTc (τ := Cert.MeanRefIdeal.τ) (Cert.MeanRefIdeal.main (F := Ideal))) ⟨m', fun _ => 0, g'⟩ (fun r => ∀ c : Dev Cert.MeanRefIdeal.nD,
          r.2.mem ((c.tc : Thread Cert.MeanRefIdeal.nD Cert.MeanRefIdeal.τ).loc Cert.MeanRefIdeal.main_v3) = v0 c
          ∧ r.2.mem ((c.tc : Thread Cert.MeanRefIdeal.nD Cert.MeanRefIdeal.τ).loc Cert.MeanRefIdeal.main_arg0) = m' ((c.tc : Thread Cert.MeanRefIdeal.nD Cert.MeanRefIdeal.τ).loc Cert.MeanRefIdeal.main_arg0))

def Claim : Prop :=
  ∃ (hKernel : Cert.Kernel.Facts) (hKernelIdeal : Cert.KernelIdeal.Facts) (hReferenceIdeal : Cert.ReferenceIdeal.Facts) (hMean : Cert.Mean.Facts) (hMeanIdeal : Cert.MeanIdeal.Facts) (hMeanRefIdeal : Cert.MeanRefIdeal.Facts),
    quiescent_Kernel (hKernel := hKernel)
    ∧ quiescent_KernelIdeal (hKernelIdeal := hKernelIdeal)
    ∧ quiescent_ReferenceIdeal (hReferenceIdeal := hReferenceIdeal)
    ∧ quiescent_Mean (hMean := hMean)
    ∧ quiescent_MeanIdeal (hMeanIdeal := hMeanIdeal)
    ∧ quiescent_MeanRefIdeal (hMeanRefIdeal := hMeanRefIdeal)
    ∧ preserves_Kernel_KernelIdeal
    ∧ algebraic_KernelIdeal_ReferenceIdeal (hKernelIdeal := hKernelIdeal) (hReferenceIdeal := hReferenceIdeal)
    ∧ preserves_Mean_MeanIdeal
    ∧ algebraic_MeanIdeal_MeanRefIdeal (hMeanIdeal := hMeanIdeal) (hMeanRefIdeal := hMeanRefIdeal)
-- ==== Kernel.lean ====
abbrev S8x8x576x768 : Shape := ⟨4, ![8, 8, 576, 768]⟩
abbrev S8x4608x768 : Shape := ⟨3, ![8, 4608, 768]⟩
abbrev S12x32x16x128 : Shape := ⟨4, ![12, 32, 16, 128]⟩
abbrev S256x128 : Shape := ⟨2, ![256, 128]⟩
abbrev S12x16x128 : Shape := ⟨3, ![12, 16, 128]⟩
abbrev S_ : Shape := ⟨0, ![]⟩
abbrev S1x256x128 : Shape := ⟨3, ![1, 256, 128]⟩
abbrev S16 : Shape := ⟨1, ![16]⟩
abbrev S1x16 : Shape := ⟨2, ![1, 16]⟩
abbrev S1x1x16 : Shape := ⟨3, ![1, 1, 16]⟩
abbrev S12x1x16x128 : Shape := ⟨4, ![12, 1, 16, 128]⟩
abbrev S384x16x128 : Shape := ⟨3, ![384, 16, 128]⟩
abbrev S8x6x8x16x128 : Shape := ⟨5, ![8, 6, 8, 16, 128]⟩
abbrev S8x5x16x768 : Shape := ⟨4, ![8, 5, 16, 768]⟩
abbrev S8x512x768 : Shape := ⟨3, ![8, 512, 768]⟩
abbrev S8x1x16x768 : Shape := ⟨4, ![8, 1, 16, 768]⟩
abbrev S8x32x768 : Shape := ⟨3, ![8, 32, 768]⟩
abbrev S8x16x768 : Shape := ⟨3, ![8, 16, 768]⟩
abbrev S8x8x768 : Shape := ⟨3, ![8, 8, 768]⟩
abbrev S8x4x768 : Shape := ⟨3, ![8, 4, 768]⟩
abbrev S8x2x768 : Shape := ⟨3, ![8, 2, 768]⟩
abbrev S8x1x768 : Shape := ⟨3, ![8, 1, 768]⟩
abbrev S8x768 : Shape := ⟨2, ![8, 768]⟩
abbrev S8x1x1x768 : Shape := ⟨4, ![8, 1, 1, 768]⟩

abbrev nBuf : Table → Nat
  | .hbm => 6
  | .local .tc .vmem => 4
  | .local .scVector .vmem => 3
  | _ => 0

abbrev bufTy : (tb : Table) → Fin (nBuf tb) → BufTy
  | .hbm, ⟨0, _⟩ => ⟨S8x8x576x768, .f32⟩
  | .hbm, ⟨1, _⟩ => ⟨S8x4608x768, .f32⟩
  | .hbm, ⟨2, _⟩ => ⟨S12x32x16x128, .f32⟩
  | .hbm, ⟨3, _⟩ => ⟨S384x16x128, .f32⟩
  | .hbm, ⟨4, _⟩ => ⟨S8x6x8x16x128, .f32⟩
  | .hbm, ⟨5, _⟩ => ⟨S8x5x16x768, .f32⟩
  | .local .tc .vmem, ⟨0, _⟩ => ⟨S8x512x768, .f32⟩
  | .local .tc .vmem, ⟨1, _⟩ => ⟨S8x512x768, .f32⟩
  | .local .tc .vmem, ⟨2, _⟩ => ⟨S8x1x16x768, .f32⟩
  | .local .tc .vmem, ⟨3, _⟩ => ⟨S8x1x16x768, .f32⟩
  | .local .scVector .vmem, ⟨0, _⟩ => ⟨S256x128, .f32⟩
  | .local .scVector .vmem, ⟨1, _⟩ => ⟨S256x128, .f32⟩
  | .local .scVector .vmem, ⟨2, _⟩ => ⟨S12x16x128, .f32⟩
  | _, _ => ⟨S8x8x576x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c48_i32_4 : BitVec 32 := 48#32
  let c0_i32_7 : BitVec 32 := 0#32
  let v19 : BitVec 1 := Scalar.cmpi .sgt c48_i32_4 c0_i32_7
  let v20 : BitVec 32 := Scalar.extui v19
  let c0_i32_8 : BitVec 32 := 0#32
  let v21 : BitVec 1 := Scalar.cmpi .slt c48_i32_4 c0_i32_8
  let v22 : BitVec 32 := Scalar.extui v21
  let v23 : BitVec 32 := Scalar.subi v20 v22
  let v24 : BitVec 1 := Scalar.cmpi .ne v18 v23
  let v25 : BitVec 32 := Scalar.remsi v2 c48_i32_4
  let c0_i32_9 : BitVec 32 := 0#32
  let v26 : BitVec 1 := Scalar.cmpi .ne v25 c0_i32_9
  let v27 : BitVec 1 := Scalar.andi v24 v26
  let v13 : BitVec 32 := Scalar.divsi v2 c48_i32_4
  let c1_i32_10 : BitVec 32 := 1#32
  let v28 : BitVec 32 := Scalar.subi v13 c1_i32_10
  let v29 : BitVec 32 := Scalar.select v27 v28 v13
  let c2560_i32 : BitVec 32 := 2560#32
  let c48_i32 : BitVec 32 := 48#32
  let c0_i32_0 : BitVec 32 := 0#32
  let v3 : BitVec 1 := Scalar.cmpi .eq c48_i32 c0_i32_0
  let c1_i32 : BitVec 32 := 1#32
  let v4 : BitVec 32 := Scalar.select v3 c1_i32 c48_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_18 : BitVec 32 := 0#32
  let v47 : BitVec 1 := Scalar.cmpi .eq c8_i32_17 c0_i32_18
  let c1_i32_19 : BitVec 32 := 1#32
  let v48 : BitVec 32 := Scalar.select v47 c1_i32_19 c8_i32_17
  let v49 : BitVec 32 := Scalar.remsi v12 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c256_i32 : BitVec 32 := 256#32
  let v57 : BitVec 32 := Scalar.muli v56 c256_i32
  let v58 : BitVec 32 := Scalar.addi c2560_i32 v57
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c8_i32 : BitVec 32 := 8#32
  let c0_i32_13 : BitVec 32 := 0#32
  let v36 : BitVec 1 := Scalar.cmpi .sgt c8_i32 c0_i32_13
  let v37 : BitVec 32 := Scalar.extui v36
  let c0_i32_14 : BitVec 32 := 0#32
  let v38 : BitVec 1 := Scalar.cmpi .slt c8_i32 c0_i32_14
  let v39 : BitVec 32 := Scalar.extui v38
  let v40 : BitVec 32 := Scalar.subi v37 v39
  let v41 : BitVec 1 := Scalar.cmpi .ne v35 v40
  let v42 : BitVec 32 := Scalar.remsi v12 c8_i32
  let c0_i32_15 : BitVec 32 := 0#32
  let v43 : BitVec 1 := Scalar.cmpi .ne v42 c0_i32_15
  let v44 : BitVec 1 := Scalar.andi v41 v43
  let v30 : BitVec 32 := Scalar.divsi v12 c8_i32
  let c1_i32_16 : BitVec 32 := 1#32
  let v45 : BitVec 32 := Scalar.subi v30 c1_i32_16
  let v46 : BitVec 32 := Scalar.select v44 v45 v30
  let c128_i32 : BitVec 32 := 128#32
  let v59 : BitVec 32 := Scalar.muli v46 c128_i32
  ![v29.toNat, v58.toNat, v59.toNat]
@[reducible] def k0_t1_loop : Scf.Loop 32 :=
  let c0_i32_24 : BitVec 32 := 0#32
  let c6_i32 : BitVec 32 := 6#32
  let v65 : BitVec 32 := Scalar.addi c0_i32_24 c6_i32
  let c1_i32_25 : BitVec 32 := 1#32
  ⟨c0_i32_24, v65, c1_i32_25⟩
def k0_off2 (i : grid0.Coords) (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let c32_i32 : BitVec 32 := 32#32
  let v67 : BitVec 32 := Scalar.muli v66 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v68 : BitVec 32 := Scalar.addi v67 v1
  let c0_i32_35 : BitVec 32 := 0#32
  let v80 : BitVec 1 := Scalar.cmpi .sgt v68 c0_i32_35
  let v81 : BitVec 32 := Scalar.extui v80
  let c0_i32_36 : BitVec 32 := 0#32
  let v82 : BitVec 1 := Scalar.cmpi .slt v68 c0_i32_36
  let v83 : BitVec 32 := Scalar.extui v82
  let v84 : BitVec 32 := Scalar.subi v81 v83
  let c48_i32_34 : BitVec 32 := 48#32
  let c0_i32_37 : BitVec 32 := 0#32
  let v85 : BitVec 1 := Scalar.cmpi .sgt c48_i32_34 c0_i32_37
  let v86 : BitVec 32 := Scalar.extui v85
  let c0_i32_38 : BitVec 32 := 0#32
  let v87 : BitVec 1 := Scalar.cmpi .slt c48_i32_34 c0_i32_38
  let v88 : BitVec 32 := Scalar.extui v87
  let v89 : BitVec 32 := Scalar.subi v86 v88
  let v90 : BitVec 1 := Scalar.cmpi .ne v84 v89
  let v91 : BitVec 32 := Scalar.remsi v68 c48_i32_34
  let c0_i32_39 : BitVec 32 := 0#32
  let v92 : BitVec 1 := Scalar.cmpi .ne v91 c0_i32_39
  let v93 : BitVec 1 := Scalar.andi v90 v92
  let v79 : BitVec 32 := Scalar.divsi v68 c48_i32_34
  let c1_i32_40 : BitVec 32 := 1#32
  let v94 : BitVec 32 := Scalar.subi v79 c1_i32_40
  let v95 : BitVec 32 := Scalar.select v93 v94 v79
  let c2560_i32_55 : BitVec 32 := 2560#32
  let c48_i32_28 : BitVec 32 := 48#32
  let c0_i32_29 : BitVec 32 := 0#32
  let v69 : BitVec 1 := Scalar.cmpi .eq c48_i32_28 c0_i32_29
  let c1_i32_30 : BitVec 32 := 1#32
  let v70 : BitVec 32 := Scalar.select v69 c1_i32_30 c48_i32_28
  let v71 : BitVec 32 := Scalar.remsi v68 v70
  let c0_i32_32 : BitVec 32 := 0#32
  let v73 : BitVec 1 := Scalar.cmpi .slt v71 c0_i32_32
  let c0_i32_33 : BitVec 32 := 0#32
  let v74 : BitVec 1 := Scalar.cmpi .slt v70 c0_i32_33
  let v75 : BitVec 1 := Scalar.xori v73 v74
  let c0_i32_31 : BitVec 32 := 0#32
  let v72 : BitVec 1 := Scalar.cmpi .ne v71 c0_i32_31
  let v76 : BitVec 1 := Scalar.andi v75 v72
  let v77 : BitVec 32 := Scalar.addi v71 v70
  let v78 : BitVec 32 := Scalar.select v76 v77 v71
  let c8_i32_48 : BitVec 32 := 8#32
  let c0_i32_49 : BitVec 32 := 0#32
  let v113 : BitVec 1 := Scalar.cmpi .eq c8_i32_48 c0_i32_49
  let c1_i32_50 : BitVec 32 := 1#32
  let v114 : BitVec 32 := Scalar.select v113 c1_i32_50 c8_i32_48
  let v115 : BitVec 32 := Scalar.remsi v78 v114
  let c0_i32_52 : BitVec 32 := 0#32
  let v117 : BitVec 1 := Scalar.cmpi .slt v115 c0_i32_52
  let c0_i32_53 : BitVec 32 := 0#32
  let v118 : BitVec 1 := Scalar.cmpi .slt v114 c0_i32_53
  let v119 : BitVec 1 := Scalar.xori v117 v118
  let c0_i32_51 : BitVec 32 := 0#32
  let v116 : BitVec 1 := Scalar.cmpi .ne v115 c0_i32_51
  let v120 : BitVec 1 := Scalar.andi v119 v116
  let v121 : BitVec 32 := Scalar.addi v115 v114
  let v122 : BitVec 32 := Scalar.select v120 v121 v115
  let c256_i32_54 : BitVec 32 := 256#32
  let v123 : BitVec 32 := Scalar.muli v122 c256_i32_54
  let v124 : BitVec 32 := Scalar.addi c2560_i32_55 v123
  let c0_i32_42 : BitVec 32 := 0#32
  let v97 : BitVec 1 := Scalar.cmpi .sgt v78 c0_i32_42
  let v98 : BitVec 32 := Scalar.extui v97
  let c0_i32_43 : BitVec 32 := 0#32
  let v99 : BitVec 1 := Scalar.cmpi .slt v78 c0_i32_43
  let v100 : BitVec 32 := Scalar.extui v99
  let v101 : BitVec 32 := Scalar.subi v98 v100
  let c8_i32_41 : BitVec 32 := 8#32
  let c0_i32_44 : BitVec 32 := 0#32
  let v102 : BitVec 1 := Scalar.cmpi .sgt c8_i32_41 c0_i32_44
  let v103 : BitVec 32 := Scalar.extui v102
  let c0_i32_45 : BitVec 32 := 0#32
  let v104 : BitVec 1 := Scalar.cmpi .slt c8_i32_41 c0_i32_45
  let v105 : BitVec 32 := Scalar.extui v104
  let v106 : BitVec 32 := Scalar.subi v103 v105
  let v107 : BitVec 1 := Scalar.cmpi .ne v101 v106
  let v108 : BitVec 32 := Scalar.remsi v78 c8_i32_41
  let c0_i32_46 : BitVec 32 := 0#32
  let v109 : BitVec 1 := Scalar.cmpi .ne v108 c0_i32_46
  let v110 : BitVec 1 := Scalar.andi v107 v109
  let v96 : BitVec 32 := Scalar.divsi v78 c8_i32_41
  let c1_i32_47 : BitVec 32 := 1#32
  let v111 : BitVec 32 := Scalar.subi v96 c1_i32_47
  let v112 : BitVec 32 := Scalar.select v110 v111 v96
  let c128_i32_56 : BitVec 32 := 128#32
  let v125 : BitVec 32 := Scalar.muli v112 c128_i32_56
  ![v95.toNat, v124.toNat, v125.toNat]
def k0_cond1 (k0_t1 : Fin k0_t1_loop.trips) : BitVec 1 :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let c1_i32_57 : BitVec 32 := 1#32
  let v130 : BitVec 32 := Scalar.addi v66 c1_i32_57
  let c12_i32 : BitVec 32 := 12#32
  let v131 : BitVec 1 := Scalar.cmpi .slt v130 c12_i32
  let v132 : BitVec 32 := Scalar.extui v131
  let c0_i32_58 : BitVec 32 := 0#32
  let v133 : BitVec 1 := Scalar.cmpi .ne v132 c0_i32_58
  v133

def k0_off3 (i : grid0.Coords) (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let c1_i32_651 : BitVec 32 := 1#32
  let v1515 : BitVec 32 := Scalar.addi v66 c1_i32_651
  let c32_i32_652 : BitVec 32 := 32#32
  let v1516 : BitVec 32 := Scalar.muli v1515 c32_i32_652
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1517 : BitVec 32 := Scalar.addi v1516 v1
  let c0_i32_660 : BitVec 32 := 0#32
  let v1529 : BitVec 1 := Scalar.cmpi .sgt v1517 c0_i32_660
  let v1530 : BitVec 32 := Scalar.extui v1529
  let c0_i32_661 : BitVec 32 := 0#32
  let v1531 : BitVec 1 := Scalar.cmpi .slt v1517 c0_i32_661
  let v1532 : BitVec 32 := Scalar.extui v1531
  let v1533 : BitVec 32 := Scalar.subi v1530 v1532
  let c48_i32_659 : BitVec 32 := 48#32
  let c0_i32_662 : BitVec 32 := 0#32
  let v1534 : BitVec 1 := Scalar.cmpi .sgt c48_i32_659 c0_i32_662
  let v1535 : BitVec 32 := Scalar.extui v1534
  let c0_i32_663 : BitVec 32 := 0#32
  let v1536 : BitVec 1 := Scalar.cmpi .slt c48_i32_659 c0_i32_663
  let v1537 : BitVec 32 := Scalar.extui v1536
  let v1538 : BitVec 32 := Scalar.subi v1535 v1537
  let v1539 : BitVec 1 := Scalar.cmpi .ne v1533 v1538
  let v1540 : BitVec 32 := Scalar.remsi v1517 c48_i32_659
  let c0_i32_664 : BitVec 32 := 0#32
  let v1541 : BitVec 1 := Scalar.cmpi .ne v1540 c0_i32_664
  let v1542 : BitVec 1 := Scalar.andi v1539 v1541
  let v1528 : BitVec 32 := Scalar.divsi v1517 c48_i32_659
  let c1_i32_665 : BitVec 32 := 1#32
  let v1543 : BitVec 32 := Scalar.subi v1528 c1_i32_665
  let v1544 : BitVec 32 := Scalar.select v1542 v1543 v1528
  let c2560_i32_680 : BitVec 32 := 2560#32
  let c48_i32_653 : BitVec 32 := 48#32
  let c0_i32_654 : BitVec 32 := 0#32
  let v1518 : BitVec 1 := Scalar.cmpi .eq c48_i32_653 c0_i32_654
  let c1_i32_655 : BitVec 32 := 1#32
  let v1519 : BitVec 32 := Scalar.select v1518 c1_i32_655 c48_i32_653
  let v1520 : BitVec 32 := Scalar.remsi v1517 v1519
  let c0_i32_657 : BitVec 32 := 0#32
  let v1522 : BitVec 1 := Scalar.cmpi .slt v1520 c0_i32_657
  let c0_i32_658 : BitVec 32 := 0#32
  let v1523 : BitVec 1 := Scalar.cmpi .slt v1519 c0_i32_658
  let v1524 : BitVec 1 := Scalar.xori v1522 v1523
  let c0_i32_656 : BitVec 32 := 0#32
  let v1521 : BitVec 1 := Scalar.cmpi .ne v1520 c0_i32_656
  let v1525 : BitVec 1 := Scalar.andi v1524 v1521
  let v1526 : BitVec 32 := Scalar.addi v1520 v1519
  let v1527 : BitVec 32 := Scalar.select v1525 v1526 v1520
  let c8_i32_673 : BitVec 32 := 8#32
  let c0_i32_674 : BitVec 32 := 0#32
  let v1562 : BitVec 1 := Scalar.cmpi .eq c8_i32_673 c0_i32_674
  let c1_i32_675 : BitVec 32 := 1#32
  let v1563 : BitVec 32 := Scalar.select v1562 c1_i32_675 c8_i32_673
  let v1564 : BitVec 32 := Scalar.remsi v1527 v1563
  let c0_i32_677 : BitVec 32 := 0#32
  let v1566 : BitVec 1 := Scalar.cmpi .slt v1564 c0_i32_677
  let c0_i32_678 : BitVec 32 := 0#32
  let v1567 : BitVec 1 := Scalar.cmpi .slt v1563 c0_i32_678
  let v1568 : BitVec 1 := Scalar.xori v1566 v1567
  let c0_i32_676 : BitVec 32 := 0#32
  let v1565 : BitVec 1 := Scalar.cmpi .ne v1564 c0_i32_676
  let v1569 : BitVec 1 := Scalar.andi v1568 v1565
  let v1570 : BitVec 32 := Scalar.addi v1564 v1563
  let v1571 : BitVec 32 := Scalar.select v1569 v1570 v1564
  let c256_i32_679 : BitVec 32 := 256#32
  let v1572 : BitVec 32 := Scalar.muli v1571 c256_i32_679
  let v1573 : BitVec 32 := Scalar.addi c2560_i32_680 v1572
  let c0_i32_667 : BitVec 32 := 0#32
  let v1546 : BitVec 1 := Scalar.cmpi .sgt v1527 c0_i32_667
  let v1547 : BitVec 32 := Scalar.extui v1546
  let c0_i32_668 : BitVec 32 := 0#32
  let v1548 : BitVec 1 := Scalar.cmpi .slt v1527 c0_i32_668
  let v1549 : BitVec 32 := Scalar.extui v1548
  let v1550 : BitVec 32 := Scalar.subi v1547 v1549
  let c8_i32_666 : BitVec 32 := 8#32
  let c0_i32_669 : BitVec 32 := 0#32
  let v1551 : BitVec 1 := Scalar.cmpi .sgt c8_i32_666 c0_i32_669
  let v1552 : BitVec 32 := Scalar.extui v1551
  let c0_i32_670 : BitVec 32 := 0#32
  let v1553 : BitVec 1 := Scalar.cmpi .slt c8_i32_666 c0_i32_670
  let v1554 : BitVec 32 := Scalar.extui v1553
  let v1555 : BitVec 32 := Scalar.subi v1552 v1554
  let v1556 : BitVec 1 := Scalar.cmpi .ne v1550 v1555
  let v1557 : BitVec 32 := Scalar.remsi v1527 c8_i32_666
  let c0_i32_671 : BitVec 32 := 0#32
  let v1558 : BitVec 1 := Scalar.cmpi .ne v1557 c0_i32_671
  let v1559 : BitVec 1 := Scalar.andi v1556 v1558
  let v1545 : BitVec 32 := Scalar.divsi v1527 c8_i32_666
  let c1_i32_672 : BitVec 32 := 1#32
  let v1560 : BitVec 32 := Scalar.subi v1545 c1_i32_672
  let v1561 : BitVec 32 := Scalar.select v1559 v1560 v1545
  let c128_i32_681 : BitVec 32 := 128#32
  let v1574 : BitVec 32 := Scalar.muli v1561 c128_i32_681
  ![v1544.toNat, v1573.toNat, v1574.toNat]
@[reducible] def k0_t2_loop : Scf.Loop 32 :=
  let c0_i32_59 : BitVec 32 := 0#32
  let c16_i32 : BitVec 32 := 16#32
  let v134 : BitVec 32 := Scalar.addi c0_i32_59 c16_i32
  let c1_i32_60 : BitVec 32 := 1#32
  ⟨c0_i32_59, v134, c1_i32_60⟩
def k0_off4 (k0_t2 : Fin k0_t2_loop.trips) (c0_i32_652 : BitVec 32) : Fin 2 → Nat :=
  let c0_i32_59 : BitVec 32 := 0#32
  let c1_i32_60 : BitVec 32 := 1#32
  let arg10 : BitVec 32 := Scf.iv c0_i32_59 c1_i32_60 k0_t2
  let c16_i32_651 : BitVec 32 := 16#32
  let v1515 : BitVec 32 := Scalar.muli arg10 c16_i32_651
  let v1516 : BitVec 32 := Scalar.addi v1515 c0_i32_652
  let v1517 : Index := Scalar.indexCast v1516
  let c0_653 : Index := 0#32
  ![v1517.toNat, 0]
def k0_off5 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v136 : Index := Scalar.indexCast v66
  let c0_i32_62 : BitVec 32 := 0#32
  let v137 : Index := Scalar.indexCast c0_i32_62
  let c0 : Index := 0#32
  ![v136.toNat, 0, 0]
def k0_off6 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v141 : Index := Scalar.indexCast v66
  let c1_i32_63 : BitVec 32 := 1#32
  let v142 : Index := Scalar.indexCast c1_i32_63
  let c0_64 : Index := 0#32
  ![v141.toNat, 1, 0]
def k0_off7 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v146 : Index := Scalar.indexCast v66
  let c2_i32_65 : BitVec 32 := 2#32
  let v147 : Index := Scalar.indexCast c2_i32_65
  let c0_66 : Index := 0#32
  ![v146.toNat, 2, 0]
def k0_off8 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v151 : Index := Scalar.indexCast v66
  let c3_i32 : BitVec 32 := 3#32
  let v152 : Index := Scalar.indexCast c3_i32
  let c0_67 : Index := 0#32
  ![v151.toNat, 3, 0]
def k0_off9 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v156 : Index := Scalar.indexCast v66
  let c4_i32 : BitVec 32 := 4#32
  let v157 : Index := Scalar.indexCast c4_i32
  let c0_68 : Index := 0#32
  ![v156.toNat, 4, 0]
def k0_off10 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v161 : Index := Scalar.indexCast v66
  let c5_i32 : BitVec 32 := 5#32
  let v162 : Index := Scalar.indexCast c5_i32
  let c0_69 : Index := 0#32
  ![v161.toNat, 5, 0]
def k0_off11 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v166 : Index := Scalar.indexCast v66
  let c6_i32_70 : BitVec 32 := 6#32
  let v167 : Index := Scalar.indexCast c6_i32_70
  let c0_71 : Index := 0#32
  ![v166.toNat, 6, 0]
def k0_off12 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v171 : Index := Scalar.indexCast v66
  let c7_i32 : BitVec 32 := 7#32
  let v172 : Index := Scalar.indexCast c7_i32
  let c0_72 : Index := 0#32
  ![v171.toNat, 7, 0]
def k0_off13 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v176 : Index := Scalar.indexCast v66
  let c8_i32_73 : BitVec 32 := 8#32
  let v177 : Index := Scalar.indexCast c8_i32_73
  let c0_74 : Index := 0#32
  ![v176.toNat, 8, 0]
def k0_off14 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v181 : Index := Scalar.indexCast v66
  let c9_i32 : BitVec 32 := 9#32
  let v182 : Index := Scalar.indexCast c9_i32
  let c0_75 : Index := 0#32
  ![v181.toNat, 9, 0]
def k0_off15 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v186 : Index := Scalar.indexCast v66
  let c10_i32 : BitVec 32 := 10#32
  let v187 : Index := Scalar.indexCast c10_i32
  let c0_76 : Index := 0#32
  ![v186.toNat, 10, 0]
def k0_off16 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v191 : Index := Scalar.indexCast v66
  let c11_i32 : BitVec 32 := 11#32
  let v192 : Index := Scalar.indexCast c11_i32
  let c0_77 : Index := 0#32
  ![v191.toNat, 11, 0]
def k0_off17 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v196 : Index := Scalar.indexCast v66
  let c12_i32_78 : BitVec 32 := 12#32
  let v197 : Index := Scalar.indexCast c12_i32_78
  let c0_79 : Index := 0#32
  ![v196.toNat, 12, 0]
def k0_off18 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v201 : Index := Scalar.indexCast v66
  let c13_i32 : BitVec 32 := 13#32
  let v202 : Index := Scalar.indexCast c13_i32
  let c0_80 : Index := 0#32
  ![v201.toNat, 13, 0]
def k0_off19 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v206 : Index := Scalar.indexCast v66
  let c14_i32 : BitVec 32 := 14#32
  let v207 : Index := Scalar.indexCast c14_i32
  let c0_81 : Index := 0#32
  ![v206.toNat, 14, 0]
def k0_off20 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v211 : Index := Scalar.indexCast v66
  let c15_i32 : BitVec 32 := 15#32
  let v212 : Index := Scalar.indexCast c15_i32
  let c0_82 : Index := 0#32
  ![v211.toNat, 15, 0]
@[reducible] def k0_t3_loop : Scf.Loop 32 :=
  let c0_i32_83 : BitVec 32 := 0#32
  let c16_i32_84 : BitVec 32 := 16#32
  let v216 : BitVec 32 := Scalar.addi c0_i32_83 c16_i32_84
  let c1_i32_85 : BitVec 32 := 1#32
  ⟨c0_i32_83, v216, c1_i32_85⟩
def k0_off21 (k0_t3 : Fin k0_t3_loop.trips) (c0_i32_652 : BitVec 32) : Fin 2 → Nat :=
  let c0_i32_83 : BitVec 32 := 0#32
  let c1_i32_85 : BitVec 32 := 1#32
  let arg10 : BitVec 32 := Scf.iv c0_i32_83 c1_i32_85 k0_t3
  let c16_i32_651 : BitVec 32 := 16#32
  let v1515 : BitVec 32 := Scalar.muli arg10 c16_i32_651
  let v1516 : BitVec 32 := Scalar.addi v1515 c0_i32_652
  let v1517 : Index := Scalar.indexCast v1516
  let c16_653 : Index := 16#32
  ![v1517.toNat, 16]
def k0_off22 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v218 : Index := Scalar.indexCast v66
  let c0_i32_87 : BitVec 32 := 0#32
  let v219 : Index := Scalar.indexCast c0_i32_87
  let c16 : Index := 16#32
  ![v218.toNat, 0, 16]
def k0_off23 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v223 : Index := Scalar.indexCast v66
  let c1_i32_88 : BitVec 32 := 1#32
  let v224 : Index := Scalar.indexCast c1_i32_88
  let c16_89 : Index := 16#32
  ![v223.toNat, 1, 16]
def k0_off24 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v228 : Index := Scalar.indexCast v66
  let c2_i32_90 : BitVec 32 := 2#32
  let v229 : Index := Scalar.indexCast c2_i32_90
  let c16_91 : Index := 16#32
  ![v228.toNat, 2, 16]
def k0_off25 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v233 : Index := Scalar.indexCast v66
  let c3_i32_92 : BitVec 32 := 3#32
  let v234 : Index := Scalar.indexCast c3_i32_92
  let c16_93 : Index := 16#32
  ![v233.toNat, 3, 16]
def k0_off26 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v238 : Index := Scalar.indexCast v66
  let c4_i32_94 : BitVec 32 := 4#32
  let v239 : Index := Scalar.indexCast c4_i32_94
  let c16_95 : Index := 16#32
  ![v238.toNat, 4, 16]
def k0_off27 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v243 : Index := Scalar.indexCast v66
  let c5_i32_96 : BitVec 32 := 5#32
  let v244 : Index := Scalar.indexCast c5_i32_96
  let c16_97 : Index := 16#32
  ![v243.toNat, 5, 16]
def k0_off28 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v248 : Index := Scalar.indexCast v66
  let c6_i32_98 : BitVec 32 := 6#32
  let v249 : Index := Scalar.indexCast c6_i32_98
  let c16_99 : Index := 16#32
  ![v248.toNat, 6, 16]
def k0_off29 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v253 : Index := Scalar.indexCast v66
  let c7_i32_100 : BitVec 32 := 7#32
  let v254 : Index := Scalar.indexCast c7_i32_100
  let c16_101 : Index := 16#32
  ![v253.toNat, 7, 16]
def k0_off30 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v258 : Index := Scalar.indexCast v66
  let c8_i32_102 : BitVec 32 := 8#32
  let v259 : Index := Scalar.indexCast c8_i32_102
  let c16_103 : Index := 16#32
  ![v258.toNat, 8, 16]
def k0_off31 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v263 : Index := Scalar.indexCast v66
  let c9_i32_104 : BitVec 32 := 9#32
  let v264 : Index := Scalar.indexCast c9_i32_104
  let c16_105 : Index := 16#32
  ![v263.toNat, 9, 16]
def k0_off32 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v268 : Index := Scalar.indexCast v66
  let c10_i32_106 : BitVec 32 := 10#32
  let v269 : Index := Scalar.indexCast c10_i32_106
  let c16_107 : Index := 16#32
  ![v268.toNat, 10, 16]
def k0_off33 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v273 : Index := Scalar.indexCast v66
  let c11_i32_108 : BitVec 32 := 11#32
  let v274 : Index := Scalar.indexCast c11_i32_108
  let c16_109 : Index := 16#32
  ![v273.toNat, 11, 16]
def k0_off34 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v278 : Index := Scalar.indexCast v66
  let c12_i32_110 : BitVec 32 := 12#32
  let v279 : Index := Scalar.indexCast c12_i32_110
  let c16_111 : Index := 16#32
  ![v278.toNat, 12, 16]
def k0_off35 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v283 : Index := Scalar.indexCast v66
  let c13_i32_112 : BitVec 32 := 13#32
  let v284 : Index := Scalar.indexCast c13_i32_112
  let c16_113 : Index := 16#32
  ![v283.toNat, 13, 16]
def k0_off36 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v288 : Index := Scalar.indexCast v66
  let c14_i32_114 : BitVec 32 := 14#32
  let v289 : Index := Scalar.indexCast c14_i32_114
  let c16_115 : Index := 16#32
  ![v288.toNat, 14, 16]
def k0_off37 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v293 : Index := Scalar.indexCast v66
  let c15_i32_116 : BitVec 32 := 15#32
  let v294 : Index := Scalar.indexCast c15_i32_116
  let c16_117 : Index := 16#32
  ![v293.toNat, 15, 16]
@[reducible] def k0_t4_loop : Scf.Loop 32 :=
  let c0_i32_118 : BitVec 32 := 0#32
  let c16_i32_119 : BitVec 32 := 16#32
  let v298 : BitVec 32 := Scalar.addi c0_i32_118 c16_i32_119
  let c1_i32_120 : BitVec 32 := 1#32
  ⟨c0_i32_118, v298, c1_i32_120⟩
def k0_off38 (k0_t4 : Fin k0_t4_loop.trips) (c0_i32_652 : BitVec 32) : Fin 2 → Nat :=
  let c0_i32_118 : BitVec 32 := 0#32
  let c1_i32_120 : BitVec 32 := 1#32
  let arg10 : BitVec 32 := Scf.iv c0_i32_118 c1_i32_120 k0_t4
  let c16_i32_651 : BitVec 32 := 16#32
  let v1515 : BitVec 32 := Scalar.muli arg10 c16_i32_651
  let v1516 : BitVec 32 := Scalar.addi v1515 c0_i32_652
  let v1517 : Index := Scalar.indexCast v1516
  let c32_653 : Index := 32#32
  ![v1517.toNat, 32]
def k0_off39 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v300 : Index := Scalar.indexCast v66
  let c0_i32_122 : BitVec 32 := 0#32
  let v301 : Index := Scalar.indexCast c0_i32_122
  let c32 : Index := 32#32
  ![v300.toNat, 0, 32]
def k0_off40 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v305 : Index := Scalar.indexCast v66
  let c1_i32_123 : BitVec 32 := 1#32
  let v306 : Index := Scalar.indexCast c1_i32_123
  let c32_124 : Index := 32#32
  ![v305.toNat, 1, 32]
def k0_off41 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v310 : Index := Scalar.indexCast v66
  let c2_i32_125 : BitVec 32 := 2#32
  let v311 : Index := Scalar.indexCast c2_i32_125
  let c32_126 : Index := 32#32
  ![v310.toNat, 2, 32]
def k0_off42 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v315 : Index := Scalar.indexCast v66
  let c3_i32_127 : BitVec 32 := 3#32
  let v316 : Index := Scalar.indexCast c3_i32_127
  let c32_128 : Index := 32#32
  ![v315.toNat, 3, 32]
def k0_off43 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v320 : Index := Scalar.indexCast v66
  let c4_i32_129 : BitVec 32 := 4#32
  let v321 : Index := Scalar.indexCast c4_i32_129
  let c32_130 : Index := 32#32
  ![v320.toNat, 4, 32]
def k0_off44 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v325 : Index := Scalar.indexCast v66
  let c5_i32_131 : BitVec 32 := 5#32
  let v326 : Index := Scalar.indexCast c5_i32_131
  let c32_132 : Index := 32#32
  ![v325.toNat, 5, 32]
def k0_off45 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v330 : Index := Scalar.indexCast v66
  let c6_i32_133 : BitVec 32 := 6#32
  let v331 : Index := Scalar.indexCast c6_i32_133
  let c32_134 : Index := 32#32
  ![v330.toNat, 6, 32]
def k0_off46 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v335 : Index := Scalar.indexCast v66
  let c7_i32_135 : BitVec 32 := 7#32
  let v336 : Index := Scalar.indexCast c7_i32_135
  let c32_136 : Index := 32#32
  ![v335.toNat, 7, 32]
def k0_off47 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v340 : Index := Scalar.indexCast v66
  let c8_i32_137 : BitVec 32 := 8#32
  let v341 : Index := Scalar.indexCast c8_i32_137
  let c32_138 : Index := 32#32
  ![v340.toNat, 8, 32]
def k0_off48 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v345 : Index := Scalar.indexCast v66
  let c9_i32_139 : BitVec 32 := 9#32
  let v346 : Index := Scalar.indexCast c9_i32_139
  let c32_140 : Index := 32#32
  ![v345.toNat, 9, 32]
def k0_off49 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v350 : Index := Scalar.indexCast v66
  let c10_i32_141 : BitVec 32 := 10#32
  let v351 : Index := Scalar.indexCast c10_i32_141
  let c32_142 : Index := 32#32
  ![v350.toNat, 10, 32]
def k0_off50 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v355 : Index := Scalar.indexCast v66
  let c11_i32_143 : BitVec 32 := 11#32
  let v356 : Index := Scalar.indexCast c11_i32_143
  let c32_144 : Index := 32#32
  ![v355.toNat, 11, 32]
def k0_off51 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v360 : Index := Scalar.indexCast v66
  let c12_i32_145 : BitVec 32 := 12#32
  let v361 : Index := Scalar.indexCast c12_i32_145
  let c32_146 : Index := 32#32
  ![v360.toNat, 12, 32]
def k0_off52 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v365 : Index := Scalar.indexCast v66
  let c13_i32_147 : BitVec 32 := 13#32
  let v366 : Index := Scalar.indexCast c13_i32_147
  let c32_148 : Index := 32#32
  ![v365.toNat, 13, 32]
def k0_off53 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v370 : Index := Scalar.indexCast v66
  let c14_i32_149 : BitVec 32 := 14#32
  let v371 : Index := Scalar.indexCast c14_i32_149
  let c32_150 : Index := 32#32
  ![v370.toNat, 14, 32]
def k0_off54 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v375 : Index := Scalar.indexCast v66
  let c15_i32_151 : BitVec 32 := 15#32
  let v376 : Index := Scalar.indexCast c15_i32_151
  let c32_152 : Index := 32#32
  ![v375.toNat, 15, 32]
@[reducible] def k0_t5_loop : Scf.Loop 32 :=
  let c0_i32_153 : BitVec 32 := 0#32
  let c16_i32_154 : BitVec 32 := 16#32
  let v380 : BitVec 32 := Scalar.addi c0_i32_153 c16_i32_154
  let c1_i32_155 : BitVec 32 := 1#32
  ⟨c0_i32_153, v380, c1_i32_155⟩
def k0_off55 (k0_t5 : Fin k0_t5_loop.trips) (c0_i32_652 : BitVec 32) : Fin 2 → Nat :=
  let c0_i32_153 : BitVec 32 := 0#32
  let c1_i32_155 : BitVec 32 := 1#32
  let arg10 : BitVec 32 := Scf.iv c0_i32_153 c1_i32_155 k0_t5
  let c16_i32_651 : BitVec 32 := 16#32
  let v1515 : BitVec 32 := Scalar.muli arg10 c16_i32_651
  let v1516 : BitVec 32 := Scalar.addi v1515 c0_i32_652
  let v1517 : Index := Scalar.indexCast v1516
  let c48_653 : Index := 48#32
  ![v1517.toNat, 48]
def k0_off56 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v382 : Index := Scalar.indexCast v66
  let c0_i32_157 : BitVec 32 := 0#32
  let v383 : Index := Scalar.indexCast c0_i32_157
  let c48 : Index := 48#32
  ![v382.toNat, 0, 48]
def k0_off57 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v387 : Index := Scalar.indexCast v66
  let c1_i32_158 : BitVec 32 := 1#32
  let v388 : Index := Scalar.indexCast c1_i32_158
  let c48_159 : Index := 48#32
  ![v387.toNat, 1, 48]
def k0_off58 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v392 : Index := Scalar.indexCast v66
  let c2_i32_160 : BitVec 32 := 2#32
  let v393 : Index := Scalar.indexCast c2_i32_160
  let c48_161 : Index := 48#32
  ![v392.toNat, 2, 48]
def k0_off59 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v397 : Index := Scalar.indexCast v66
  let c3_i32_162 : BitVec 32 := 3#32
  let v398 : Index := Scalar.indexCast c3_i32_162
  let c48_163 : Index := 48#32
  ![v397.toNat, 3, 48]
def k0_off60 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v402 : Index := Scalar.indexCast v66
  let c4_i32_164 : BitVec 32 := 4#32
  let v403 : Index := Scalar.indexCast c4_i32_164
  let c48_165 : Index := 48#32
  ![v402.toNat, 4, 48]
def k0_off61 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v407 : Index := Scalar.indexCast v66
  let c5_i32_166 : BitVec 32 := 5#32
  let v408 : Index := Scalar.indexCast c5_i32_166
  let c48_167 : Index := 48#32
  ![v407.toNat, 5, 48]
def k0_off62 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v412 : Index := Scalar.indexCast v66
  let c6_i32_168 : BitVec 32 := 6#32
  let v413 : Index := Scalar.indexCast c6_i32_168
  let c48_169 : Index := 48#32
  ![v412.toNat, 6, 48]
def k0_off63 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v417 : Index := Scalar.indexCast v66
  let c7_i32_170 : BitVec 32 := 7#32
  let v418 : Index := Scalar.indexCast c7_i32_170
  let c48_171 : Index := 48#32
  ![v417.toNat, 7, 48]
def k0_off64 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v422 : Index := Scalar.indexCast v66
  let c8_i32_172 : BitVec 32 := 8#32
  let v423 : Index := Scalar.indexCast c8_i32_172
  let c48_173 : Index := 48#32
  ![v422.toNat, 8, 48]
def k0_off65 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v427 : Index := Scalar.indexCast v66
  let c9_i32_174 : BitVec 32 := 9#32
  let v428 : Index := Scalar.indexCast c9_i32_174
  let c48_175 : Index := 48#32
  ![v427.toNat, 9, 48]
def k0_off66 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v432 : Index := Scalar.indexCast v66
  let c10_i32_176 : BitVec 32 := 10#32
  let v433 : Index := Scalar.indexCast c10_i32_176
  let c48_177 : Index := 48#32
  ![v432.toNat, 10, 48]
def k0_off67 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v437 : Index := Scalar.indexCast v66
  let c11_i32_178 : BitVec 32 := 11#32
  let v438 : Index := Scalar.indexCast c11_i32_178
  let c48_179 : Index := 48#32
  ![v437.toNat, 11, 48]
def k0_off68 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v442 : Index := Scalar.indexCast v66
  let c12_i32_180 : BitVec 32 := 12#32
  let v443 : Index := Scalar.indexCast c12_i32_180
  let c48_181 : Index := 48#32
  ![v442.toNat, 12, 48]
def k0_off69 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v447 : Index := Scalar.indexCast v66
  let c13_i32_182 : BitVec 32 := 13#32
  let v448 : Index := Scalar.indexCast c13_i32_182
  let c48_183 : Index := 48#32
  ![v447.toNat, 13, 48]
def k0_off70 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v452 : Index := Scalar.indexCast v66
  let c14_i32_184 : BitVec 32 := 14#32
  let v453 : Index := Scalar.indexCast c14_i32_184
  let c48_185 : Index := 48#32
  ![v452.toNat, 14, 48]
def k0_off71 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v457 : Index := Scalar.indexCast v66
  let c15_i32_186 : BitVec 32 := 15#32
  let v458 : Index := Scalar.indexCast c15_i32_186
  let c48_187 : Index := 48#32
  ![v457.toNat, 15, 48]
@[reducible] def k0_t6_loop : Scf.Loop 32 :=
  let c0_i32_188 : BitVec 32 := 0#32
  let c16_i32_189 : BitVec 32 := 16#32
  let v462 : BitVec 32 := Scalar.addi c0_i32_188 c16_i32_189
  let c1_i32_190 : BitVec 32 := 1#32
  ⟨c0_i32_188, v462, c1_i32_190⟩
def k0_off72 (k0_t6 : Fin k0_t6_loop.trips) (c0_i32_652 : BitVec 32) : Fin 2 → Nat :=
  let c0_i32_188 : BitVec 32 := 0#32
  let c1_i32_190 : BitVec 32 := 1#32
  let arg10 : BitVec 32 := Scf.iv c0_i32_188 c1_i32_190 k0_t6
  let c16_i32_651 : BitVec 32 := 16#32
  let v1515 : BitVec 32 := Scalar.muli arg10 c16_i32_651
  let v1516 : BitVec 32 := Scalar.addi v1515 c0_i32_652
  let v1517 : Index := Scalar.indexCast v1516
  let c64_653 : Index := 64#32
  ![v1517.toNat, 64]
def k0_off73 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v464 : Index := Scalar.indexCast v66
  let c0_i32_192 : BitVec 32 := 0#32
  let v465 : Index := Scalar.indexCast c0_i32_192
  let c64 : Index := 64#32
  ![v464.toNat, 0, 64]
def k0_off74 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v469 : Index := Scalar.indexCast v66
  let c1_i32_193 : BitVec 32 := 1#32
  let v470 : Index := Scalar.indexCast c1_i32_193
  let c64_194 : Index := 64#32
  ![v469.toNat, 1, 64]
def k0_off75 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v474 : Index := Scalar.indexCast v66
  let c2_i32_195 : BitVec 32 := 2#32
  let v475 : Index := Scalar.indexCast c2_i32_195
  let c64_196 : Index := 64#32
  ![v474.toNat, 2, 64]
def k0_off76 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v479 : Index := Scalar.indexCast v66
  let c3_i32_197 : BitVec 32 := 3#32
  let v480 : Index := Scalar.indexCast c3_i32_197
  let c64_198 : Index := 64#32
  ![v479.toNat, 3, 64]
def k0_off77 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v484 : Index := Scalar.indexCast v66
  let c4_i32_199 : BitVec 32 := 4#32
  let v485 : Index := Scalar.indexCast c4_i32_199
  let c64_200 : Index := 64#32
  ![v484.toNat, 4, 64]
def k0_off78 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v489 : Index := Scalar.indexCast v66
  let c5_i32_201 : BitVec 32 := 5#32
  let v490 : Index := Scalar.indexCast c5_i32_201
  let c64_202 : Index := 64#32
  ![v489.toNat, 5, 64]
def k0_off79 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v494 : Index := Scalar.indexCast v66
  let c6_i32_203 : BitVec 32 := 6#32
  let v495 : Index := Scalar.indexCast c6_i32_203
  let c64_204 : Index := 64#32
  ![v494.toNat, 6, 64]
def k0_off80 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v499 : Index := Scalar.indexCast v66
  let c7_i32_205 : BitVec 32 := 7#32
  let v500 : Index := Scalar.indexCast c7_i32_205
  let c64_206 : Index := 64#32
  ![v499.toNat, 7, 64]
def k0_off81 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v504 : Index := Scalar.indexCast v66
  let c8_i32_207 : BitVec 32 := 8#32
  let v505 : Index := Scalar.indexCast c8_i32_207
  let c64_208 : Index := 64#32
  ![v504.toNat, 8, 64]
def k0_off82 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v509 : Index := Scalar.indexCast v66
  let c9_i32_209 : BitVec 32 := 9#32
  let v510 : Index := Scalar.indexCast c9_i32_209
  let c64_210 : Index := 64#32
  ![v509.toNat, 9, 64]
def k0_off83 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v514 : Index := Scalar.indexCast v66
  let c10_i32_211 : BitVec 32 := 10#32
  let v515 : Index := Scalar.indexCast c10_i32_211
  let c64_212 : Index := 64#32
  ![v514.toNat, 10, 64]
def k0_off84 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v519 : Index := Scalar.indexCast v66
  let c11_i32_213 : BitVec 32 := 11#32
  let v520 : Index := Scalar.indexCast c11_i32_213
  let c64_214 : Index := 64#32
  ![v519.toNat, 11, 64]
def k0_off85 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v524 : Index := Scalar.indexCast v66
  let c12_i32_215 : BitVec 32 := 12#32
  let v525 : Index := Scalar.indexCast c12_i32_215
  let c64_216 : Index := 64#32
  ![v524.toNat, 12, 64]
def k0_off86 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v529 : Index := Scalar.indexCast v66
  let c13_i32_217 : BitVec 32 := 13#32
  let v530 : Index := Scalar.indexCast c13_i32_217
  let c64_218 : Index := 64#32
  ![v529.toNat, 13, 64]
def k0_off87 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v534 : Index := Scalar.indexCast v66
  let c14_i32_219 : BitVec 32 := 14#32
  let v535 : Index := Scalar.indexCast c14_i32_219
  let c64_220 : Index := 64#32
  ![v534.toNat, 14, 64]
def k0_off88 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v539 : Index := Scalar.indexCast v66
  let c15_i32_221 : BitVec 32 := 15#32
  let v540 : Index := Scalar.indexCast c15_i32_221
  let c64_222 : Index := 64#32
  ![v539.toNat, 15, 64]
@[reducible] def k0_t7_loop : Scf.Loop 32 :=
  let c0_i32_223 : BitVec 32 := 0#32
  let c16_i32_224 : BitVec 32 := 16#32
  let v544 : BitVec 32 := Scalar.addi c0_i32_223 c16_i32_224
  let c1_i32_225 : BitVec 32 := 1#32
  ⟨c0_i32_223, v544, c1_i32_225⟩
def k0_off89 (k0_t7 : Fin k0_t7_loop.trips) (c0_i32_652 : BitVec 32) : Fin 2 → Nat :=
  let c0_i32_223 : BitVec 32 := 0#32
  let c1_i32_225 : BitVec 32 := 1#32
  let arg10 : BitVec 32 := Scf.iv c0_i32_223 c1_i32_225 k0_t7
  let c16_i32_651 : BitVec 32 := 16#32
  let v1515 : BitVec 32 := Scalar.muli arg10 c16_i32_651
  let v1516 : BitVec 32 := Scalar.addi v1515 c0_i32_652
  let v1517 : Index := Scalar.indexCast v1516
  let c80_653 : Index := 80#32
  ![v1517.toNat, 80]
def k0_off90 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v546 : Index := Scalar.indexCast v66
  let c0_i32_227 : BitVec 32 := 0#32
  let v547 : Index := Scalar.indexCast c0_i32_227
  let c80 : Index := 80#32
  ![v546.toNat, 0, 80]
def k0_off91 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v551 : Index := Scalar.indexCast v66
  let c1_i32_228 : BitVec 32 := 1#32
  let v552 : Index := Scalar.indexCast c1_i32_228
  let c80_229 : Index := 80#32
  ![v551.toNat, 1, 80]
def k0_off92 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v556 : Index := Scalar.indexCast v66
  let c2_i32_230 : BitVec 32 := 2#32
  let v557 : Index := Scalar.indexCast c2_i32_230
  let c80_231 : Index := 80#32
  ![v556.toNat, 2, 80]
def k0_off93 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v561 : Index := Scalar.indexCast v66
  let c3_i32_232 : BitVec 32 := 3#32
  let v562 : Index := Scalar.indexCast c3_i32_232
  let c80_233 : Index := 80#32
  ![v561.toNat, 3, 80]
def k0_off94 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v566 : Index := Scalar.indexCast v66
  let c4_i32_234 : BitVec 32 := 4#32
  let v567 : Index := Scalar.indexCast c4_i32_234
  let c80_235 : Index := 80#32
  ![v566.toNat, 4, 80]
def k0_off95 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v571 : Index := Scalar.indexCast v66
  let c5_i32_236 : BitVec 32 := 5#32
  let v572 : Index := Scalar.indexCast c5_i32_236
  let c80_237 : Index := 80#32
  ![v571.toNat, 5, 80]
def k0_off96 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v576 : Index := Scalar.indexCast v66
  let c6_i32_238 : BitVec 32 := 6#32
  let v577 : Index := Scalar.indexCast c6_i32_238
  let c80_239 : Index := 80#32
  ![v576.toNat, 6, 80]
def k0_off97 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v581 : Index := Scalar.indexCast v66
  let c7_i32_240 : BitVec 32 := 7#32
  let v582 : Index := Scalar.indexCast c7_i32_240
  let c80_241 : Index := 80#32
  ![v581.toNat, 7, 80]
def k0_off98 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v586 : Index := Scalar.indexCast v66
  let c8_i32_242 : BitVec 32 := 8#32
  let v587 : Index := Scalar.indexCast c8_i32_242
  let c80_243 : Index := 80#32
  ![v586.toNat, 8, 80]
def k0_off99 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v591 : Index := Scalar.indexCast v66
  let c9_i32_244 : BitVec 32 := 9#32
  let v592 : Index := Scalar.indexCast c9_i32_244
  let c80_245 : Index := 80#32
  ![v591.toNat, 9, 80]
def k0_off100 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v596 : Index := Scalar.indexCast v66
  let c10_i32_246 : BitVec 32 := 10#32
  let v597 : Index := Scalar.indexCast c10_i32_246
  let c80_247 : Index := 80#32
  ![v596.toNat, 10, 80]
def k0_off101 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v601 : Index := Scalar.indexCast v66
  let c11_i32_248 : BitVec 32 := 11#32
  let v602 : Index := Scalar.indexCast c11_i32_248
  let c80_249 : Index := 80#32
  ![v601.toNat, 11, 80]
def k0_off102 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v606 : Index := Scalar.indexCast v66
  let c12_i32_250 : BitVec 32 := 12#32
  let v607 : Index := Scalar.indexCast c12_i32_250
  let c80_251 : Index := 80#32
  ![v606.toNat, 12, 80]
def k0_off103 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v611 : Index := Scalar.indexCast v66
  let c13_i32_252 : BitVec 32 := 13#32
  let v612 : Index := Scalar.indexCast c13_i32_252
  let c80_253 : Index := 80#32
  ![v611.toNat, 13, 80]
def k0_off104 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v616 : Index := Scalar.indexCast v66
  let c14_i32_254 : BitVec 32 := 14#32
  let v617 : Index := Scalar.indexCast c14_i32_254
  let c80_255 : Index := 80#32
  ![v616.toNat, 14, 80]
def k0_off105 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v621 : Index := Scalar.indexCast v66
  let c15_i32_256 : BitVec 32 := 15#32
  let v622 : Index := Scalar.indexCast c15_i32_256
  let c80_257 : Index := 80#32
  ![v621.toNat, 15, 80]
@[reducible] def k0_t8_loop : Scf.Loop 32 :=
  let c0_i32_258 : BitVec 32 := 0#32
  let c16_i32_259 : BitVec 32 := 16#32
  let v626 : BitVec 32 := Scalar.addi c0_i32_258 c16_i32_259
  let c1_i32_260 : BitVec 32 := 1#32
  ⟨c0_i32_258, v626, c1_i32_260⟩
def k0_off106 (k0_t8 : Fin k0_t8_loop.trips) (c0_i32_652 : BitVec 32) : Fin 2 → Nat :=
  let c0_i32_258 : BitVec 32 := 0#32
  let c1_i32_260 : BitVec 32 := 1#32
  let arg10 : BitVec 32 := Scf.iv c0_i32_258 c1_i32_260 k0_t8
  let c16_i32_651 : BitVec 32 := 16#32
  let v1515 : BitVec 32 := Scalar.muli arg10 c16_i32_651
  let v1516 : BitVec 32 := Scalar.addi v1515 c0_i32_652
  let v1517 : Index := Scalar.indexCast v1516
  let c96_653 : Index := 96#32
  ![v1517.toNat, 96]
def k0_off107 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v628 : Index := Scalar.indexCast v66
  let c0_i32_262 : BitVec 32 := 0#32
  let v629 : Index := Scalar.indexCast c0_i32_262
  let c96 : Index := 96#32
  ![v628.toNat, 0, 96]
def k0_off108 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v633 : Index := Scalar.indexCast v66
  let c1_i32_263 : BitVec 32 := 1#32
  let v634 : Index := Scalar.indexCast c1_i32_263
  let c96_264 : Index := 96#32
  ![v633.toNat, 1, 96]
def k0_off109 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v638 : Index := Scalar.indexCast v66
  let c2_i32_265 : BitVec 32 := 2#32
  let v639 : Index := Scalar.indexCast c2_i32_265
  let c96_266 : Index := 96#32
  ![v638.toNat, 2, 96]
def k0_off110 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v643 : Index := Scalar.indexCast v66
  let c3_i32_267 : BitVec 32 := 3#32
  let v644 : Index := Scalar.indexCast c3_i32_267
  let c96_268 : Index := 96#32
  ![v643.toNat, 3, 96]
def k0_off111 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v648 : Index := Scalar.indexCast v66
  let c4_i32_269 : BitVec 32 := 4#32
  let v649 : Index := Scalar.indexCast c4_i32_269
  let c96_270 : Index := 96#32
  ![v648.toNat, 4, 96]
def k0_off112 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v653 : Index := Scalar.indexCast v66
  let c5_i32_271 : BitVec 32 := 5#32
  let v654 : Index := Scalar.indexCast c5_i32_271
  let c96_272 : Index := 96#32
  ![v653.toNat, 5, 96]
def k0_off113 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v658 : Index := Scalar.indexCast v66
  let c6_i32_273 : BitVec 32 := 6#32
  let v659 : Index := Scalar.indexCast c6_i32_273
  let c96_274 : Index := 96#32
  ![v658.toNat, 6, 96]
def k0_off114 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v663 : Index := Scalar.indexCast v66
  let c7_i32_275 : BitVec 32 := 7#32
  let v664 : Index := Scalar.indexCast c7_i32_275
  let c96_276 : Index := 96#32
  ![v663.toNat, 7, 96]
def k0_off115 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v668 : Index := Scalar.indexCast v66
  let c8_i32_277 : BitVec 32 := 8#32
  let v669 : Index := Scalar.indexCast c8_i32_277
  let c96_278 : Index := 96#32
  ![v668.toNat, 8, 96]
def k0_off116 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v673 : Index := Scalar.indexCast v66
  let c9_i32_279 : BitVec 32 := 9#32
  let v674 : Index := Scalar.indexCast c9_i32_279
  let c96_280 : Index := 96#32
  ![v673.toNat, 9, 96]
def k0_off117 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v678 : Index := Scalar.indexCast v66
  let c10_i32_281 : BitVec 32 := 10#32
  let v679 : Index := Scalar.indexCast c10_i32_281
  let c96_282 : Index := 96#32
  ![v678.toNat, 10, 96]
def k0_off118 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v683 : Index := Scalar.indexCast v66
  let c11_i32_283 : BitVec 32 := 11#32
  let v684 : Index := Scalar.indexCast c11_i32_283
  let c96_284 : Index := 96#32
  ![v683.toNat, 11, 96]
def k0_off119 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v688 : Index := Scalar.indexCast v66
  let c12_i32_285 : BitVec 32 := 12#32
  let v689 : Index := Scalar.indexCast c12_i32_285
  let c96_286 : Index := 96#32
  ![v688.toNat, 12, 96]
def k0_off120 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v693 : Index := Scalar.indexCast v66
  let c13_i32_287 : BitVec 32 := 13#32
  let v694 : Index := Scalar.indexCast c13_i32_287
  let c96_288 : Index := 96#32
  ![v693.toNat, 13, 96]
def k0_off121 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v698 : Index := Scalar.indexCast v66
  let c14_i32_289 : BitVec 32 := 14#32
  let v699 : Index := Scalar.indexCast c14_i32_289
  let c96_290 : Index := 96#32
  ![v698.toNat, 14, 96]
def k0_off122 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v703 : Index := Scalar.indexCast v66
  let c15_i32_291 : BitVec 32 := 15#32
  let v704 : Index := Scalar.indexCast c15_i32_291
  let c96_292 : Index := 96#32
  ![v703.toNat, 15, 96]
@[reducible] def k0_t9_loop : Scf.Loop 32 :=
  let c0_i32_293 : BitVec 32 := 0#32
  let c16_i32_294 : BitVec 32 := 16#32
  let v708 : BitVec 32 := Scalar.addi c0_i32_293 c16_i32_294
  let c1_i32_295 : BitVec 32 := 1#32
  ⟨c0_i32_293, v708, c1_i32_295⟩
def k0_off123 (k0_t9 : Fin k0_t9_loop.trips) (c0_i32_652 : BitVec 32) : Fin 2 → Nat :=
  let c0_i32_293 : BitVec 32 := 0#32
  let c1_i32_295 : BitVec 32 := 1#32
  let arg10 : BitVec 32 := Scf.iv c0_i32_293 c1_i32_295 k0_t9
  let c16_i32_651 : BitVec 32 := 16#32
  let v1515 : BitVec 32 := Scalar.muli arg10 c16_i32_651
  let v1516 : BitVec 32 := Scalar.addi v1515 c0_i32_652
  let v1517 : Index := Scalar.indexCast v1516
  let c112_653 : Index := 112#32
  ![v1517.toNat, 112]
def k0_off124 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v710 : Index := Scalar.indexCast v66
  let c0_i32_297 : BitVec 32 := 0#32
  let v711 : Index := Scalar.indexCast c0_i32_297
  let c112 : Index := 112#32
  ![v710.toNat, 0, 112]
def k0_off125 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v715 : Index := Scalar.indexCast v66
  let c1_i32_298 : BitVec 32 := 1#32
  let v716 : Index := Scalar.indexCast c1_i32_298
  let c112_299 : Index := 112#32
  ![v715.toNat, 1, 112]
def k0_off126 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v720 : Index := Scalar.indexCast v66
  let c2_i32_300 : BitVec 32 := 2#32
  let v721 : Index := Scalar.indexCast c2_i32_300
  let c112_301 : Index := 112#32
  ![v720.toNat, 2, 112]
def k0_off127 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v725 : Index := Scalar.indexCast v66
  let c3_i32_302 : BitVec 32 := 3#32
  let v726 : Index := Scalar.indexCast c3_i32_302
  let c112_303 : Index := 112#32
  ![v725.toNat, 3, 112]
def k0_off128 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v730 : Index := Scalar.indexCast v66
  let c4_i32_304 : BitVec 32 := 4#32
  let v731 : Index := Scalar.indexCast c4_i32_304
  let c112_305 : Index := 112#32
  ![v730.toNat, 4, 112]
def k0_off129 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v735 : Index := Scalar.indexCast v66
  let c5_i32_306 : BitVec 32 := 5#32
  let v736 : Index := Scalar.indexCast c5_i32_306
  let c112_307 : Index := 112#32
  ![v735.toNat, 5, 112]
def k0_off130 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v740 : Index := Scalar.indexCast v66
  let c6_i32_308 : BitVec 32 := 6#32
  let v741 : Index := Scalar.indexCast c6_i32_308
  let c112_309 : Index := 112#32
  ![v740.toNat, 6, 112]
def k0_off131 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v745 : Index := Scalar.indexCast v66
  let c7_i32_310 : BitVec 32 := 7#32
  let v746 : Index := Scalar.indexCast c7_i32_310
  let c112_311 : Index := 112#32
  ![v745.toNat, 7, 112]
def k0_off132 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v750 : Index := Scalar.indexCast v66
  let c8_i32_312 : BitVec 32 := 8#32
  let v751 : Index := Scalar.indexCast c8_i32_312
  let c112_313 : Index := 112#32
  ![v750.toNat, 8, 112]
def k0_off133 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v755 : Index := Scalar.indexCast v66
  let c9_i32_314 : BitVec 32 := 9#32
  let v756 : Index := Scalar.indexCast c9_i32_314
  let c112_315 : Index := 112#32
  ![v755.toNat, 9, 112]
def k0_off134 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v760 : Index := Scalar.indexCast v66
  let c10_i32_316 : BitVec 32 := 10#32
  let v761 : Index := Scalar.indexCast c10_i32_316
  let c112_317 : Index := 112#32
  ![v760.toNat, 10, 112]
def k0_off135 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v765 : Index := Scalar.indexCast v66
  let c11_i32_318 : BitVec 32 := 11#32
  let v766 : Index := Scalar.indexCast c11_i32_318
  let c112_319 : Index := 112#32
  ![v765.toNat, 11, 112]
def k0_off136 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v770 : Index := Scalar.indexCast v66
  let c12_i32_320 : BitVec 32 := 12#32
  let v771 : Index := Scalar.indexCast c12_i32_320
  let c112_321 : Index := 112#32
  ![v770.toNat, 12, 112]
def k0_off137 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v775 : Index := Scalar.indexCast v66
  let c13_i32_322 : BitVec 32 := 13#32
  let v776 : Index := Scalar.indexCast c13_i32_322
  let c112_323 : Index := 112#32
  ![v775.toNat, 13, 112]
def k0_off138 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v780 : Index := Scalar.indexCast v66
  let c14_i32_324 : BitVec 32 := 14#32
  let v781 : Index := Scalar.indexCast c14_i32_324
  let c112_325 : Index := 112#32
  ![v780.toNat, 14, 112]
def k0_off139 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_27 : BitVec 32 := 2#32
  let v66 : BitVec 32 := Scalar.muli arg9 c2_i32_27
  let v785 : Index := Scalar.indexCast v66
  let c15_i32_326 : BitVec 32 := 15#32
  let v786 : Index := Scalar.indexCast c15_i32_326
  let c112_327 : Index := 112#32
  ![v785.toNat, 15, 112]
def k0_off140 (i : grid0.Coords) (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let c32_i32_330 : BitVec 32 := 32#32
  let v792 : BitVec 32 := Scalar.muli v791 c32_i32_330
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v793 : BitVec 32 := Scalar.addi v792 v1
  let c0_i32_338 : BitVec 32 := 0#32
  let v805 : BitVec 1 := Scalar.cmpi .sgt v793 c0_i32_338
  let v806 : BitVec 32 := Scalar.extui v805
  let c0_i32_339 : BitVec 32 := 0#32
  let v807 : BitVec 1 := Scalar.cmpi .slt v793 c0_i32_339
  let v808 : BitVec 32 := Scalar.extui v807
  let v809 : BitVec 32 := Scalar.subi v806 v808
  let c48_i32_337 : BitVec 32 := 48#32
  let c0_i32_340 : BitVec 32 := 0#32
  let v810 : BitVec 1 := Scalar.cmpi .sgt c48_i32_337 c0_i32_340
  let v811 : BitVec 32 := Scalar.extui v810
  let c0_i32_341 : BitVec 32 := 0#32
  let v812 : BitVec 1 := Scalar.cmpi .slt c48_i32_337 c0_i32_341
  let v813 : BitVec 32 := Scalar.extui v812
  let v814 : BitVec 32 := Scalar.subi v811 v813
  let v815 : BitVec 1 := Scalar.cmpi .ne v809 v814
  let v816 : BitVec 32 := Scalar.remsi v793 c48_i32_337
  let c0_i32_342 : BitVec 32 := 0#32
  let v817 : BitVec 1 := Scalar.cmpi .ne v816 c0_i32_342
  let v818 : BitVec 1 := Scalar.andi v815 v817
  let v804 : BitVec 32 := Scalar.divsi v793 c48_i32_337
  let c1_i32_343 : BitVec 32 := 1#32
  let v819 : BitVec 32 := Scalar.subi v804 c1_i32_343
  let v820 : BitVec 32 := Scalar.select v818 v819 v804
  let c2560_i32_358 : BitVec 32 := 2560#32
  let c48_i32_331 : BitVec 32 := 48#32
  let c0_i32_332 : BitVec 32 := 0#32
  let v794 : BitVec 1 := Scalar.cmpi .eq c48_i32_331 c0_i32_332
  let c1_i32_333 : BitVec 32 := 1#32
  let v795 : BitVec 32 := Scalar.select v794 c1_i32_333 c48_i32_331
  let v796 : BitVec 32 := Scalar.remsi v793 v795
  let c0_i32_335 : BitVec 32 := 0#32
  let v798 : BitVec 1 := Scalar.cmpi .slt v796 c0_i32_335
  let c0_i32_336 : BitVec 32 := 0#32
  let v799 : BitVec 1 := Scalar.cmpi .slt v795 c0_i32_336
  let v800 : BitVec 1 := Scalar.xori v798 v799
  let c0_i32_334 : BitVec 32 := 0#32
  let v797 : BitVec 1 := Scalar.cmpi .ne v796 c0_i32_334
  let v801 : BitVec 1 := Scalar.andi v800 v797
  let v802 : BitVec 32 := Scalar.addi v796 v795
  let v803 : BitVec 32 := Scalar.select v801 v802 v796
  let c8_i32_351 : BitVec 32 := 8#32
  let c0_i32_352 : BitVec 32 := 0#32
  let v838 : BitVec 1 := Scalar.cmpi .eq c8_i32_351 c0_i32_352
  let c1_i32_353 : BitVec 32 := 1#32
  let v839 : BitVec 32 := Scalar.select v838 c1_i32_353 c8_i32_351
  let v840 : BitVec 32 := Scalar.remsi v803 v839
  let c0_i32_355 : BitVec 32 := 0#32
  let v842 : BitVec 1 := Scalar.cmpi .slt v840 c0_i32_355
  let c0_i32_356 : BitVec 32 := 0#32
  let v843 : BitVec 1 := Scalar.cmpi .slt v839 c0_i32_356
  let v844 : BitVec 1 := Scalar.xori v842 v843
  let c0_i32_354 : BitVec 32 := 0#32
  let v841 : BitVec 1 := Scalar.cmpi .ne v840 c0_i32_354
  let v845 : BitVec 1 := Scalar.andi v844 v841
  let v846 : BitVec 32 := Scalar.addi v840 v839
  let v847 : BitVec 32 := Scalar.select v845 v846 v840
  let c256_i32_357 : BitVec 32 := 256#32
  let v848 : BitVec 32 := Scalar.muli v847 c256_i32_357
  let v849 : BitVec 32 := Scalar.addi c2560_i32_358 v848
  let c0_i32_345 : BitVec 32 := 0#32
  let v822 : BitVec 1 := Scalar.cmpi .sgt v803 c0_i32_345
  let v823 : BitVec 32 := Scalar.extui v822
  let c0_i32_346 : BitVec 32 := 0#32
  let v824 : BitVec 1 := Scalar.cmpi .slt v803 c0_i32_346
  let v825 : BitVec 32 := Scalar.extui v824
  let v826 : BitVec 32 := Scalar.subi v823 v825
  let c8_i32_344 : BitVec 32 := 8#32
  let c0_i32_347 : BitVec 32 := 0#32
  let v827 : BitVec 1 := Scalar.cmpi .sgt c8_i32_344 c0_i32_347
  let v828 : BitVec 32 := Scalar.extui v827
  let c0_i32_348 : BitVec 32 := 0#32
  let v829 : BitVec 1 := Scalar.cmpi .slt c8_i32_344 c0_i32_348
  let v830 : BitVec 32 := Scalar.extui v829
  let v831 : BitVec 32 := Scalar.subi v828 v830
  let v832 : BitVec 1 := Scalar.cmpi .ne v826 v831
  let v833 : BitVec 32 := Scalar.remsi v803 c8_i32_344
  let c0_i32_349 : BitVec 32 := 0#32
  let v834 : BitVec 1 := Scalar.cmpi .ne v833 c0_i32_349
  let v835 : BitVec 1 := Scalar.andi v832 v834
  let v821 : BitVec 32 := Scalar.divsi v803 c8_i32_344
  let c1_i32_350 : BitVec 32 := 1#32
  let v836 : BitVec 32 := Scalar.subi v821 c1_i32_350
  let v837 : BitVec 32 := Scalar.select v835 v836 v821
  let c128_i32_359 : BitVec 32 := 128#32
  let v850 : BitVec 32 := Scalar.muli v837 c128_i32_359
  ![v820.toNat, v849.toNat, v850.toNat]
def k0_cond2 (k0_t1 : Fin k0_t1_loop.trips) : BitVec 1 :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let c1_i32_360 : BitVec 32 := 1#32
  let v855 : BitVec 32 := Scalar.addi v791 c1_i32_360
  let c12_i32_361 : BitVec 32 := 12#32
  let v856 : BitVec 1 := Scalar.cmpi .slt v855 c12_i32_361
  let v857 : BitVec 32 := Scalar.extui v856
  let c0_i32_362 : BitVec 32 := 0#32
  let v858 : BitVec 1 := Scalar.cmpi .ne v857 c0_i32_362
  v858

def k0_off141 (i : grid0.Coords) (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let c1_i32_651 : BitVec 32 := 1#32
  let v1515 : BitVec 32 := Scalar.addi v791 c1_i32_651
  let c32_i32_652 : BitVec 32 := 32#32
  let v1516 : BitVec 32 := Scalar.muli v1515 c32_i32_652
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1517 : BitVec 32 := Scalar.addi v1516 v1
  let c0_i32_660 : BitVec 32 := 0#32
  let v1529 : BitVec 1 := Scalar.cmpi .sgt v1517 c0_i32_660
  let v1530 : BitVec 32 := Scalar.extui v1529
  let c0_i32_661 : BitVec 32 := 0#32
  let v1531 : BitVec 1 := Scalar.cmpi .slt v1517 c0_i32_661
  let v1532 : BitVec 32 := Scalar.extui v1531
  let v1533 : BitVec 32 := Scalar.subi v1530 v1532
  let c48_i32_659 : BitVec 32 := 48#32
  let c0_i32_662 : BitVec 32 := 0#32
  let v1534 : BitVec 1 := Scalar.cmpi .sgt c48_i32_659 c0_i32_662
  let v1535 : BitVec 32 := Scalar.extui v1534
  let c0_i32_663 : BitVec 32 := 0#32
  let v1536 : BitVec 1 := Scalar.cmpi .slt c48_i32_659 c0_i32_663
  let v1537 : BitVec 32 := Scalar.extui v1536
  let v1538 : BitVec 32 := Scalar.subi v1535 v1537
  let v1539 : BitVec 1 := Scalar.cmpi .ne v1533 v1538
  let v1540 : BitVec 32 := Scalar.remsi v1517 c48_i32_659
  let c0_i32_664 : BitVec 32 := 0#32
  let v1541 : BitVec 1 := Scalar.cmpi .ne v1540 c0_i32_664
  let v1542 : BitVec 1 := Scalar.andi v1539 v1541
  let v1528 : BitVec 32 := Scalar.divsi v1517 c48_i32_659
  let c1_i32_665 : BitVec 32 := 1#32
  let v1543 : BitVec 32 := Scalar.subi v1528 c1_i32_665
  let v1544 : BitVec 32 := Scalar.select v1542 v1543 v1528
  let c2560_i32_680 : BitVec 32 := 2560#32
  let c48_i32_653 : BitVec 32 := 48#32
  let c0_i32_654 : BitVec 32 := 0#32
  let v1518 : BitVec 1 := Scalar.cmpi .eq c48_i32_653 c0_i32_654
  let c1_i32_655 : BitVec 32 := 1#32
  let v1519 : BitVec 32 := Scalar.select v1518 c1_i32_655 c48_i32_653
  let v1520 : BitVec 32 := Scalar.remsi v1517 v1519
  let c0_i32_657 : BitVec 32 := 0#32
  let v1522 : BitVec 1 := Scalar.cmpi .slt v1520 c0_i32_657
  let c0_i32_658 : BitVec 32 := 0#32
  let v1523 : BitVec 1 := Scalar.cmpi .slt v1519 c0_i32_658
  let v1524 : BitVec 1 := Scalar.xori v1522 v1523
  let c0_i32_656 : BitVec 32 := 0#32
  let v1521 : BitVec 1 := Scalar.cmpi .ne v1520 c0_i32_656
  let v1525 : BitVec 1 := Scalar.andi v1524 v1521
  let v1526 : BitVec 32 := Scalar.addi v1520 v1519
  let v1527 : BitVec 32 := Scalar.select v1525 v1526 v1520
  let c8_i32_673 : BitVec 32 := 8#32
  let c0_i32_674 : BitVec 32 := 0#32
  let v1562 : BitVec 1 := Scalar.cmpi .eq c8_i32_673 c0_i32_674
  let c1_i32_675 : BitVec 32 := 1#32
  let v1563 : BitVec 32 := Scalar.select v1562 c1_i32_675 c8_i32_673
  let v1564 : BitVec 32 := Scalar.remsi v1527 v1563
  let c0_i32_677 : BitVec 32 := 0#32
  let v1566 : BitVec 1 := Scalar.cmpi .slt v1564 c0_i32_677
  let c0_i32_678 : BitVec 32 := 0#32
  let v1567 : BitVec 1 := Scalar.cmpi .slt v1563 c0_i32_678
  let v1568 : BitVec 1 := Scalar.xori v1566 v1567
  let c0_i32_676 : BitVec 32 := 0#32
  let v1565 : BitVec 1 := Scalar.cmpi .ne v1564 c0_i32_676
  let v1569 : BitVec 1 := Scalar.andi v1568 v1565
  let v1570 : BitVec 32 := Scalar.addi v1564 v1563
  let v1571 : BitVec 32 := Scalar.select v1569 v1570 v1564
  let c256_i32_679 : BitVec 32 := 256#32
  let v1572 : BitVec 32 := Scalar.muli v1571 c256_i32_679
  let v1573 : BitVec 32 := Scalar.addi c2560_i32_680 v1572
  let c0_i32_667 : BitVec 32 := 0#32
  let v1546 : BitVec 1 := Scalar.cmpi .sgt v1527 c0_i32_667
  let v1547 : BitVec 32 := Scalar.extui v1546
  let c0_i32_668 : BitVec 32 := 0#32
  let v1548 : BitVec 1 := Scalar.cmpi .slt v1527 c0_i32_668
  let v1549 : BitVec 32 := Scalar.extui v1548
  let v1550 : BitVec 32 := Scalar.subi v1547 v1549
  let c8_i32_666 : BitVec 32 := 8#32
  let c0_i32_669 : BitVec 32 := 0#32
  let v1551 : BitVec 1 := Scalar.cmpi .sgt c8_i32_666 c0_i32_669
  let v1552 : BitVec 32 := Scalar.extui v1551
  let c0_i32_670 : BitVec 32 := 0#32
  let v1553 : BitVec 1 := Scalar.cmpi .slt c8_i32_666 c0_i32_670
  let v1554 : BitVec 32 := Scalar.extui v1553
  let v1555 : BitVec 32 := Scalar.subi v1552 v1554
  let v1556 : BitVec 1 := Scalar.cmpi .ne v1550 v1555
  let v1557 : BitVec 32 := Scalar.remsi v1527 c8_i32_666
  let c0_i32_671 : BitVec 32 := 0#32
  let v1558 : BitVec 1 := Scalar.cmpi .ne v1557 c0_i32_671
  let v1559 : BitVec 1 := Scalar.andi v1556 v1558
  let v1545 : BitVec 32 := Scalar.divsi v1527 c8_i32_666
  let c1_i32_672 : BitVec 32 := 1#32
  let v1560 : BitVec 32 := Scalar.subi v1545 c1_i32_672
  let v1561 : BitVec 32 := Scalar.select v1559 v1560 v1545
  let c128_i32_681 : BitVec 32 := 128#32
  let v1574 : BitVec 32 := Scalar.muli v1561 c128_i32_681
  ![v1544.toNat, v1573.toNat, v1574.toNat]
@[reducible] def k0_t10_loop : Scf.Loop 32 :=
  let c0_i32_363 : BitVec 32 := 0#32
  let c16_i32_364 : BitVec 32 := 16#32
  let v859 : BitVec 32 := Scalar.addi c0_i32_363 c16_i32_364
  let c1_i32_365 : BitVec 32 := 1#32
  ⟨c0_i32_363, v859, c1_i32_365⟩
def k0_off142 (k0_t10 : Fin k0_t10_loop.trips) (c0_i32_652 : BitVec 32) : Fin 2 → Nat :=
  let c0_i32_363 : BitVec 32 := 0#32
  let c1_i32_365 : BitVec 32 := 1#32
  let arg10 : BitVec 32 := Scf.iv c0_i32_363 c1_i32_365 k0_t10
  let c16_i32_651 : BitVec 32 := 16#32
  let v1515 : BitVec 32 := Scalar.muli arg10 c16_i32_651
  let v1516 : BitVec 32 := Scalar.addi v1515 c0_i32_652
  let v1517 : Index := Scalar.indexCast v1516
  let c0_653 : Index := 0#32
  ![v1517.toNat, 0]
def k0_off143 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v861 : Index := Scalar.indexCast v791
  let c0_i32_367 : BitVec 32 := 0#32
  let v862 : Index := Scalar.indexCast c0_i32_367
  let c0_368 : Index := 0#32
  ![v861.toNat, 0, 0]
def k0_off144 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v866 : Index := Scalar.indexCast v791
  let c1_i32_369 : BitVec 32 := 1#32
  let v867 : Index := Scalar.indexCast c1_i32_369
  let c0_370 : Index := 0#32
  ![v866.toNat, 1, 0]
def k0_off145 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v871 : Index := Scalar.indexCast v791
  let c2_i32_371 : BitVec 32 := 2#32
  let v872 : Index := Scalar.indexCast c2_i32_371
  let c0_372 : Index := 0#32
  ![v871.toNat, 2, 0]
def k0_off146 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v876 : Index := Scalar.indexCast v791
  let c3_i32_373 : BitVec 32 := 3#32
  let v877 : Index := Scalar.indexCast c3_i32_373
  let c0_374 : Index := 0#32
  ![v876.toNat, 3, 0]
def k0_off147 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v881 : Index := Scalar.indexCast v791
  let c4_i32_375 : BitVec 32 := 4#32
  let v882 : Index := Scalar.indexCast c4_i32_375
  let c0_376 : Index := 0#32
  ![v881.toNat, 4, 0]
def k0_off148 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v886 : Index := Scalar.indexCast v791
  let c5_i32_377 : BitVec 32 := 5#32
  let v887 : Index := Scalar.indexCast c5_i32_377
  let c0_378 : Index := 0#32
  ![v886.toNat, 5, 0]
def k0_off149 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v891 : Index := Scalar.indexCast v791
  let c6_i32_379 : BitVec 32 := 6#32
  let v892 : Index := Scalar.indexCast c6_i32_379
  let c0_380 : Index := 0#32
  ![v891.toNat, 6, 0]
def k0_off150 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v896 : Index := Scalar.indexCast v791
  let c7_i32_381 : BitVec 32 := 7#32
  let v897 : Index := Scalar.indexCast c7_i32_381
  let c0_382 : Index := 0#32
  ![v896.toNat, 7, 0]
def k0_off151 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v901 : Index := Scalar.indexCast v791
  let c8_i32_383 : BitVec 32 := 8#32
  let v902 : Index := Scalar.indexCast c8_i32_383
  let c0_384 : Index := 0#32
  ![v901.toNat, 8, 0]
def k0_off152 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v906 : Index := Scalar.indexCast v791
  let c9_i32_385 : BitVec 32 := 9#32
  let v907 : Index := Scalar.indexCast c9_i32_385
  let c0_386 : Index := 0#32
  ![v906.toNat, 9, 0]
def k0_off153 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v911 : Index := Scalar.indexCast v791
  let c10_i32_387 : BitVec 32 := 10#32
  let v912 : Index := Scalar.indexCast c10_i32_387
  let c0_388 : Index := 0#32
  ![v911.toNat, 10, 0]
def k0_off154 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v916 : Index := Scalar.indexCast v791
  let c11_i32_389 : BitVec 32 := 11#32
  let v917 : Index := Scalar.indexCast c11_i32_389
  let c0_390 : Index := 0#32
  ![v916.toNat, 11, 0]
def k0_off155 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v921 : Index := Scalar.indexCast v791
  let c12_i32_391 : BitVec 32 := 12#32
  let v922 : Index := Scalar.indexCast c12_i32_391
  let c0_392 : Index := 0#32
  ![v921.toNat, 12, 0]
def k0_off156 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v926 : Index := Scalar.indexCast v791
  let c13_i32_393 : BitVec 32 := 13#32
  let v927 : Index := Scalar.indexCast c13_i32_393
  let c0_394 : Index := 0#32
  ![v926.toNat, 13, 0]
def k0_off157 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v931 : Index := Scalar.indexCast v791
  let c14_i32_395 : BitVec 32 := 14#32
  let v932 : Index := Scalar.indexCast c14_i32_395
  let c0_396 : Index := 0#32
  ![v931.toNat, 14, 0]
def k0_off158 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v936 : Index := Scalar.indexCast v791
  let c15_i32_397 : BitVec 32 := 15#32
  let v937 : Index := Scalar.indexCast c15_i32_397
  let c0_398 : Index := 0#32
  ![v936.toNat, 15, 0]
@[reducible] def k0_t11_loop : Scf.Loop 32 :=
  let c0_i32_399 : BitVec 32 := 0#32
  let c16_i32_400 : BitVec 32 := 16#32
  let v941 : BitVec 32 := Scalar.addi c0_i32_399 c16_i32_400
  let c1_i32_401 : BitVec 32 := 1#32
  ⟨c0_i32_399, v941, c1_i32_401⟩
def k0_off159 (k0_t11 : Fin k0_t11_loop.trips) (c0_i32_652 : BitVec 32) : Fin 2 → Nat :=
  let c0_i32_399 : BitVec 32 := 0#32
  let c1_i32_401 : BitVec 32 := 1#32
  let arg10 : BitVec 32 := Scf.iv c0_i32_399 c1_i32_401 k0_t11
  let c16_i32_651 : BitVec 32 := 16#32
  let v1515 : BitVec 32 := Scalar.muli arg10 c16_i32_651
  let v1516 : BitVec 32 := Scalar.addi v1515 c0_i32_652
  let v1517 : Index := Scalar.indexCast v1516
  let c16_653 : Index := 16#32
  ![v1517.toNat, 16]
def k0_off160 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v943 : Index := Scalar.indexCast v791
  let c0_i32_403 : BitVec 32 := 0#32
  let v944 : Index := Scalar.indexCast c0_i32_403
  let c16_404 : Index := 16#32
  ![v943.toNat, 0, 16]
def k0_off161 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v948 : Index := Scalar.indexCast v791
  let c1_i32_405 : BitVec 32 := 1#32
  let v949 : Index := Scalar.indexCast c1_i32_405
  let c16_406 : Index := 16#32
  ![v948.toNat, 1, 16]
def k0_off162 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v953 : Index := Scalar.indexCast v791
  let c2_i32_407 : BitVec 32 := 2#32
  let v954 : Index := Scalar.indexCast c2_i32_407
  let c16_408 : Index := 16#32
  ![v953.toNat, 2, 16]
def k0_off163 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v958 : Index := Scalar.indexCast v791
  let c3_i32_409 : BitVec 32 := 3#32
  let v959 : Index := Scalar.indexCast c3_i32_409
  let c16_410 : Index := 16#32
  ![v958.toNat, 3, 16]
def k0_off164 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v963 : Index := Scalar.indexCast v791
  let c4_i32_411 : BitVec 32 := 4#32
  let v964 : Index := Scalar.indexCast c4_i32_411
  let c16_412 : Index := 16#32
  ![v963.toNat, 4, 16]
def k0_off165 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v968 : Index := Scalar.indexCast v791
  let c5_i32_413 : BitVec 32 := 5#32
  let v969 : Index := Scalar.indexCast c5_i32_413
  let c16_414 : Index := 16#32
  ![v968.toNat, 5, 16]
def k0_off166 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v973 : Index := Scalar.indexCast v791
  let c6_i32_415 : BitVec 32 := 6#32
  let v974 : Index := Scalar.indexCast c6_i32_415
  let c16_416 : Index := 16#32
  ![v973.toNat, 6, 16]
def k0_off167 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v978 : Index := Scalar.indexCast v791
  let c7_i32_417 : BitVec 32 := 7#32
  let v979 : Index := Scalar.indexCast c7_i32_417
  let c16_418 : Index := 16#32
  ![v978.toNat, 7, 16]
def k0_off168 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v983 : Index := Scalar.indexCast v791
  let c8_i32_419 : BitVec 32 := 8#32
  let v984 : Index := Scalar.indexCast c8_i32_419
  let c16_420 : Index := 16#32
  ![v983.toNat, 8, 16]
def k0_off169 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v988 : Index := Scalar.indexCast v791
  let c9_i32_421 : BitVec 32 := 9#32
  let v989 : Index := Scalar.indexCast c9_i32_421
  let c16_422 : Index := 16#32
  ![v988.toNat, 9, 16]
def k0_off170 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v993 : Index := Scalar.indexCast v791
  let c10_i32_423 : BitVec 32 := 10#32
  let v994 : Index := Scalar.indexCast c10_i32_423
  let c16_424 : Index := 16#32
  ![v993.toNat, 10, 16]
def k0_off171 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v998 : Index := Scalar.indexCast v791
  let c11_i32_425 : BitVec 32 := 11#32
  let v999 : Index := Scalar.indexCast c11_i32_425
  let c16_426 : Index := 16#32
  ![v998.toNat, 11, 16]
def k0_off172 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1003 : Index := Scalar.indexCast v791
  let c12_i32_427 : BitVec 32 := 12#32
  let v1004 : Index := Scalar.indexCast c12_i32_427
  let c16_428 : Index := 16#32
  ![v1003.toNat, 12, 16]
def k0_off173 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1008 : Index := Scalar.indexCast v791
  let c13_i32_429 : BitVec 32 := 13#32
  let v1009 : Index := Scalar.indexCast c13_i32_429
  let c16_430 : Index := 16#32
  ![v1008.toNat, 13, 16]
def k0_off174 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1013 : Index := Scalar.indexCast v791
  let c14_i32_431 : BitVec 32 := 14#32
  let v1014 : Index := Scalar.indexCast c14_i32_431
  let c16_432 : Index := 16#32
  ![v1013.toNat, 14, 16]
def k0_off175 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1018 : Index := Scalar.indexCast v791
  let c15_i32_433 : BitVec 32 := 15#32
  let v1019 : Index := Scalar.indexCast c15_i32_433
  let c16_434 : Index := 16#32
  ![v1018.toNat, 15, 16]
@[reducible] def k0_t12_loop : Scf.Loop 32 :=
  let c0_i32_435 : BitVec 32 := 0#32
  let c16_i32_436 : BitVec 32 := 16#32
  let v1023 : BitVec 32 := Scalar.addi c0_i32_435 c16_i32_436
  let c1_i32_437 : BitVec 32 := 1#32
  ⟨c0_i32_435, v1023, c1_i32_437⟩
def k0_off176 (k0_t12 : Fin k0_t12_loop.trips) (c0_i32_652 : BitVec 32) : Fin 2 → Nat :=
  let c0_i32_435 : BitVec 32 := 0#32
  let c1_i32_437 : BitVec 32 := 1#32
  let arg10 : BitVec 32 := Scf.iv c0_i32_435 c1_i32_437 k0_t12
  let c16_i32_651 : BitVec 32 := 16#32
  let v1515 : BitVec 32 := Scalar.muli arg10 c16_i32_651
  let v1516 : BitVec 32 := Scalar.addi v1515 c0_i32_652
  let v1517 : Index := Scalar.indexCast v1516
  let c32_653 : Index := 32#32
  ![v1517.toNat, 32]
def k0_off177 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1025 : Index := Scalar.indexCast v791
  let c0_i32_439 : BitVec 32 := 0#32
  let v1026 : Index := Scalar.indexCast c0_i32_439
  let c32_440 : Index := 32#32
  ![v1025.toNat, 0, 32]
def k0_off178 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1030 : Index := Scalar.indexCast v791
  let c1_i32_441 : BitVec 32 := 1#32
  let v1031 : Index := Scalar.indexCast c1_i32_441
  let c32_442 : Index := 32#32
  ![v1030.toNat, 1, 32]
def k0_off179 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1035 : Index := Scalar.indexCast v791
  let c2_i32_443 : BitVec 32 := 2#32
  let v1036 : Index := Scalar.indexCast c2_i32_443
  let c32_444 : Index := 32#32
  ![v1035.toNat, 2, 32]
def k0_off180 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1040 : Index := Scalar.indexCast v791
  let c3_i32_445 : BitVec 32 := 3#32
  let v1041 : Index := Scalar.indexCast c3_i32_445
  let c32_446 : Index := 32#32
  ![v1040.toNat, 3, 32]
def k0_off181 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1045 : Index := Scalar.indexCast v791
  let c4_i32_447 : BitVec 32 := 4#32
  let v1046 : Index := Scalar.indexCast c4_i32_447
  let c32_448 : Index := 32#32
  ![v1045.toNat, 4, 32]
def k0_off182 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1050 : Index := Scalar.indexCast v791
  let c5_i32_449 : BitVec 32 := 5#32
  let v1051 : Index := Scalar.indexCast c5_i32_449
  let c32_450 : Index := 32#32
  ![v1050.toNat, 5, 32]
def k0_off183 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1055 : Index := Scalar.indexCast v791
  let c6_i32_451 : BitVec 32 := 6#32
  let v1056 : Index := Scalar.indexCast c6_i32_451
  let c32_452 : Index := 32#32
  ![v1055.toNat, 6, 32]
def k0_off184 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1060 : Index := Scalar.indexCast v791
  let c7_i32_453 : BitVec 32 := 7#32
  let v1061 : Index := Scalar.indexCast c7_i32_453
  let c32_454 : Index := 32#32
  ![v1060.toNat, 7, 32]
def k0_off185 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1065 : Index := Scalar.indexCast v791
  let c8_i32_455 : BitVec 32 := 8#32
  let v1066 : Index := Scalar.indexCast c8_i32_455
  let c32_456 : Index := 32#32
  ![v1065.toNat, 8, 32]
def k0_off186 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1070 : Index := Scalar.indexCast v791
  let c9_i32_457 : BitVec 32 := 9#32
  let v1071 : Index := Scalar.indexCast c9_i32_457
  let c32_458 : Index := 32#32
  ![v1070.toNat, 9, 32]
def k0_off187 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1075 : Index := Scalar.indexCast v791
  let c10_i32_459 : BitVec 32 := 10#32
  let v1076 : Index := Scalar.indexCast c10_i32_459
  let c32_460 : Index := 32#32
  ![v1075.toNat, 10, 32]
def k0_off188 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1080 : Index := Scalar.indexCast v791
  let c11_i32_461 : BitVec 32 := 11#32
  let v1081 : Index := Scalar.indexCast c11_i32_461
  let c32_462 : Index := 32#32
  ![v1080.toNat, 11, 32]
def k0_off189 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1085 : Index := Scalar.indexCast v791
  let c12_i32_463 : BitVec 32 := 12#32
  let v1086 : Index := Scalar.indexCast c12_i32_463
  let c32_464 : Index := 32#32
  ![v1085.toNat, 12, 32]
def k0_off190 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1090 : Index := Scalar.indexCast v791
  let c13_i32_465 : BitVec 32 := 13#32
  let v1091 : Index := Scalar.indexCast c13_i32_465
  let c32_466 : Index := 32#32
  ![v1090.toNat, 13, 32]
def k0_off191 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1095 : Index := Scalar.indexCast v791
  let c14_i32_467 : BitVec 32 := 14#32
  let v1096 : Index := Scalar.indexCast c14_i32_467
  let c32_468 : Index := 32#32
  ![v1095.toNat, 14, 32]
def k0_off192 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1100 : Index := Scalar.indexCast v791
  let c15_i32_469 : BitVec 32 := 15#32
  let v1101 : Index := Scalar.indexCast c15_i32_469
  let c32_470 : Index := 32#32
  ![v1100.toNat, 15, 32]
@[reducible] def k0_t13_loop : Scf.Loop 32 :=
  let c0_i32_471 : BitVec 32 := 0#32
  let c16_i32_472 : BitVec 32 := 16#32
  let v1105 : BitVec 32 := Scalar.addi c0_i32_471 c16_i32_472
  let c1_i32_473 : BitVec 32 := 1#32
  ⟨c0_i32_471, v1105, c1_i32_473⟩
def k0_off193 (k0_t13 : Fin k0_t13_loop.trips) (c0_i32_652 : BitVec 32) : Fin 2 → Nat :=
  let c0_i32_471 : BitVec 32 := 0#32
  let c1_i32_473 : BitVec 32 := 1#32
  let arg10 : BitVec 32 := Scf.iv c0_i32_471 c1_i32_473 k0_t13
  let c16_i32_651 : BitVec 32 := 16#32
  let v1515 : BitVec 32 := Scalar.muli arg10 c16_i32_651
  let v1516 : BitVec 32 := Scalar.addi v1515 c0_i32_652
  let v1517 : Index := Scalar.indexCast v1516
  let c48_653 : Index := 48#32
  ![v1517.toNat, 48]
def k0_off194 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1107 : Index := Scalar.indexCast v791
  let c0_i32_475 : BitVec 32 := 0#32
  let v1108 : Index := Scalar.indexCast c0_i32_475
  let c48_476 : Index := 48#32
  ![v1107.toNat, 0, 48]
def k0_off195 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1112 : Index := Scalar.indexCast v791
  let c1_i32_477 : BitVec 32 := 1#32
  let v1113 : Index := Scalar.indexCast c1_i32_477
  let c48_478 : Index := 48#32
  ![v1112.toNat, 1, 48]
def k0_off196 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1117 : Index := Scalar.indexCast v791
  let c2_i32_479 : BitVec 32 := 2#32
  let v1118 : Index := Scalar.indexCast c2_i32_479
  let c48_480 : Index := 48#32
  ![v1117.toNat, 2, 48]
def k0_off197 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1122 : Index := Scalar.indexCast v791
  let c3_i32_481 : BitVec 32 := 3#32
  let v1123 : Index := Scalar.indexCast c3_i32_481
  let c48_482 : Index := 48#32
  ![v1122.toNat, 3, 48]
def k0_off198 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1127 : Index := Scalar.indexCast v791
  let c4_i32_483 : BitVec 32 := 4#32
  let v1128 : Index := Scalar.indexCast c4_i32_483
  let c48_484 : Index := 48#32
  ![v1127.toNat, 4, 48]
def k0_off199 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1132 : Index := Scalar.indexCast v791
  let c5_i32_485 : BitVec 32 := 5#32
  let v1133 : Index := Scalar.indexCast c5_i32_485
  let c48_486 : Index := 48#32
  ![v1132.toNat, 5, 48]
def k0_off200 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1137 : Index := Scalar.indexCast v791
  let c6_i32_487 : BitVec 32 := 6#32
  let v1138 : Index := Scalar.indexCast c6_i32_487
  let c48_488 : Index := 48#32
  ![v1137.toNat, 6, 48]
def k0_off201 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1142 : Index := Scalar.indexCast v791
  let c7_i32_489 : BitVec 32 := 7#32
  let v1143 : Index := Scalar.indexCast c7_i32_489
  let c48_490 : Index := 48#32
  ![v1142.toNat, 7, 48]
def k0_off202 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1147 : Index := Scalar.indexCast v791
  let c8_i32_491 : BitVec 32 := 8#32
  let v1148 : Index := Scalar.indexCast c8_i32_491
  let c48_492 : Index := 48#32
  ![v1147.toNat, 8, 48]
def k0_off203 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1152 : Index := Scalar.indexCast v791
  let c9_i32_493 : BitVec 32 := 9#32
  let v1153 : Index := Scalar.indexCast c9_i32_493
  let c48_494 : Index := 48#32
  ![v1152.toNat, 9, 48]
def k0_off204 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1157 : Index := Scalar.indexCast v791
  let c10_i32_495 : BitVec 32 := 10#32
  let v1158 : Index := Scalar.indexCast c10_i32_495
  let c48_496 : Index := 48#32
  ![v1157.toNat, 10, 48]
def k0_off205 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1162 : Index := Scalar.indexCast v791
  let c11_i32_497 : BitVec 32 := 11#32
  let v1163 : Index := Scalar.indexCast c11_i32_497
  let c48_498 : Index := 48#32
  ![v1162.toNat, 11, 48]
def k0_off206 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1167 : Index := Scalar.indexCast v791
  let c12_i32_499 : BitVec 32 := 12#32
  let v1168 : Index := Scalar.indexCast c12_i32_499
  let c48_500 : Index := 48#32
  ![v1167.toNat, 12, 48]
def k0_off207 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1172 : Index := Scalar.indexCast v791
  let c13_i32_501 : BitVec 32 := 13#32
  let v1173 : Index := Scalar.indexCast c13_i32_501
  let c48_502 : Index := 48#32
  ![v1172.toNat, 13, 48]
def k0_off208 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1177 : Index := Scalar.indexCast v791
  let c14_i32_503 : BitVec 32 := 14#32
  let v1178 : Index := Scalar.indexCast c14_i32_503
  let c48_504 : Index := 48#32
  ![v1177.toNat, 14, 48]
def k0_off209 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1182 : Index := Scalar.indexCast v791
  let c15_i32_505 : BitVec 32 := 15#32
  let v1183 : Index := Scalar.indexCast c15_i32_505
  let c48_506 : Index := 48#32
  ![v1182.toNat, 15, 48]
@[reducible] def k0_t14_loop : Scf.Loop 32 :=
  let c0_i32_507 : BitVec 32 := 0#32
  let c16_i32_508 : BitVec 32 := 16#32
  let v1187 : BitVec 32 := Scalar.addi c0_i32_507 c16_i32_508
  let c1_i32_509 : BitVec 32 := 1#32
  ⟨c0_i32_507, v1187, c1_i32_509⟩
def k0_off210 (k0_t14 : Fin k0_t14_loop.trips) (c0_i32_652 : BitVec 32) : Fin 2 → Nat :=
  let c0_i32_507 : BitVec 32 := 0#32
  let c1_i32_509 : BitVec 32 := 1#32
  let arg10 : BitVec 32 := Scf.iv c0_i32_507 c1_i32_509 k0_t14
  let c16_i32_651 : BitVec 32 := 16#32
  let v1515 : BitVec 32 := Scalar.muli arg10 c16_i32_651
  let v1516 : BitVec 32 := Scalar.addi v1515 c0_i32_652
  let v1517 : Index := Scalar.indexCast v1516
  let c64_653 : Index := 64#32
  ![v1517.toNat, 64]
def k0_off211 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1189 : Index := Scalar.indexCast v791
  let c0_i32_511 : BitVec 32 := 0#32
  let v1190 : Index := Scalar.indexCast c0_i32_511
  let c64_512 : Index := 64#32
  ![v1189.toNat, 0, 64]
def k0_off212 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1194 : Index := Scalar.indexCast v791
  let c1_i32_513 : BitVec 32 := 1#32
  let v1195 : Index := Scalar.indexCast c1_i32_513
  let c64_514 : Index := 64#32
  ![v1194.toNat, 1, 64]
def k0_off213 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1199 : Index := Scalar.indexCast v791
  let c2_i32_515 : BitVec 32 := 2#32
  let v1200 : Index := Scalar.indexCast c2_i32_515
  let c64_516 : Index := 64#32
  ![v1199.toNat, 2, 64]
def k0_off214 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1204 : Index := Scalar.indexCast v791
  let c3_i32_517 : BitVec 32 := 3#32
  let v1205 : Index := Scalar.indexCast c3_i32_517
  let c64_518 : Index := 64#32
  ![v1204.toNat, 3, 64]
def k0_off215 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1209 : Index := Scalar.indexCast v791
  let c4_i32_519 : BitVec 32 := 4#32
  let v1210 : Index := Scalar.indexCast c4_i32_519
  let c64_520 : Index := 64#32
  ![v1209.toNat, 4, 64]
def k0_off216 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1214 : Index := Scalar.indexCast v791
  let c5_i32_521 : BitVec 32 := 5#32
  let v1215 : Index := Scalar.indexCast c5_i32_521
  let c64_522 : Index := 64#32
  ![v1214.toNat, 5, 64]
def k0_off217 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1219 : Index := Scalar.indexCast v791
  let c6_i32_523 : BitVec 32 := 6#32
  let v1220 : Index := Scalar.indexCast c6_i32_523
  let c64_524 : Index := 64#32
  ![v1219.toNat, 6, 64]
def k0_off218 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1224 : Index := Scalar.indexCast v791
  let c7_i32_525 : BitVec 32 := 7#32
  let v1225 : Index := Scalar.indexCast c7_i32_525
  let c64_526 : Index := 64#32
  ![v1224.toNat, 7, 64]
def k0_off219 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1229 : Index := Scalar.indexCast v791
  let c8_i32_527 : BitVec 32 := 8#32
  let v1230 : Index := Scalar.indexCast c8_i32_527
  let c64_528 : Index := 64#32
  ![v1229.toNat, 8, 64]
def k0_off220 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1234 : Index := Scalar.indexCast v791
  let c9_i32_529 : BitVec 32 := 9#32
  let v1235 : Index := Scalar.indexCast c9_i32_529
  let c64_530 : Index := 64#32
  ![v1234.toNat, 9, 64]
def k0_off221 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1239 : Index := Scalar.indexCast v791
  let c10_i32_531 : BitVec 32 := 10#32
  let v1240 : Index := Scalar.indexCast c10_i32_531
  let c64_532 : Index := 64#32
  ![v1239.toNat, 10, 64]
def k0_off222 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1244 : Index := Scalar.indexCast v791
  let c11_i32_533 : BitVec 32 := 11#32
  let v1245 : Index := Scalar.indexCast c11_i32_533
  let c64_534 : Index := 64#32
  ![v1244.toNat, 11, 64]
def k0_off223 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1249 : Index := Scalar.indexCast v791
  let c12_i32_535 : BitVec 32 := 12#32
  let v1250 : Index := Scalar.indexCast c12_i32_535
  let c64_536 : Index := 64#32
  ![v1249.toNat, 12, 64]
def k0_off224 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1254 : Index := Scalar.indexCast v791
  let c13_i32_537 : BitVec 32 := 13#32
  let v1255 : Index := Scalar.indexCast c13_i32_537
  let c64_538 : Index := 64#32
  ![v1254.toNat, 13, 64]
def k0_off225 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1259 : Index := Scalar.indexCast v791
  let c14_i32_539 : BitVec 32 := 14#32
  let v1260 : Index := Scalar.indexCast c14_i32_539
  let c64_540 : Index := 64#32
  ![v1259.toNat, 14, 64]
def k0_off226 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1264 : Index := Scalar.indexCast v791
  let c15_i32_541 : BitVec 32 := 15#32
  let v1265 : Index := Scalar.indexCast c15_i32_541
  let c64_542 : Index := 64#32
  ![v1264.toNat, 15, 64]
@[reducible] def k0_t15_loop : Scf.Loop 32 :=
  let c0_i32_543 : BitVec 32 := 0#32
  let c16_i32_544 : BitVec 32 := 16#32
  let v1269 : BitVec 32 := Scalar.addi c0_i32_543 c16_i32_544
  let c1_i32_545 : BitVec 32 := 1#32
  ⟨c0_i32_543, v1269, c1_i32_545⟩
def k0_off227 (k0_t15 : Fin k0_t15_loop.trips) (c0_i32_652 : BitVec 32) : Fin 2 → Nat :=
  let c0_i32_543 : BitVec 32 := 0#32
  let c1_i32_545 : BitVec 32 := 1#32
  let arg10 : BitVec 32 := Scf.iv c0_i32_543 c1_i32_545 k0_t15
  let c16_i32_651 : BitVec 32 := 16#32
  let v1515 : BitVec 32 := Scalar.muli arg10 c16_i32_651
  let v1516 : BitVec 32 := Scalar.addi v1515 c0_i32_652
  let v1517 : Index := Scalar.indexCast v1516
  let c80_653 : Index := 80#32
  ![v1517.toNat, 80]
def k0_off228 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1271 : Index := Scalar.indexCast v791
  let c0_i32_547 : BitVec 32 := 0#32
  let v1272 : Index := Scalar.indexCast c0_i32_547
  let c80_548 : Index := 80#32
  ![v1271.toNat, 0, 80]
def k0_off229 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1276 : Index := Scalar.indexCast v791
  let c1_i32_549 : BitVec 32 := 1#32
  let v1277 : Index := Scalar.indexCast c1_i32_549
  let c80_550 : Index := 80#32
  ![v1276.toNat, 1, 80]
def k0_off230 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1281 : Index := Scalar.indexCast v791
  let c2_i32_551 : BitVec 32 := 2#32
  let v1282 : Index := Scalar.indexCast c2_i32_551
  let c80_552 : Index := 80#32
  ![v1281.toNat, 2, 80]
def k0_off231 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1286 : Index := Scalar.indexCast v791
  let c3_i32_553 : BitVec 32 := 3#32
  let v1287 : Index := Scalar.indexCast c3_i32_553
  let c80_554 : Index := 80#32
  ![v1286.toNat, 3, 80]
def k0_off232 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1291 : Index := Scalar.indexCast v791
  let c4_i32_555 : BitVec 32 := 4#32
  let v1292 : Index := Scalar.indexCast c4_i32_555
  let c80_556 : Index := 80#32
  ![v1291.toNat, 4, 80]
def k0_off233 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1296 : Index := Scalar.indexCast v791
  let c5_i32_557 : BitVec 32 := 5#32
  let v1297 : Index := Scalar.indexCast c5_i32_557
  let c80_558 : Index := 80#32
  ![v1296.toNat, 5, 80]
def k0_off234 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1301 : Index := Scalar.indexCast v791
  let c6_i32_559 : BitVec 32 := 6#32
  let v1302 : Index := Scalar.indexCast c6_i32_559
  let c80_560 : Index := 80#32
  ![v1301.toNat, 6, 80]
def k0_off235 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1306 : Index := Scalar.indexCast v791
  let c7_i32_561 : BitVec 32 := 7#32
  let v1307 : Index := Scalar.indexCast c7_i32_561
  let c80_562 : Index := 80#32
  ![v1306.toNat, 7, 80]
def k0_off236 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1311 : Index := Scalar.indexCast v791
  let c8_i32_563 : BitVec 32 := 8#32
  let v1312 : Index := Scalar.indexCast c8_i32_563
  let c80_564 : Index := 80#32
  ![v1311.toNat, 8, 80]
def k0_off237 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1316 : Index := Scalar.indexCast v791
  let c9_i32_565 : BitVec 32 := 9#32
  let v1317 : Index := Scalar.indexCast c9_i32_565
  let c80_566 : Index := 80#32
  ![v1316.toNat, 9, 80]
def k0_off238 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1321 : Index := Scalar.indexCast v791
  let c10_i32_567 : BitVec 32 := 10#32
  let v1322 : Index := Scalar.indexCast c10_i32_567
  let c80_568 : Index := 80#32
  ![v1321.toNat, 10, 80]
def k0_off239 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1326 : Index := Scalar.indexCast v791
  let c11_i32_569 : BitVec 32 := 11#32
  let v1327 : Index := Scalar.indexCast c11_i32_569
  let c80_570 : Index := 80#32
  ![v1326.toNat, 11, 80]
def k0_off240 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1331 : Index := Scalar.indexCast v791
  let c12_i32_571 : BitVec 32 := 12#32
  let v1332 : Index := Scalar.indexCast c12_i32_571
  let c80_572 : Index := 80#32
  ![v1331.toNat, 12, 80]
def k0_off241 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1336 : Index := Scalar.indexCast v791
  let c13_i32_573 : BitVec 32 := 13#32
  let v1337 : Index := Scalar.indexCast c13_i32_573
  let c80_574 : Index := 80#32
  ![v1336.toNat, 13, 80]
def k0_off242 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1341 : Index := Scalar.indexCast v791
  let c14_i32_575 : BitVec 32 := 14#32
  let v1342 : Index := Scalar.indexCast c14_i32_575
  let c80_576 : Index := 80#32
  ![v1341.toNat, 14, 80]
def k0_off243 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1346 : Index := Scalar.indexCast v791
  let c15_i32_577 : BitVec 32 := 15#32
  let v1347 : Index := Scalar.indexCast c15_i32_577
  let c80_578 : Index := 80#32
  ![v1346.toNat, 15, 80]
@[reducible] def k0_t16_loop : Scf.Loop 32 :=
  let c0_i32_579 : BitVec 32 := 0#32
  let c16_i32_580 : BitVec 32 := 16#32
  let v1351 : BitVec 32 := Scalar.addi c0_i32_579 c16_i32_580
  let c1_i32_581 : BitVec 32 := 1#32
  ⟨c0_i32_579, v1351, c1_i32_581⟩
def k0_off244 (k0_t16 : Fin k0_t16_loop.trips) (c0_i32_652 : BitVec 32) : Fin 2 → Nat :=
  let c0_i32_579 : BitVec 32 := 0#32
  let c1_i32_581 : BitVec 32 := 1#32
  let arg10 : BitVec 32 := Scf.iv c0_i32_579 c1_i32_581 k0_t16
  let c16_i32_651 : BitVec 32 := 16#32
  let v1515 : BitVec 32 := Scalar.muli arg10 c16_i32_651
  let v1516 : BitVec 32 := Scalar.addi v1515 c0_i32_652
  let v1517 : Index := Scalar.indexCast v1516
  let c96_653 : Index := 96#32
  ![v1517.toNat, 96]
def k0_off245 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1353 : Index := Scalar.indexCast v791
  let c0_i32_583 : BitVec 32 := 0#32
  let v1354 : Index := Scalar.indexCast c0_i32_583
  let c96_584 : Index := 96#32
  ![v1353.toNat, 0, 96]
def k0_off246 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1358 : Index := Scalar.indexCast v791
  let c1_i32_585 : BitVec 32 := 1#32
  let v1359 : Index := Scalar.indexCast c1_i32_585
  let c96_586 : Index := 96#32
  ![v1358.toNat, 1, 96]
def k0_off247 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1363 : Index := Scalar.indexCast v791
  let c2_i32_587 : BitVec 32 := 2#32
  let v1364 : Index := Scalar.indexCast c2_i32_587
  let c96_588 : Index := 96#32
  ![v1363.toNat, 2, 96]
def k0_off248 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1368 : Index := Scalar.indexCast v791
  let c3_i32_589 : BitVec 32 := 3#32
  let v1369 : Index := Scalar.indexCast c3_i32_589
  let c96_590 : Index := 96#32
  ![v1368.toNat, 3, 96]
def k0_off249 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1373 : Index := Scalar.indexCast v791
  let c4_i32_591 : BitVec 32 := 4#32
  let v1374 : Index := Scalar.indexCast c4_i32_591
  let c96_592 : Index := 96#32
  ![v1373.toNat, 4, 96]
def k0_off250 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1378 : Index := Scalar.indexCast v791
  let c5_i32_593 : BitVec 32 := 5#32
  let v1379 : Index := Scalar.indexCast c5_i32_593
  let c96_594 : Index := 96#32
  ![v1378.toNat, 5, 96]
def k0_off251 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1383 : Index := Scalar.indexCast v791
  let c6_i32_595 : BitVec 32 := 6#32
  let v1384 : Index := Scalar.indexCast c6_i32_595
  let c96_596 : Index := 96#32
  ![v1383.toNat, 6, 96]
def k0_off252 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1388 : Index := Scalar.indexCast v791
  let c7_i32_597 : BitVec 32 := 7#32
  let v1389 : Index := Scalar.indexCast c7_i32_597
  let c96_598 : Index := 96#32
  ![v1388.toNat, 7, 96]
def k0_off253 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1393 : Index := Scalar.indexCast v791
  let c8_i32_599 : BitVec 32 := 8#32
  let v1394 : Index := Scalar.indexCast c8_i32_599
  let c96_600 : Index := 96#32
  ![v1393.toNat, 8, 96]
def k0_off254 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1398 : Index := Scalar.indexCast v791
  let c9_i32_601 : BitVec 32 := 9#32
  let v1399 : Index := Scalar.indexCast c9_i32_601
  let c96_602 : Index := 96#32
  ![v1398.toNat, 9, 96]
def k0_off255 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1403 : Index := Scalar.indexCast v791
  let c10_i32_603 : BitVec 32 := 10#32
  let v1404 : Index := Scalar.indexCast c10_i32_603
  let c96_604 : Index := 96#32
  ![v1403.toNat, 10, 96]
def k0_off256 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1408 : Index := Scalar.indexCast v791
  let c11_i32_605 : BitVec 32 := 11#32
  let v1409 : Index := Scalar.indexCast c11_i32_605
  let c96_606 : Index := 96#32
  ![v1408.toNat, 11, 96]
def k0_off257 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1413 : Index := Scalar.indexCast v791
  let c12_i32_607 : BitVec 32 := 12#32
  let v1414 : Index := Scalar.indexCast c12_i32_607
  let c96_608 : Index := 96#32
  ![v1413.toNat, 12, 96]
def k0_off258 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1418 : Index := Scalar.indexCast v791
  let c13_i32_609 : BitVec 32 := 13#32
  let v1419 : Index := Scalar.indexCast c13_i32_609
  let c96_610 : Index := 96#32
  ![v1418.toNat, 13, 96]
def k0_off259 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1423 : Index := Scalar.indexCast v791
  let c14_i32_611 : BitVec 32 := 14#32
  let v1424 : Index := Scalar.indexCast c14_i32_611
  let c96_612 : Index := 96#32
  ![v1423.toNat, 14, 96]
def k0_off260 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1428 : Index := Scalar.indexCast v791
  let c15_i32_613 : BitVec 32 := 15#32
  let v1429 : Index := Scalar.indexCast c15_i32_613
  let c96_614 : Index := 96#32
  ![v1428.toNat, 15, 96]
@[reducible] def k0_t17_loop : Scf.Loop 32 :=
  let c0_i32_615 : BitVec 32 := 0#32
  let c16_i32_616 : BitVec 32 := 16#32
  let v1433 : BitVec 32 := Scalar.addi c0_i32_615 c16_i32_616
  let c1_i32_617 : BitVec 32 := 1#32
  ⟨c0_i32_615, v1433, c1_i32_617⟩
def k0_off261 (k0_t17 : Fin k0_t17_loop.trips) (c0_i32_652 : BitVec 32) : Fin 2 → Nat :=
  let c0_i32_615 : BitVec 32 := 0#32
  let c1_i32_617 : BitVec 32 := 1#32
  let arg10 : BitVec 32 := Scf.iv c0_i32_615 c1_i32_617 k0_t17
  let c16_i32_651 : BitVec 32 := 16#32
  let v1515 : BitVec 32 := Scalar.muli arg10 c16_i32_651
  let v1516 : BitVec 32 := Scalar.addi v1515 c0_i32_652
  let v1517 : Index := Scalar.indexCast v1516
  let c112_653 : Index := 112#32
  ![v1517.toNat, 112]
def k0_off262 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1435 : Index := Scalar.indexCast v791
  let c0_i32_619 : BitVec 32 := 0#32
  let v1436 : Index := Scalar.indexCast c0_i32_619
  let c112_620 : Index := 112#32
  ![v1435.toNat, 0, 112]
def k0_off263 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1440 : Index := Scalar.indexCast v791
  let c1_i32_621 : BitVec 32 := 1#32
  let v1441 : Index := Scalar.indexCast c1_i32_621
  let c112_622 : Index := 112#32
  ![v1440.toNat, 1, 112]
def k0_off264 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1445 : Index := Scalar.indexCast v791
  let c2_i32_623 : BitVec 32 := 2#32
  let v1446 : Index := Scalar.indexCast c2_i32_623
  let c112_624 : Index := 112#32
  ![v1445.toNat, 2, 112]
def k0_off265 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1450 : Index := Scalar.indexCast v791
  let c3_i32_625 : BitVec 32 := 3#32
  let v1451 : Index := Scalar.indexCast c3_i32_625
  let c112_626 : Index := 112#32
  ![v1450.toNat, 3, 112]
def k0_off266 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1455 : Index := Scalar.indexCast v791
  let c4_i32_627 : BitVec 32 := 4#32
  let v1456 : Index := Scalar.indexCast c4_i32_627
  let c112_628 : Index := 112#32
  ![v1455.toNat, 4, 112]
def k0_off267 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1460 : Index := Scalar.indexCast v791
  let c5_i32_629 : BitVec 32 := 5#32
  let v1461 : Index := Scalar.indexCast c5_i32_629
  let c112_630 : Index := 112#32
  ![v1460.toNat, 5, 112]
def k0_off268 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1465 : Index := Scalar.indexCast v791
  let c6_i32_631 : BitVec 32 := 6#32
  let v1466 : Index := Scalar.indexCast c6_i32_631
  let c112_632 : Index := 112#32
  ![v1465.toNat, 6, 112]
def k0_off269 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1470 : Index := Scalar.indexCast v791
  let c7_i32_633 : BitVec 32 := 7#32
  let v1471 : Index := Scalar.indexCast c7_i32_633
  let c112_634 : Index := 112#32
  ![v1470.toNat, 7, 112]
def k0_off270 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1475 : Index := Scalar.indexCast v791
  let c8_i32_635 : BitVec 32 := 8#32
  let v1476 : Index := Scalar.indexCast c8_i32_635
  let c112_636 : Index := 112#32
  ![v1475.toNat, 8, 112]
def k0_off271 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1480 : Index := Scalar.indexCast v791
  let c9_i32_637 : BitVec 32 := 9#32
  let v1481 : Index := Scalar.indexCast c9_i32_637
  let c112_638 : Index := 112#32
  ![v1480.toNat, 9, 112]
def k0_off272 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1485 : Index := Scalar.indexCast v791
  let c10_i32_639 : BitVec 32 := 10#32
  let v1486 : Index := Scalar.indexCast c10_i32_639
  let c112_640 : Index := 112#32
  ![v1485.toNat, 10, 112]
def k0_off273 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1490 : Index := Scalar.indexCast v791
  let c11_i32_641 : BitVec 32 := 11#32
  let v1491 : Index := Scalar.indexCast c11_i32_641
  let c112_642 : Index := 112#32
  ![v1490.toNat, 11, 112]
def k0_off274 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1495 : Index := Scalar.indexCast v791
  let c12_i32_643 : BitVec 32 := 12#32
  let v1496 : Index := Scalar.indexCast c12_i32_643
  let c112_644 : Index := 112#32
  ![v1495.toNat, 12, 112]
def k0_off275 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1500 : Index := Scalar.indexCast v791
  let c13_i32_645 : BitVec 32 := 13#32
  let v1501 : Index := Scalar.indexCast c13_i32_645
  let c112_646 : Index := 112#32
  ![v1500.toNat, 13, 112]
def k0_off276 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1505 : Index := Scalar.indexCast v791
  let c14_i32_647 : BitVec 32 := 14#32
  let v1506 : Index := Scalar.indexCast c14_i32_647
  let c112_648 : Index := 112#32
  ![v1505.toNat, 14, 112]
def k0_off277 (k0_t1 : Fin k0_t1_loop.trips) : Fin 3 → Nat :=
  let c0_i32_24 : BitVec 32 := 0#32
  let c1_i32_25 : BitVec 32 := 1#32
  let arg9 : BitVec 32 := Scf.iv c0_i32_24 c1_i32_25 k0_t1
  let c2_i32_328 : BitVec 32 := 2#32
  let v790 : BitVec 32 := Scalar.muli arg9 c2_i32_328
  let c1_i32_329 : BitVec 32 := 1#32
  let v791 : BitVec 32 := Scalar.addi v790 c1_i32_329
  let v1510 : Index := Scalar.indexCast v791
  let c15_i32_649 : BitVec 32 := 15#32
  let v1511 : Index := Scalar.indexCast c15_i32_649
  let c112_650 : Index := 112#32
  ![v1510.toNat, 15, 112]
def k0_off278 (i : grid0.Coords) : Fin 4 → Nat :=
  let c0_i32_27_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r0 : BitVec 32 := 0#32
  let c0_i32_29_r0 : BitVec 32 := 0#32
  ![0, v1.toNat, 0, 0]
abbrev grid1 : Pipeline.Grid := ⟨1, ![5], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S8x512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1x16x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8x576x768 : Shape := ⟨4, ![8, 8, 576, 768]⟩
abbrev S8x4608x768 : Shape := ⟨3, ![8, 4608, 768]⟩
abbrev S8x2048x768 : Shape := ⟨3, ![8, 2048, 768]⟩
abbrev S8x8x256x768 : Shape := ⟨4, ![8, 8, 256, 768]⟩
abbrev S8x8x768x256 : Shape := ⟨4, ![8, 8, 768, 256]⟩
abbrev S8x8x768x16 : Shape := ⟨4, ![8, 8, 768, 16]⟩
abbrev S8x8x6x128x16 : Shape := ⟨5, ![8, 8, 6, 128, 16]⟩
abbrev S8x2560x768 : Shape := ⟨3, ![8, 2560, 768]⟩
abbrev S8x5x512x768 : Shape := ⟨4, ![8, 5, 512, 768]⟩
abbrev S8x5x768x512 : Shape := ⟨4, ![8, 5, 768, 512]⟩
abbrev S8x5x768x16 : Shape := ⟨4, ![8, 5, 768, 16]⟩
abbrev S8x6x8x16x128 : Shape := ⟨5, ![8, 6, 8, 16, 128]⟩
abbrev S8x5x16x768 : Shape := ⟨4, ![8, 5, 16, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x8x576x768, .f32⟩
  | .hbm, ⟨1, _⟩ => ⟨S8x4608x768, .f32⟩
  | .hbm, ⟨2, _⟩ => ⟨S8x2048x768, .f32⟩
  | .hbm, ⟨3, _⟩ => ⟨S8x8x256x768, .f32⟩
  | .hbm, ⟨4, _⟩ => ⟨S8x8x768x256, .f32⟩
  | .hbm, ⟨5, _⟩ => ⟨S8x8x768x16, .f32⟩
  | .hbm, ⟨6, _⟩ => ⟨S8x8x768x16, .i32⟩
  | .hbm, ⟨7, _⟩ => ⟨S8x8x6x128x16, .f32⟩
  | .hbm, ⟨8, _⟩ => ⟨S8x2560x768, .f32⟩
  | .hbm, ⟨9, _⟩ => ⟨S8x5x512x768, .f32⟩
  | .hbm, ⟨10, _⟩ => ⟨S8x5x768x512, .f32⟩
  | .hbm, ⟨11, _⟩ => ⟨S8x5x768x16, .f32⟩
  | .hbm, ⟨12, _⟩ => ⟨S8x5x768x16, .i32⟩
  | .hbm, ⟨13, _⟩ => ⟨S8x6x8x16x128, .f32⟩
  | .hbm, ⟨14, _⟩ => ⟨S8x5x16x768, .f32⟩
  | _, _ => ⟨S8x8x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_values : Ref sig .tc := ⟨.hbm, 5, rfl⟩
abbrev main_indices : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_values_0 : Ref sig .tc := ⟨.hbm, 11, rfl⟩
abbrev main_indices_1 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Mean.lean ====
abbrev S8x8x576x768 : Shape := ⟨4, ![8, 8, 576, 768]⟩
abbrev S8x4608x768 : Shape := ⟨3, ![8, 4608, 768]⟩
abbrev S8x768 : Shape := ⟨2, ![8, 768]⟩
abbrev S8x512x768 : Shape := ⟨3, ![8, 512, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x8x576x768, .f32⟩
  | .hbm, ⟨1, _⟩ => ⟨S8x4608x768, .f32⟩
  | .hbm, ⟨2, _⟩ => ⟨S8x768, .f32⟩
  | .local _ .vmem, ⟨0, _⟩ => ⟨S8x512x768, .f32⟩
  | .local _ .vmem, ⟨1, _⟩ => ⟨S8x512x768, .f32⟩
  | .local _ .vmem, ⟨2, _⟩ => ⟨S8x768, .f32⟩
  | _, _ => ⟨S8x8x576x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== MeanIdeal.lean ====
variable {F : FTy → Type} [FloatOps F] [Named F]
def κ : String → Option EReal := fun
  | "inv_t" => some ((4608⁻¹ : ℝ) : EReal)
  | _ => none
-- ==== MeanRefIdeal.lean ====
abbrev S8x8x576x768 : Shape := ⟨4, ![8, 8, 576, 768]⟩
abbrev S8x4608x768 : Shape := ⟨3, ![8, 4608, 768]⟩
abbrev S_ : Shape := ⟨0, ![]⟩
abbrev S8x768 : Shape := ⟨2, ![8, 768]⟩

abbrev nBuf : Space → Nat
  | .hbm => 7
  | .vmem => 0
  | .smem => 0
  | _ => 0

abbrev bufTy : (tb : Table) → Fin (tcTables nBuf tb) → BufTy
  | .hbm, ⟨0, _⟩ => ⟨S8x8x576x768, .f32⟩
  | .hbm, ⟨1, _⟩ => ⟨S8x4608x768, .f32⟩
  | .hbm, ⟨2, _⟩ => ⟨S_, .f32⟩
  | .hbm, ⟨3, _⟩ => ⟨S8x768, .f32⟩
  | .hbm, ⟨4, _⟩ => ⟨S_, .f32⟩
  | .hbm, ⟨5, _⟩ => ⟨S8x768, .f32⟩
  | .hbm, ⟨6, _⟩ => ⟨S8x768, .f32⟩
  | _, _ => ⟨S8x8x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Top.lean ====
module

public import Mathlib.Data.EReal.Basic
public import Mathlib.Data.Fintype.Card
public import Mathlib.Algebra.BigOperators.Group.Finset.Basic
public import Mathlib.Order.Interval.Finset.Nat
public import Mathlib.Tactic.Ring

/-! The sixteen largest of a family, by thresholds: comparator networks on sixteen wires, the network that sorts,
the merge of two sorted lists, and what they keep. -/

@[expose] public section

namespace Cert.Top

/-! ### Comparator networks -/

/-- One comparator: wire `i` takes the larger, wire `j` the smaller. -/
def cas {α : Type*} (mx mn : α → α → α) (v : ℕ → α) (c : ℕ × ℕ) : ℕ → α :=
  fun k => bif k.beq c.1 then mx (v c.1) (v c.2) else bif k.beq c.2 then mn (v c.1) (v c.2) else v k

/-- A network: its comparators from the left. -/
def net {α : Type*} (mx mn : α → α → α) (l : List (ℕ × ℕ)) (v : ℕ → α) : ℕ → α :=
  l.foldl (cas mx mn) v

/-- The sorting network's comparators. -/
def sortL : List (ℕ × ℕ) :=
  [(0, 13), (1, 12), (2, 15), (3, 14), (4, 8), (5, 6), (7, 11), (9, 10),
   (0, 5), (1, 7), (2, 9), (3, 4), (6, 13), (8, 14), (10, 15), (11, 12),
   (0, 1), (2, 3), (4, 5), (6, 8), (7, 9), (10, 11), (12, 13), (14, 15),
   (0, 2), (1, 3), (4, 10), (5, 11), (6, 7), (8, 9), (12, 14), (13, 15),
   (1, 2), (3, 12), (4, 6), (5, 7), (8, 10), (9, 11), (13, 14),
   (1, 4), (2, 6), (5, 8), (7, 10), (9, 13), (11, 14),
   (2, 4), (3, 6), (9, 12), (11, 13),
   (3, 5), (6, 8), (7, 9), (10, 12),
   (3, 4), (5, 6), (7, 8), (9, 10), (11, 12),
   (6, 7), (8, 9)]

/-- The half cleaners' comparators. -/
def cleanL : List (ℕ × ℕ) :=
  [(0, 8), (1, 9), (2, 10), (3, 11), (4, 12), (5, 13), (6, 14), (7, 15),
   (0, 4), (1, 5), (2, 6), (3, 7), (8, 12), (9, 13), (10, 14), (11, 15),
   (0, 2), (1, 3), (4, 6), (5, 7), (8, 10), (9, 11), (12, 14), (13, 15),
   (0, 1), (2, 3), (4, 5), (6, 7), (8, 9), (10, 11), (12, 13), (14, 15)]

/-- The larger half of two sorted lists, one read backwards. -/
def half {α : Type*} (mx : α → α → α) (a b : ℕ → α) : ℕ → α := fun i => mx (a i) (b (15 - i))

/-- Sorting sixteen. -/
def sort16 {α : Type*} (mx mn : α → α → α) (v : ℕ → α) : ℕ → α := net mx mn sortL v

/-- Merging two sorted lists of sixteen. -/
def merge {α : Type*} (mx mn : α → α → α) (a b : ℕ → α) : ℕ → α := net mx mn cleanL (half mx a b)

section Hom
variable {α β : Type*} {mx mn : α → α → α} {mx' mn' : β → β → β} (h : α → β)
  (hx : ∀ a b, h (mx a b) = mx' (h a) (h b)) (hn : ∀ a b, h (mn a b) = mn' (h a) (h b))
include hx hn

theorem cas_hom (v : ℕ → α) (c : ℕ × ℕ) (k : ℕ) :
    h (cas mx mn v c k) = cas mx' mn' (fun i => h (v i)) c k := by
  unfold cas
  cases k.beq c.1 <;> cases k.beq c.2 <;> simp [hx, hn]

theorem net_hom (l : List (ℕ × ℕ)) (v : ℕ → α) (k : ℕ) :
    h (net mx mn l v k) = net mx' mn' l (fun i => h (v i)) k := by
  unfold net
  induction l generalizing v with
  | nil => rfl
  | cons c l ih =>
    simp only [List.foldl_cons]
    rw [ih]
    exact congrArg (fun w => List.foldl (cas mx' mn') w l k) (funext fun i => cas_hom h hx hn v c i)

theorem sort16_hom (v : ℕ → α) (k : ℕ) :
    h (sort16 mx mn v k) = sort16 mx' mn' (fun i => h (v i)) k := net_hom h hx hn _ _ _

theorem merge_hom (a b : ℕ → α) (k : ℕ) :
    h (merge mx mn a b k) = merge mx' mn' (fun i => h (a i)) (fun i => h (b i)) k := by
  unfold merge
  rw [net_hom h hx hn]
  congr 1
  funext i
  exact hx _ _

end Hom

/-! ### Truth tables

A Boolean function of the first `n` wires is a number of `2 ^ n` bits. -/

/-- The number whose binary digits are the wires. -/
def enc : ℕ → (ℕ → Bool) → ℕ
  | 0, _ => 0
  | n + 1, b => enc n b + 2 ^ n * (b n).toNat

/-- The table of wire `k`. -/
def tab : ℕ → ℕ → ℕ
  | 0, _ => 0
  | n + 1, k => bif k.beq n then (2 ^ 2 ^ n - 1) * 2 ^ 2 ^ n else tab n k + tab n k * 2 ^ 2 ^ n

/-- The table of "more than `i` wires are true". -/
def thr : ℕ → ℕ → ℕ
  | 0, _ => 0
  | n + 1, 0 => thr n 0 + (2 ^ 2 ^ n - 1) * 2 ^ 2 ^ n
  | n + 1, i + 1 => thr n (i + 1) + thr n i * 2 ^ 2 ^ n

/-- How many of the first `n` wires are true. -/
def num : ℕ → (ℕ → Bool) → ℕ
  | 0, _ => 0
  | n + 1, b => num n b + (b n).toNat

theorem enc_lt (n : ℕ) (b : ℕ → Bool) : enc n b < 2 ^ n := by
  induction n with
  | zero => simp [enc]
  | succ n ih =>
    have := Bool.toNat_le (b n)
    have h2 : 2 ^ n * (b n).toNat ≤ 2 ^ n := by nlinarith [Nat.two_pow_pos n]
    have : 2 ^ (n + 1) = 2 ^ n + 2 ^ n := by ring
    simp only [enc]; omega

theorem bit_split (n a c x : ℕ) (b : Bool) (ha : a < 2 ^ 2 ^ n) (hx : x < 2 ^ n) :
    (a + c * 2 ^ 2 ^ n).testBit (x + 2 ^ n * b.toNat) = bif b then c.testBit x else a.testBit x := by
  rw [Nat.add_comm a, Nat.mul_comm c]
  rw [Nat.testBit_two_pow_mul_add c ha]
  cases b
  · simp [hx]
  · simp

theorem tab_lt (n k : ℕ) : tab n k < 2 ^ 2 ^ n := by
  induction n with
  | zero => simp [tab]
  | succ n ih =>
    have h1 : 2 ^ 2 ^ (n + 1) = 2 ^ 2 ^ n * 2 ^ 2 ^ n := by rw [← pow_add]; congr 1; ring
    have h0 : 0 < 2 ^ 2 ^ n := Nat.two_pow_pos _
    simp only [tab]
    rw [h1]
    generalize 2 ^ 2 ^ n = N at *
    cases k.beq n
    · simp only [cond_false]; nlinarith
    · simp only [cond_true]; exact Nat.mul_lt_mul_of_pos_right (by omega) h0

theorem thr_lt (n i : ℕ) : thr n i < 2 ^ 2 ^ n := by
  induction n generalizing i with
  | zero => simp [thr]
  | succ n ih =>
    have h1 : 2 ^ 2 ^ (n + 1) = 2 ^ 2 ^ n * 2 ^ 2 ^ n := by rw [← pow_add]; congr 1; ring
    have h0 : 0 < 2 ^ 2 ^ n := Nat.two_pow_pos _
    have ih0 := ih i
    rw [h1]
    cases i with
    | zero =>
      simp only [thr]
      generalize 2 ^ 2 ^ n = N at *
      have : (N - 1) * N + N = N * N := by
        obtain ⟨m, rfl⟩ : ∃ m, N = m + 1 := ⟨N - 1, by omega⟩
        simp; ring
      omega
    | succ i =>
      have ih1 := ih i
      simp only [thr]
      generalize 2 ^ 2 ^ n = N at *
      nlinarith

theorem tab_bit (n k : ℕ) (b : ℕ → Bool) (hk : k < n) : (tab n k).testBit (enc n b) = b k := by
  induction n with
  | zero => omega
  | succ n ih =>
    simp only [tab, enc]
    by_cases h : k = n
    · subst h
      have := bit_split k 0 (2 ^ 2 ^ k - 1) (enc k b) (b k) (Nat.two_pow_pos _) (enc_lt _ _)
      simp only [Nat.zero_add] at this
      simp only [Nat.beq_refl, cond_true, this]
      cases b k
      · simp
      · simp [Nat.testBit_two_pow_sub_one, enc_lt]
    · have hb : k.beq n = false := by
        rw [Bool.eq_false_iff]; exact fun hh => h (Nat.eq_of_beq_eq_true hh)
      rw [hb, cond_false, bit_split _ _ _ _ _ (tab_lt _ _) (enc_lt _ _), ih (by omega)]
      cases b n <;> rfl

theorem thr_bit (n i : ℕ) (b : ℕ → Bool) : (thr n i).testBit (enc n b) = decide (i < num n b) := by
  induction n generalizing i with
  | zero => simp [thr, num]
  | succ n ih =>
    cases i with
    | zero =>
      simp only [thr, enc, num]
      rw [bit_split _ _ _ _ _ (thr_lt _ _) (enc_lt _ _), ih]
      by_cases hb : b n = true
      · simp [hb, Nat.testBit_two_pow_sub_one, enc_lt]
      · simp [Bool.eq_false_iff.2 hb]
    | succ i =>
      simp only [thr, enc, num]
      rw [bit_split _ _ _ _ _ (thr_lt _ _) (enc_lt _ _), ih, ih]
      by_cases hb : b n = true
      · simp [hb]
      · simp [Bool.eq_false_iff.2 hb]

theorem sort_tables : ∀ i < 16, sort16 Nat.lor Nat.land (tab 16) i = thr 16 i := by
  decide +kernel

theorem net_agree {α : Type*} (mx mn : α → α → α) (l : List (ℕ × ℕ)) (hl : ∀ c ∈ l, c.1 < 16 ∧ c.2 < 16)
    (v w : ℕ → α) (h : ∀ i < 16, v i = w i) : ∀ i < 16, net mx mn l v i = net mx mn l w i := by
  unfold net
  induction l generalizing v w with
  | nil => exact h
  | cons c l ih =>
    simp only [List.foldl_cons]
    refine ih (fun c hc => hl c (List.mem_cons_of_mem _ hc)) _ _ fun i hi => ?_
    obtain ⟨h1, h2⟩ := hl c List.mem_cons_self
    simp only [cas, h _ h1, h _ h2, h i hi]

theorem sortL_lt : ∀ c ∈ sortL, c.1 < 16 ∧ c.2 < 16 := by decide
theorem cleanL_lt : ∀ c ∈ cleanL, c.1 < 16 ∧ c.2 < 16 := by decide
theorem cleanL_ne : ∀ c ∈ cleanL, c.1 ≠ c.2 := by decide

/-- The network sorts: on Booleans, wire `i` is true where more than `i` are. -/
theorem sort_bool (b : ℕ → Bool) (i : ℕ) (hi : i < 16) :
    sort16 (· || ·) (· && ·) b i = decide (i < num 16 b) := by
  have h := sort_tables i hi
  have h2 := congrArg (fun T => Nat.testBit T (enc 16 b)) h
  simp only [thr_bit] at h2
  rw [← h2, sort16_hom (mx := Nat.lor) (mn := Nat.land) (mx' := (· || ·)) (mn' := (· && ·)) (fun T => Nat.testBit T (enc 16 b))
    (fun a c => Nat.testBit_or a c _) (fun a c => Nat.testBit_and a c _)]
  exact net_agree _ _ _ sortL_lt _ _ (fun k hk => (tab_bit 16 k b hk).symm) i hi

theorem merge_step_bool : ∀ m < 17, ∀ n < 17, ∀ i < 16,
    merge (· || ·) (· && ·) (fun k => decide (k < m)) (fun k => decide (k < n)) i = decide (i < m + n) := by
  decide +kernel

theorem merge_bool (m n i : ℕ) (hi : i < 16) :
    merge (· || ·) (· && ·) (fun k => decide (k < m)) (fun k => decide (k < n)) i = decide (i < m + n) := by
  have key := merge_step_bool (min m 16) (by omega) (min n 16) (by omega) i hi
  rw [show decide (i < m + n) = decide (i < min m 16 + min n 16) by
    apply decide_eq_decide.2; omega, ← key]
  unfold merge
  refine net_agree _ _ _ cleanL_lt _ _ (fun k hk => ?_) i hi
  simp only [half]
  congr 1 <;> (apply decide_eq_decide.2; omega)

/-! ### The sixteen largest -/

/-- How many members of `S` reach the threshold `t`. -/
noncomputable def cnt {ι : Type*} (S : Finset ι) (M : ι → EReal) (t : EReal) : ℕ := (S.filter fun j => t ≤ M j).card

/-- `s` lists the largest of the family `M` on `S` in falling order, `⊥` after the last. -/
def IsTop {ι : Type*} (S : Finset ι) (M : ι → EReal) (s : ℕ → EReal) : Prop :=
  ∀ t, ⊥ < t → ∀ i < 16, (t ≤ s i ↔ i < cnt S M t)

theorem IsTop.unique {ι : Type*} {S : Finset ι} {M : ι → EReal} {s s' : ℕ → EReal} (h : IsTop S M s)
    (h' : IsTop S M s') (i : ℕ) (hi : i < 16) : s i = s' i := by
  have key : ∀ t, ⊥ < t → (t ≤ s i ↔ t ≤ s' i) := fun t ht => (h t ht i hi).trans (h' t ht i hi).symm
  apply le_antisymm
  · rcases eq_or_lt_of_le (bot_le (a := s i)) with e | e
    · rw [← e]; exact bot_le
    · exact (key _ e).1 le_rfl
  · rcases eq_or_lt_of_le (bot_le (a := s' i)) with e | e
    · rw [← e]; exact bot_le
    · exact (key _ e).2 le_rfl

theorem IsTop.congr {ι : Type*} {S : Finset ι} {M : ι → EReal} {s s' : ℕ → EReal} (h : IsTop S M s)
    (e : ∀ i < 16, s' i = s i) : IsTop S M s' := fun t ht i hi => by rw [e i hi]; exact h t ht i hi

theorem isTop_empty {ι : Type*} (M : ι → EReal) : IsTop ∅ M fun _ => ⊥ := fun t ht i _ => by
  simp [cnt, ht.ne']

theorem decide_le_max (t a b : EReal) : decide (t ≤ max a b) = (decide (t ≤ a) || decide (t ≤ b)) := by
  rw [← Bool.decide_or]; exact decide_eq_decide.2 le_max_iff

theorem decide_le_min (t a b : EReal) : decide (t ≤ min a b) = (decide (t ≤ a) && decide (t ≤ b)) := by
  rw [← Bool.decide_and]; exact decide_eq_decide.2 le_min_iff

/-- Merging lists of disjoint parts lists their union. -/
theorem IsTop.merge {ι : Type*} [DecidableEq ι] {S S' : Finset ι} {M : ι → EReal} {a b : ℕ → EReal}
    (ha : IsTop S M a) (hb : IsTop S' M b) (hd : Disjoint S S') :
    IsTop (S ∪ S') M (Top.merge max min a b) := fun t ht i hi => by
  have h1 := merge_hom (mx := max) (mn := min) (mx' := (· || ·)) (mn' := (· && ·)) (fun x : EReal => decide (t ≤ x))
    (decide_le_max t) (decide_le_min t) a b i
  have hc : cnt (S ∪ S') M t = cnt S M t + cnt S' M t := by
    unfold cnt
    rw [Finset.filter_union, Finset.card_union_of_disjoint]
    exact Finset.disjoint_filter_filter hd
  have h2 : Top.merge (· || ·) (· && ·) (fun i => decide (t ≤ a i)) (fun i => decide (t ≤ b i)) i
      = Top.merge (· || ·) (· && ·) (fun k => decide (k < cnt S M t)) (fun k => decide (k < cnt S' M t)) i := by
    refine net_agree _ _ _ cleanL_lt _ _ (fun k hk => ?_) i hi
    simp only [half]
    congr 1
    · exact decide_eq_decide.2 (ha t ht k hk)
    · exact decide_eq_decide.2 (hb t ht _ (by omega))
  rw [h2, merge_bool _ _ _ hi] at h1
  rw [hc]
  simpa using h1

theorem num_card (n : ℕ) (b : ℕ → Bool) : num n b = ((Finset.range n).filter fun k => b k = true).card := by
  induction n with
  | zero => rfl
  | succ n ih =>
    rw [num, ih, Finset.range_add_one, Finset.filter_insert]
    cases h : b n
    · simp
    · simp

/-- The network lists the sixteen members it is given. -/
theorem isTop_sort {ι : Type*} [DecidableEq ι] (M : ι → EReal) (f : ℕ → ι)
    (hf : ∀ i < 16, ∀ j < 16, f i = f j → i = j) :
    IsTop ((Finset.range 16).image f) M (sort16 max min fun k => M (f k)) := fun t _ i hi => by
  have h1 := sort16_hom (mx := max) (mn := min) (mx' := (· || ·)) (mn' := (· && ·)) (fun x : EReal => decide (t ≤ x))
    (decide_le_max t) (decide_le_min t) (fun k => M (f k)) i
  rw [sort_bool _ _ hi] at h1
  have hc : cnt ((Finset.range 16).image f) M t = num 16 fun k => decide (t ≤ M (f k)) := by
    rw [num_card, cnt, Finset.filter_image, Finset.card_image_of_injOn]
    · simp
    · intro x hx y hy hxy
      simp only [Finset.coe_filter, Finset.mem_range, Set.mem_setOf_eq] at hx hy
      exact hf x hx.1 y hy.1 hxy
  rw [hc]
  simpa using h1

/-! ### The sum of the sixteen -/

theorem sum_cas (v : ℕ → EReal) (c : ℕ × ℕ) (h1 : c.1 < 16) (h2 : c.2 < 16) (hne : c.1 ≠ c.2) :
    ∑ k ∈ Finset.range 16, cas max min v c k = ∑ k ∈ Finset.range 16, v k := by
  have m1 : c.1 ∈ Finset.range 16 := Finset.mem_range.2 h1
  have m2 : c.2 ∈ (Finset.range 16).erase c.1 := Finset.mem_erase.2 ⟨hne.symm, Finset.mem_range.2 h2⟩
  rw [← Finset.add_sum_erase _ _ m1, ← Finset.add_sum_erase _ _ m2, ← Finset.add_sum_erase _ v m1,
    ← Finset.add_sum_erase _ v m2, ← add_assoc, ← add_assoc]
  congr 1
  · have e1 : cas max min v c c.1 = max (v c.1) (v c.2) := by simp [cas]
    have e2 : cas max min v c c.2 = min (v c.1) (v c.2) := by
      have : c.2.beq c.1 = false := by
        rw [Bool.eq_false_iff]; exact fun hh => hne (Nat.eq_of_beq_eq_true hh).symm
      simp [cas, this]
    rw [e1, e2]
    rcases le_total (v c.1) (v c.2) with h | h
    · rw [max_eq_right h, min_eq_left h, add_comm]
    · rw [max_eq_left h, min_eq_right h]
  · refine Finset.sum_congr rfl fun k hk => ?_
    obtain ⟨k2, hk⟩ := Finset.mem_erase.1 hk
    obtain ⟨k1, hk⟩ := Finset.mem_erase.1 hk
    have b1 : k.beq c.1 = false := by rw [Bool.eq_false_iff]; exact fun hh => k1 (Nat.eq_of_beq_eq_true hh)
    have b2 : k.beq c.2 = false := by rw [Bool.eq_false_iff]; exact fun hh => k2 (Nat.eq_of_beq_eq_true hh)
    simp [cas, b1, b2]

theorem sum_net (l : List (ℕ × ℕ)) (hl : ∀ c ∈ l, c.1 < 16 ∧ c.2 < 16) (hne : ∀ c ∈ l, c.1 ≠ c.2) (v : ℕ → EReal) :
    ∑ k ∈ Finset.range 16, net max min l v k = ∑ k ∈ Finset.range 16, v k := by
  unfold net
  induction l generalizing v with
  | nil => rfl
  | cons c l ih =>
    simp only [List.foldl_cons]
    rw [ih (fun c hc => hl c (List.mem_cons_of_mem _ hc)) (fun c hc => hne c (List.mem_cons_of_mem _ hc))]
    exact sum_cas v c (hl c List.mem_cons_self).1 (hl c List.mem_cons_self).2 (hne c List.mem_cons_self)

/-- The uncleaned larger half has the merge's sum. -/
theorem sum_half (a b : ℕ → EReal) :
    ∑ k ∈ Finset.range 16, half max a b k = ∑ k ∈ Finset.range 16, Top.merge max min a b k :=
  (sum_net cleanL cleanL_lt cleanL_ne _).symm

end Cert.Top
-- ==== Proof.TopS.lean ====
module

public import proofs.«01_k».proof.Proof.Top
public import Mathlib.Data.Fin.VecNotation

/-! The two networks in straight lines, as a program writes them, and that they are the lists' networks. -/

@[expose] public section

set_option maxRecDepth 65536

namespace Cert.Top

/-- Sixteen values by wire. -/
def wires {α : Type*} (a : Fin 16 → α) : ℕ → α := fun k => if h : k < 16 then a ⟨k, h⟩ else a 0

section
variable {α β : Type*} (mx mn : α → α → α)

/-- The sorting network, one wire value after another, handed on. -/
def sortS (a0 a1 a2 a3 a4 a5 a6 a7 a8 a9 a10 a11 a12 a13 a14 a15 : α) (k : α → α → α → α → α → α → α → α → α → α → α → α → α → α → α → α → β) : β :=
  let x0 := mx a0 a13
  let y0 := mn a0 a13
  let x1 := mx a1 a12
  let y1 := mn a1 a12
  let x2 := mx a2 a15
  let y2 := mn a2 a15
  let x3 := mx a3 a14
  let y3 := mn a3 a14
  let x4 := mx a4 a8
  let y4 := mn a4 a8
  let x5 := mx a5 a6
  let y5 := mn a5 a6
  let x6 := mx a7 a11
  let y6 := mn a7 a11
  let x7 := mx a9 a10
  let y7 := mn a9 a10
  let x8 := mx x0 x5
  let y8 := mn x0 x5
  let x9 := mx x1 x6
  let y9 := mn x1 x6
  let x10 := mx x2 x7
  let y10 := mn x2 x7
  let x11 := mx x3 x4
  let y11 := mn x3 x4
  let x12 := mx y5 y0
  let y12 := mn y5 y0
  let x13 := mx y4 y3
  let y13 := mn y4 y3
  let x14 := mx y7 y2
  let y14 := mn y7 y2
  let x15 := mx y6 y1
  let y15 := mn y6 y1
  let x16 := mx x8 x9
  let y16 := mn x8 x9
  let x17 := mx x10 x11
  let y17 := mn x10 x11
  let x18 := mx y11 y8
  let y18 := mn y11 y8
  let x19 := mx x12 x13
  let y19 := mn x12 x13
  let x20 := mx y9 y10
  let y20 := mn y9 y10
  let x21 := mx x14 x15
  let y21 := mn x14 x15
  let x22 := mx y15 y12
  let y22 := mn y15 y12
  let x23 := mx y13 y14
  let y23 := mn y13 y14
  let x24 := mx x16 x17
  let y24 := mn x16 x17
  let x25 := mx y16 y17
  let y25 := mn y16 y17
  let x26 := mx x18 x21
  let y26 := mn x18 x21
  let x27 := mx y18 y21
  let y27 := mn y18 y21
  let x28 := mx x19 x20
  let y28 := mn x19 x20
  let x29 := mx y19 y20
  let y29 := mn y19 y20
  let x30 := mx x22 x23
  let y30 := mn x22 x23
  let x31 := mx y22 y23
  let y31 := mn y22 y23
  let x32 := mx x25 y24
  let y32 := mn x25 y24
  let x33 := mx y25 x30
  let y33 := mn y25 x30
  let x34 := mx x26 x28
  let y34 := mn x26 x28
  let x35 := mx x27 y28
  let y35 := mn x27 y28
  let x36 := mx x29 y26
  let y36 := mn x29 y26
  let x37 := mx y29 y27
  let y37 := mn y29 y27
  let x38 := mx x31 y30
  let y38 := mn x31 y30
  let x39 := mx x32 x34
  let y39 := mn x32 x34
  let x40 := mx y32 y34
  let y40 := mn y32 y34
  let x41 := mx x35 x36
  let y41 := mn x35 x36
  let x42 := mx y35 y36
  let y42 := mn y35 y36
  let x43 := mx x37 x38
  let y43 := mn x37 x38
  let x44 := mx y37 y38
  let y44 := mn y37 y38
  let x45 := mx x40 y39
  let y45 := mn x40 y39
  let x46 := mx x33 y40
  let y46 := mn x33 y40
  let x47 := mx x43 y33
  let y47 := mn x43 y33
  let x48 := mx x44 y43
  let y48 := mn x44 y43
  let x49 := mx x46 x41
  let y49 := mn x46 x41
  let x50 := mx y46 y41
  let y50 := mn y46 y41
  let x51 := mx x42 x47
  let y51 := mn x42 x47
  let x52 := mx y42 y47
  let y52 := mn y42 y47
  let x53 := mx x49 y45
  let y53 := mn x49 y45
  let x54 := mx y49 x50
  let y54 := mn y49 x50
  let x55 := mx x51 y50
  let y55 := mn x51 y50
  let x56 := mx y51 x52
  let y56 := mn y51 x52
  let x57 := mx x48 y52
  let y57 := mn x48 y52
  let x58 := mx y54 x55
  let y58 := mn y54 x55
  let x59 := mx y55 x56
  let y59 := mn y55 x56
  k x24 x39 x45 x53 y53 x54 x58 y58 x59 y59 y56 x57 y57 y48 y44 y31

/-- The half cleaners, one wire value after another, handed on. -/
def cleanS (a0 a1 a2 a3 a4 a5 a6 a7 a8 a9 a10 a11 a12 a13 a14 a15 : α) (k : α → α → α → α → α → α → α → α → α → α → α → α → α → α → α → α → β) : β :=
  let x0 := mx a0 a8
  let y0 := mn a0 a8
  let x1 := mx a1 a9
  let y1 := mn a1 a9
  let x2 := mx a2 a10
  let y2 := mn a2 a10
  let x3 := mx a3 a11
  let y3 := mn a3 a11
  let x4 := mx a4 a12
  let y4 := mn a4 a12
  let x5 := mx a5 a13
  let y5 := mn a5 a13
  let x6 := mx a6 a14
  let y6 := mn a6 a14
  let x7 := mx a7 a15
  let y7 := mn a7 a15
  let x8 := mx x0 x4
  let y8 := mn x0 x4
  let x9 := mx x1 x5
  let y9 := mn x1 x5
  let x10 := mx x2 x6
  let y10 := mn x2 x6
  let x11 := mx x3 x7
  let y11 := mn x3 x7
  let x12 := mx y0 y4
  let y12 := mn y0 y4
  let x13 := mx y1 y5
  let y13 := mn y1 y5
  let x14 := mx y2 y6
  let y14 := mn y2 y6
  let x15 := mx y3 y7
  let y15 := mn y3 y7
  let x16 := mx x8 x10
  let y16 := mn x8 x10
  let x17 := mx x9 x11
  let y17 := mn x9 x11
  let x18 := mx y8 y10
  let y18 := mn y8 y10
  let x19 := mx y9 y11
  let y19 := mn y9 y11
  let x20 := mx x12 x14
  let y20 := mn x12 x14
  let x21 := mx x13 x15
  let y21 := mn x13 x15
  let x22 := mx y12 y14
  let y22 := mn y12 y14
  let x23 := mx y13 y15
  let y23 := mn y13 y15
  let x24 := mx x16 x17
  let y24 := mn x16 x17
  let x25 := mx y16 y17
  let y25 := mn y16 y17
  let x26 := mx x18 x19
  let y26 := mn x18 x19
  let x27 := mx y18 y19
  let y27 := mn y18 y19
  let x28 := mx x20 x21
  let y28 := mn x20 x21
  let x29 := mx y20 y21
  let y29 := mn y20 y21
  let x30 := mx x22 x23
  let y30 := mn x22 x23
  let x31 := mx y22 y23
  let y31 := mn y22 y23
  k x24 y24 x25 y25 x26 y26 x27 y27 x28 y28 x29 y29 x30 y30 x31 y31

/-- The merge of two lists, handed on. -/
def mergeS (a0 a1 a2 a3 a4 a5 a6 a7 a8 a9 a10 a11 a12 a13 a14 a15 b0 b1 b2 b3 b4 b5 b6 b7 b8 b9 b10 b11 b12 b13 b14 b15 : α) (k : α → α → α → α → α → α → α → α → α → α → α → α → α → α → α → α → β) : β :=
  cleanS mx mn (mx a0 b15) (mx a1 b14) (mx a2 b13) (mx a3 b12) (mx a4 b11) (mx a5 b10) (mx a6 b9) (mx a7 b8) (mx a8 b7) (mx a9 b6) (mx a10 b5) (mx a11 b4) (mx a12 b3) (mx a13 b2) (mx a14 b1) (mx a15 b0) k

theorem sortS_eq (a0 a1 a2 a3 a4 a5 a6 a7 a8 a9 a10 a11 a12 a13 a14 a15 : α) (k : α → α → α → α → α → α → α → α → α → α → α → α → α → α → α → α → β) :
    sortS mx mn a0 a1 a2 a3 a4 a5 a6 a7 a8 a9 a10 a11 a12 a13 a14 a15 k =
      let s := sort16 mx mn (wires ![a0, a1, a2, a3, a4, a5, a6, a7, a8, a9, a10, a11, a12, a13, a14, a15])
      k (s 0) (s 1) (s 2) (s 3) (s 4) (s 5) (s 6) (s 7) (s 8) (s 9) (s 10) (s 11) (s 12) (s 13) (s 14) (s 15) := rfl

theorem cleanS_eq (a0 a1 a2 a3 a4 a5 a6 a7 a8 a9 a10 a11 a12 a13 a14 a15 : α) (k : α → α → α → α → α → α → α → α → α → α → α → α → α → α → α → α → β) :
    cleanS mx mn a0 a1 a2 a3 a4 a5 a6 a7 a8 a9 a10 a11 a12 a13 a14 a15 k =
      let s := net mx mn cleanL (wires ![a0, a1, a2, a3, a4, a5, a6, a7, a8, a9, a10, a11, a12, a13, a14, a15])
      k (s 0) (s 1) (s 2) (s 3) (s 4) (s 5) (s 6) (s 7) (s 8) (s 9) (s 10) (s 11) (s 12) (s 13) (s 14) (s 15) := rfl

end

end Cert.Top
-- ==== Proof.K0Prog.lean ====
module

public import proofs.«01_k».proof.Proof.Gen.KernelIdeal.Skeleton
public import proofs.«01_k».proof.Proof.TopS

/-! The SparseCore kernel's loop body as sixteen sub-columns over two buffers, each a loop of block merges and its
stores. -/

@[expose] public section

set_option maxRecDepth 65536

noncomputable section

namespace Cert.KernelIdeal.K0

open Cert.KernelIdeal Cert.KernelIdeal.Gen Idealize.ShloMosaic Idealize.SL.Sem

variable {F : FTy → Type} [FloatOps F]

/-- Sixteen vectors. -/
abbrev T16 (F : FTy → Type) : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- A tile's memory program. -/
abbrev TP (F : FTy → Type) (i : grid0.Coords) :=
  Prog (TpuEff nD τ sig (Elt F) Λ₀ (.scVector ((i 0).castLE hcore0) ((i 1).castLE hsub0)))

/-- Sixteen lanes of a buffer's row. -/
def ld (i : grid0.Coords) (buf : Memref sig .scVector .vmem S256x128 .f32) (o : Fin 2 → ℕ)
    (h : ∀ a, o a + S1x16.size a ≤ S256x128.size a) : TP F i (FVec F S16 .f32) := do
  let v : Vec F S1x16 .f32 ← Prog.lift (.load buf (Rect.unit (s := S256x128) o S1x16.size h).toLoadRect
    (View.loadsAt_vmem h_S1x16))
  pure (shapeCast S16 v shapeCasts_S1x16_S16)

/-- One block: sixteen rows' lanes sorted, and merged with the list held. -/
def blk (i : grid0.Coords) (buf : Memref sig .scVector .vmem S256x128 .f32) (o : BitVec 32 → Fin 2 → ℕ)
    (h : ∀ (r : Fin 16), ∀ a, o (BitVec.ofNat 32 r.val) a + S1x16.size a ≤ S256x128.size a) (st : T16 F) :
    TP F i (T16 F) := do
  let a0 ← ld i buf (o 0#32) (h 0)
  let a1 ← ld i buf (o 1#32) (h 1)
  let a2 ← ld i buf (o 2#32) (h 2)
  let a3 ← ld i buf (o 3#32) (h 3)
  let a4 ← ld i buf (o 4#32) (h 4)
  let a5 ← ld i buf (o 5#32) (h 5)
  let a6 ← ld i buf (o 6#32) (h 6)
  let a7 ← ld i buf (o 7#32) (h 7)
  let a8 ← ld i buf (o 8#32) (h 8)
  let a9 ← ld i buf (o 9#32) (h 9)
  let a10 ← ld i buf (o 10#32) (h 10)
  let a11 ← ld i buf (o 11#32) (h 11)
  let a12 ← ld i buf (o 12#32) (h 12)
  let a13 ← ld i buf (o 13#32) (h 13)
  let a14 ← ld i buf (o 14#32) (h 14)
  let a15 ← ld i buf (o 15#32) (h 15)
  match st with
  | (b0, b1, b2, b3, b4, b5, b6, b7, b8, b9, b10, b11, b12, b13, b14, b15) =>
    pure (Top.sortS maximumf minimumf a0 a1 a2 a3 a4 a5 a6 a7 a8 a9 a10 a11 a12 a13 a14 a15 fun s0 s1 s2 s3 s4 s5 s6 s7 s8 s9 s10 s11 s12 s13 s14 s15 =>
      Top.mergeS maximumf minimumf s0 s1 s2 s3 s4 s5 s6 s7 s8 s9 s10 s11 s12 s13 s14 s15 b0 b1 b2 b3 b4 b5 b6 b7 b8 b9 b10 b11 b12 b13 b14 b15 fun m0 m1 m2 m3 m4 m5 m6 m7 m8 m9 m10 m11 m12 m13 m14 m15 =>
        (m0, m1, m2, m3, m4, m5, m6, m7, m8, m9, m10, m11, m12, m13, m14, m15))

/-- Sixteen lanes stored: the row read first, as the program does. -/
def st1 (i : grid0.Coords) (res : Memref sig .scVector .vmem S12x16x128 .f32) (o : Fin 3 → ℕ)
    (h : ∀ a, o a + S1x1x16.size a ≤ S12x16x128.size a) (v : FVec F S16 .f32) : TP F i PUnit := do
  let _v : Vec F S1x1x16 .f32 ← Prog.lift (.load res (Rect.unit (s := S12x16x128) o S1x1x16.size h).toLoadRect
    (View.loadsAt_vmem h_S1x1x16))
  Prog.lift (.store res (Rect.unit (s := S12x16x128) o S1x1x16.size h)
    (shapeCast S1x1x16 v shapeCasts_S16_S1x1x16) Finset.univ (View.stores_vmem_bits_univ h_S1x1x16 rfl) (.inl rfl))

/-- The list before any row: sixteen vectors of the least value. -/
def neg : FVec F S16 .f32 := broadcast S16 (Scalar.ofBits .f32 0xFF800000#32)

/-- The first buffer's load offsets, by sub-column. -/
def lo0 : Fin 8 → Fin k0_t2_loop.trips → BitVec 32 → Fin 2 → ℕ :=
  fun n t c => ![k0_off4 t c, k0_off21 t c, k0_off38 t c, k0_off55 t c, k0_off72 t c, k0_off89 t c, k0_off106 t c, k0_off123 t c] n

/-- The second buffer's. -/
def lo1 : Fin 8 → Fin k0_t2_loop.trips → BitVec 32 → Fin 2 → ℕ :=
  fun n t c => ![k0_off142 t c, k0_off159 t c, k0_off176 t c, k0_off193 t c, k0_off210 t c, k0_off227 t c, k0_off244 t c, k0_off261 t c] n

/-- The first task's store offsets, by sub-column and row of the list. -/
def so0 : Fin k0_t1_loop.trips → Fin 8 → Fin 16 → Fin 3 → ℕ :=
  fun t n s => ![![k0_off5 t, k0_off6 t, k0_off7 t, k0_off8 t, k0_off9 t, k0_off10 t, k0_off11 t, k0_off12 t, k0_off13 t, k0_off14 t, k0_off15 t, k0_off16 t, k0_off17 t, k0_off18 t, k0_off19 t, k0_off20 t],
    ![k0_off22 t, k0_off23 t, k0_off24 t, k0_off25 t, k0_off26 t, k0_off27 t, k0_off28 t, k0_off29 t, k0_off30 t, k0_off31 t, k0_off32 t, k0_off33 t, k0_off34 t, k0_off35 t, k0_off36 t, k0_off37 t],
    ![k0_off39 t, k0_off40 t, k0_off41 t, k0_off42 t, k0_off43 t, k0_off44 t, k0_off45 t, k0_off46 t, k0_off47 t, k0_off48 t, k0_off49 t, k0_off50 t, k0_off51 t, k0_off52 t, k0_off53 t, k0_off54 t],
    ![k0_off56 t, k0_off57 t, k0_off58 t, k0_off59 t, k0_off60 t, k0_off61 t, k0_off62 t, k0_off63 t, k0_off64 t, k0_off65 t, k0_off66 t, k0_off67 t, k0_off68 t, k0_off69 t, k0_off70 t, k0_off71 t],
    ![k0_off73 t, k0_off74 t, k0_off75 t, k0_off76 t, k0_off77 t, k0_off78 t, k0_off79 t, k0_off80 t, k0_off81 t, k0_off82 t, k0_off83 t, k0_off84 t, k0_off85 t, k0_off86 t, k0_off87 t, k0_off88 t],
    ![k0_off90 t, k0_off91 t, k0_off92 t, k0_off93 t, k0_off94 t, k0_off95 t, k0_off96 t, k0_off97 t, k0_off98 t, k0_off99 t, k0_off100 t, k0_off101 t, k0_off102 t, k0_off103 t, k0_off104 t, k0_off105 t],
    ![k0_off107 t, k0_off108 t, k0_off109 t, k0_off110 t, k0_off111 t, k0_off112 t, k0_off113 t, k0_off114 t, k0_off115 t, k0_off116 t, k0_off117 t, k0_off118 t, k0_off119 t, k0_off120 t, k0_off121 t, k0_off122 t],
    ![k0_off124 t, k0_off125 t, k0_off126 t, k0_off127 t, k0_off128 t, k0_off129 t, k0_off130 t, k0_off131 t, k0_off132 t, k0_off133 t, k0_off134 t, k0_off135 t, k0_off136 t, k0_off137 t, k0_off138 t, k0_off139 t]] n s

/-- The second task's. -/
def so1 : Fin k0_t1_loop.trips → Fin 8 → Fin 16 → Fin 3 → ℕ :=
  fun t n s => ![![k0_off143 t, k0_off144 t, k0_off145 t, k0_off146 t, k0_off147 t, k0_off148 t, k0_off149 t, k0_off150 t, k0_off151 t, k0_off152 t, k0_off153 t, k0_off154 t, k0_off155 t, k0_off156 t, k0_off157 t, k0_off158 t],
    ![k0_off160 t, k0_off161 t, k0_off162 t, k0_off163 t, k0_off164 t, k0_off165 t, k0_off166 t, k0_off167 t, k0_off168 t, k0_off169 t, k0_off170 t, k0_off171 t, k0_off172 t, k0_off173 t, k0_off174 t, k0_off175 t],
    ![k0_off177 t, k0_off178 t, k0_off179 t, k0_off180 t, k0_off181 t, k0_off182 t, k0_off183 t, k0_off184 t, k0_off185 t, k0_off186 t, k0_off187 t, k0_off188 t, k0_off189 t, k0_off190 t, k0_off191 t, k0_off192 t],
    ![k0_off194 t, k0_off195 t, k0_off196 t, k0_off197 t, k0_off198 t, k0_off199 t, k0_off200 t, k0_off201 t, k0_off202 t, k0_off203 t, k0_off204 t, k0_off205 t, k0_off206 t, k0_off207 t, k0_off208 t, k0_off209 t],
    ![k0_off211 t, k0_off212 t, k0_off213 t, k0_off214 t, k0_off215 t, k0_off216 t, k0_off217 t, k0_off218 t, k0_off219 t, k0_off220 t, k0_off221 t, k0_off222 t, k0_off223 t, k0_off224 t, k0_off225 t, k0_off226 t],
    ![k0_off228 t, k0_off229 t, k0_off230 t, k0_off231 t, k0_off232 t, k0_off233 t, k0_off234 t, k0_off235 t, k0_off236 t, k0_off237 t, k0_off238 t, k0_off239 t, k0_off240 t, k0_off241 t, k0_off242 t, k0_off243 t],
    ![k0_off245 t, k0_off246 t, k0_off247 t, k0_off248 t, k0_off249 t, k0_off250 t, k0_off251 t, k0_off252 t, k0_off253 t, k0_off254 t, k0_off255 t, k0_off256 t, k0_off257 t, k0_off258 t, k0_off259 t, k0_off260 t],
    ![k0_off262 t, k0_off263 t, k0_off264 t, k0_off265 t, k0_off266 t, k0_off267 t, k0_off268 t, k0_off269 t, k0_off270 t, k0_off271 t, k0_off272 t, k0_off273 t, k0_off274 t, k0_off275 t, k0_off276 t, k0_off277 t]] n s

theorem lo0_eq : ∀ (n : Fin 8) (t : Fin k0_t2_loop.trips) (r : Fin 16),
    lo0 n t (BitVec.ofNat 32 r.val) = ![16 * t.val + r.val, 16 * n.val] := by decide +kernel

theorem lo1_eq : ∀ (n : Fin 8) (t : Fin k0_t2_loop.trips) (r : Fin 16),
    lo1 n t (BitVec.ofNat 32 r.val) = ![16 * t.val + r.val, 16 * n.val] := by decide +kernel

theorem so0_eq : ∀ (t : Fin k0_t1_loop.trips) (n : Fin 8) (s : Fin 16),
    so0 t n s = ![2 * t.val, s.val, 16 * n.val] := by decide +kernel

theorem so1_eq : ∀ (t : Fin k0_t1_loop.trips) (n : Fin 8) (s : Fin 16),
    so1 t n s = ![2 * t.val + 1, s.val, 16 * n.val] := by decide +kernel

theorem lo0_inb (n : Fin 8) (t : Fin k0_t2_loop.trips) (r : Fin 16) :
    ∀ a, lo0 n t (BitVec.ofNat 32 r.val) a + S1x16.size a ≤ S256x128.size a := by
  have ht : t.val < 16 := t.isLt
  rw [lo0_eq]; intro a; fin_cases a <;> simp <;> omega

theorem lo1_inb (n : Fin 8) (t : Fin k0_t2_loop.trips) (r : Fin 16) :
    ∀ a, lo1 n t (BitVec.ofNat 32 r.val) a + S1x16.size a ≤ S256x128.size a := by
  have ht : t.val < 16 := t.isLt
  rw [lo1_eq]; intro a; fin_cases a <;> simp <;> omega

theorem so0_inb (t : Fin k0_t1_loop.trips) (n : Fin 8) (s : Fin 16) :
    ∀ a, so0 t n s a + S1x1x16.size a ≤ S12x16x128.size a := by
  have ht : t.val < 6 := t.isLt
  rw [so0_eq]; intro a; fin_cases a <;> simp <;> omega

theorem so1_inb (t : Fin k0_t1_loop.trips) (n : Fin 8) (s : Fin 16) :
    ∀ a, so1 t n s a + S1x1x16.size a ≤ S12x16x128.size a := by
  have ht : t.val < 6 := t.isLt
  rw [so1_eq]; intro a; fin_cases a <;> simp <;> omega

/-- One sub-column: the loop over the blocks, then the list's sixteen stores. -/
def sub (i : grid0.Coords) (buf : Memref sig .scVector .vmem S256x128 .f32)
    (res : Memref sig .scVector .vmem S12x16x128 .f32) (o : Fin k0_t2_loop.trips → BitVec 32 → Fin 2 → ℕ)
    (h : ∀ t (r : Fin 16), ∀ a, o t (BitVec.ofNat 32 r.val) a + S1x16.size a ≤ S256x128.size a)
    (so : Fin 16 → Fin 3 → ℕ) (hs : ∀ s a, so s a + S1x1x16.size a ≤ S12x16x128.size a) : TP F i PUnit := do
  let (s0, s1, s2, s3, s4, s5, s6, s7, s8, s9, s10, s11, s12, s13, s14, s15) ← Scf.Loop.for k0_t2_loop k0_t2_ok (neg, neg, neg, neg, neg, neg, neg, neg, neg, neg, neg, neg, neg, neg, neg, neg)
    (fun t st => blk (F := F) i buf (o t) (h t) st)
  st1 i res (so 0) (hs 0) s0
  st1 i res (so 1) (hs 1) s1
  st1 i res (so 2) (hs 2) s2
  st1 i res (so 3) (hs 3) s3
  st1 i res (so 4) (hs 4) s4
  st1 i res (so 5) (hs 5) s5
  st1 i res (so 6) (hs 6) s6
  st1 i res (so 7) (hs 7) s7
  st1 i res (so 8) (hs 8) s8
  st1 i res (so 9) (hs 9) s9
  st1 i res (so 10) (hs 10) s10
  st1 i res (so 11) (hs 11) s11
  st1 i res (so 12) (hs 12) s12
  st1 i res (so 13) (hs 13) s13
  st1 i res (so 14) (hs 14) s14
  st1 i res (so 15) (hs 15) s15

/-- One task over its buffer: its eight sub-columns. -/
def task (i : grid0.Coords) (buf : Memref sig .scVector .vmem S256x128 .f32)
    (res : Memref sig .scVector .vmem S12x16x128 .f32) (o : Fin 8 → Fin k0_t2_loop.trips → BitVec 32 → Fin 2 → ℕ)
    (h : ∀ n t (r : Fin 16), ∀ a, o n t (BitVec.ofNat 32 r.val) a + S1x16.size a ≤ S256x128.size a)
    (so : Fin 8 → Fin 16 → Fin 3 → ℕ) (hs : ∀ n s a, so n s a + S1x1x16.size a ≤ S12x16x128.size a) :
    TP F i PUnit := do
  sub i buf res (o 0) (h 0) (so 0) (hs 0)
  sub i buf res (o 1) (h 1) (so 1) (hs 1)
  sub i buf res (o 2) (h 2) (so 2) (hs 2)
  sub i buf res (o 3) (h 3) (so 3) (hs 3)
  sub i buf res (o 4) (h 4) (so 4) (hs 4)
  sub i buf res (o 5) (h 5) (so 5) (hs 5)
  sub i buf res (o 6) (h 6) (so 6) (hs 6)
  sub i buf res (o 7) (h 7) (so 7) (hs 7)

/-- The source of a task's copy: a window of the array, one batch's rows and columns. -/
abbrev src (arg2 : Memref sig .scVector .hbm S8x4608x768 .f32) (o : Fin 3 → ℕ)
    (h : ∀ a, o a + S1x256x128.size a ≤ S8x4608x768.size a) : Memref sig .scVector .hbm S256x128 .f32 :=
  (arg2.slice (Rect.unit (s := S8x4608x768) o S1x256x128.size h) (fun _ => rfl)).squeeze S256x128
    squeezes_S1x256x128_S256x128

/-- The next task's copy, started where there is one: into the second buffer. -/
def pf0 (i : grid0.Coords) (arg2 : Memref sig .scVector .hbm S8x4608x768 .f32)
    (arg5 : Memref sig .scVector .vmem S256x128 .f32) (harg5 : arg5.IsWhole) (arg8 : DmaSems sig S_)
    (t : Fin k0_t1_loop.trips) : TP F i PUnit :=
  if h : k0_cond1 t = 1#1 then
    Prog.lift (.enqueueDma (src arg2 (k0_off3 i t) (k0_off3_inb i t h)) (.here arg5) (.dma arg8.sem)
      ((View.wordExact_bits rfl).reshape _ _) harg5.wordExact ⟨Or.inl rfl, trivial⟩)
  else pure ⟨⟩

/-- The next task's copy, started where there is one: into the first buffer. -/
def pf1 (i : grid0.Coords) (arg2 : Memref sig .scVector .hbm S8x4608x768 .f32)
    (arg4 : Memref sig .scVector .vmem S256x128 .f32) (harg4 : arg4.IsWhole) (arg7 : DmaSems sig S_)
    (t : Fin k0_t1_loop.trips) : TP F i PUnit :=
  if h : k0_cond2 t = 1#1 then
    Prog.lift (.enqueueDma (src arg2 (k0_off141 i t) (k0_off141_inb i t h)) (.here arg4) (.dma arg7.sem)
      ((View.wordExact_bits rfl).reshape _ _) harg4.wordExact ⟨Or.inl rfl, trivial⟩)
  else pure ⟨⟩

/-- The outer loop's body: two tasks, each waiting for its buffer and starting the next one's copy. -/
def t1 (i : grid0.Coords) (arg2 : Memref sig .scVector .hbm S8x4608x768 .f32)
    (arg4 : Memref sig .scVector .vmem S256x128 .f32) (harg4 : arg4.IsWhole)
    (arg5 : Memref sig .scVector .vmem S256x128 .f32) (harg5 : arg5.IsWhole)
    (arg6 : Memref sig .scVector .vmem S12x16x128 .f32) (arg7 arg8 : DmaSems sig S_)
    (t : Fin k0_t1_loop.trips) : TP F i PUnit := do
  Prog.lift (.waitDma2 arg7.sem (src arg2 (k0_off2 i t) (k0_off2_inb i t)) arg4
    ((View.wordExact_bits rfl).reshape _ _) harg4.wordExact)
  pf0 i arg2 arg5 harg5 arg8 t
  task i arg4 arg6 lo0 lo0_inb (so0 t) (so0_inb t)
  Prog.lift (.waitDma2 arg8.sem (src arg2 (k0_off140 i t) (k0_off140_inb i t)) arg5
    ((View.wordExact_bits rfl).reshape _ _) harg5.wordExact)
  pf1 i arg2 arg4 harg4 arg7 t
  task i arg5 arg6 lo1 lo1_inb (so1 t) (so1_inb t)

end Cert.KernelIdeal.K0
-- ==== Proof.K0Loops.lean ====
module

public import proofs.«01_k».proof.Proof.K0Prog

@[expose] public section

set_option maxRecDepth 65536
set_option maxHeartbeats 400000

namespace Cert.KernelIdeal.K0

open Cert.KernelIdeal Cert.KernelIdeal.Gen Idealize.ShloMosaic Idealize.SL.Sem

variable {F : FTy → Type} [FloatOps F]

theorem t2_eq (i arg2 harg2 arg3 harg3 arg4 harg4 arg5 harg5 arg6 harg6 arg7 arg8 v66_r0 v1 v64 k0_t1 v66 v78 c8_i32_41 v96 v101 v103 v104) :
    k0_t2_body (F := F) i arg2 harg2 arg3 harg3 arg4 harg4 arg5 harg5 arg6 harg6 arg7 arg8 v66_r0 v1 v64 k0_t1 v66 v78 c8_i32_41 v96 v101 v103 v104 =
      fun t st => blk i arg4 (k0_off4 t) (fun r => k0_off4_inb t r) st := rfl

theorem t3_eq (i arg2 harg2 arg3 harg3 arg4 harg4 arg5 harg5 arg6 harg6 arg7 arg8 v66_r0 v64 k0_t1 v66 c0_i32_83) :
    k0_t3_body (F := F) i arg2 harg2 arg3 harg3 arg4 harg4 arg5 harg5 arg6 harg6 arg7 arg8 v66_r0 v64 k0_t1 v66 c0_i32_83 =
      fun t st => blk i arg4 (k0_off21 t) (fun r => k0_off21_inb t r) st := rfl

theorem t4_eq (i arg2 harg2 arg3 harg3 arg4 harg4 arg5 harg5 arg6 harg6 arg7 arg8 v66_r0 v64 k0_t1 v66 v217_14 v217_15) :
    k0_t4_body (F := F) i arg2 harg2 arg3 harg3 arg4 harg4 arg5 harg5 arg6 harg6 arg7 arg8 v66_r0 v64 k0_t1 v66 v217_14 v217_15 =
      fun t st => blk i arg4 (k0_off38 t) (fun r => k0_off38_inb t r) st := rfl

theorem t5_eq (i arg2 harg2 arg3 harg3 arg4 harg4 arg5 harg5 arg6 harg6 arg7 arg8 v66_r0 v64 k0_t1 v66 v299_12 v299_13 v299_14 v299_15 v362) :
    k0_t5_body (F := F) i arg2 harg2 arg3 harg3 arg4 harg4 arg5 harg5 arg6 harg6 arg7 arg8 v66_r0 v64 k0_t1 v66 v299_12 v299_13 v299_14 v299_15 v362 =
      fun t st => blk i arg4 (k0_off55 t) (fun r => k0_off55_inb t r) st := rfl

theorem t6_eq (i arg2 harg2 arg3 harg3 arg4 harg4 arg5 harg5 arg6 harg6 arg7 arg8 v66_r0 v64 k0_t1 v66 v381_11 v381_12 v381_13 v381_14 v381_15 v436) :
    k0_t6_body (F := F) i arg2 harg2 arg3 harg3 arg4 harg4 arg5 harg5 arg6 harg6 arg7 arg8 v66_r0 v64 k0_t1 v66 v381_11 v381_12 v381_13 v381_14 v381_15 v436 =
      fun t st => blk i arg4 (k0_off72 t) (fun r => k0_off72_inb t r) st := rfl

theorem t7_eq (i arg2 harg2 arg3 harg3 arg4 harg4 arg5 harg5 arg6 harg6 arg7 arg8 v66_r0 v64 k0_t1 v66 v463_9 v463_10 v463_11 v463_12 v463_13 v463_14 v463_15 c9_i32_209) :
    k0_t7_body (F := F) i arg2 harg2 arg3 harg3 arg4 harg4 arg5 harg5 arg6 harg6 arg7 arg8 v66_r0 v64 k0_t1 v66 v463_9 v463_10 v463_11 v463_12 v463_13 v463_14 v463_15 c9_i32_209 =
      fun t st => blk i arg4 (k0_off89 t) (fun r => k0_off89_inb t r) st := rfl

theorem t8_eq (i arg2 harg2 arg3 harg3 arg4 harg4 arg5 harg5 arg6 harg6 arg7 arg8 v66_r0 v64 k0_t1 v66 v545_15 v620) :
    k0_t8_body (F := F) i arg2 harg2 arg3 harg3 arg4 harg4 arg5 harg5 arg6 harg6 arg7 arg8 v66_r0 v64 k0_t1 v66 v545_15 v620 =
      fun t st => blk i arg4 (k0_off106 t) (fun r => k0_off106_inb t r) st := rfl

theorem t9_eq (i arg2 harg2 arg3 harg3 arg4 harg4 arg5 harg5 arg6 harg6 arg7 arg8 v66_r0 v64 k0_t1 v66 v627_13 v627_14 v627_15 c13_i32_287) :
    k0_t9_body (F := F) i arg2 harg2 arg3 harg3 arg4 harg4 arg5 harg5 arg6 harg6 arg7 arg8 v66_r0 v64 k0_t1 v66 v627_13 v627_14 v627_15 c13_i32_287 =
      fun t st => blk i arg4 (k0_off123 t) (fun r => k0_off123_inb t r) st := rfl

theorem t10_eq (i arg2 harg2 arg3 harg3 arg4 harg4 arg5 harg5 arg6 harg6 arg7 arg8 v66_r0 v1 v64 k0_t1 v791 v837 v839 v840 v841 v842 v843) :
    k0_t10_body (F := F) i arg2 harg2 arg3 harg3 arg4 harg4 arg5 harg5 arg6 harg6 arg7 arg8 v66_r0 v1 v64 k0_t1 v791 v837 v839 v840 v841 v842 v843 =
      fun t st => blk i arg5 (k0_off142 t) (fun r => k0_off142_inb t r) st := rfl

theorem t11_eq (i arg2 harg2 arg3 harg3 arg4 harg4 arg5 harg5 arg6 harg6 arg7 arg8 v66_r0 v64 k0_t1 v791 v860_11 v860_12 v860_13 v860_14 v860_15) :
    k0_t11_body (F := F) i arg2 harg2 arg3 harg3 arg4 harg4 arg5 harg5 arg6 harg6 arg7 arg8 v66_r0 v64 k0_t1 v791 v860_11 v860_12 v860_13 v860_14 v860_15 =
      fun t st => blk i arg5 (k0_off159 t) (fun r => k0_off159_inb t r) st := rfl

theorem t12_eq (i arg2 harg2 arg3 harg3 arg4 harg4 arg5 harg5 arg6 harg6 arg7 arg8 v66_r0 v64 k0_t1 v791 v942_9 v942_10 v942_11 v942_12 v942_13 v942_14 v942_15 v990) :
    k0_t12_body (F := F) i arg2 harg2 arg3 harg3 arg4 harg4 arg5 harg5 arg6 harg6 arg7 arg8 v66_r0 v64 k0_t1 v791 v942_9 v942_10 v942_11 v942_12 v942_13 v942_14 v942_15 v990 =
      fun t st => blk i arg5 (k0_off176 t) (fun r => k0_off176_inb t r) st := rfl

theorem t13_eq (i arg2 harg2 arg3 harg3 arg4 harg4 arg5 harg5 arg6 harg6 arg7 arg8 v66_r0 v64 k0_t1 v791 v1024_15) :
    k0_t13_body (F := F) i arg2 harg2 arg3 harg3 arg4 harg4 arg5 harg5 arg6 harg6 arg7 arg8 v66_r0 v64 k0_t1 v791 v1024_15 =
      fun t st => blk i arg5 (k0_off193 t) (fun r => k0_off193_inb t r) st := rfl

theorem t14_eq (i arg2 harg2 arg3 harg3 arg4 harg4 arg5 harg5 arg6 harg6 arg7 arg8 v66_r0 v64 k0_t1 v791 v1106_13 v1106_14 v1106_15 v1174) :
    k0_t14_body (F := F) i arg2 harg2 arg3 harg3 arg4 harg4 arg5 harg5 arg6 harg6 arg7 arg8 v66_r0 v64 k0_t1 v791 v1106_13 v1106_14 v1106_15 v1174 =
      fun t st => blk i arg5 (k0_off210 t) (fun r => k0_off210_inb t r) st := rfl

theorem t15_eq (i arg2 harg2 arg3 harg3 arg4 harg4 arg5 harg5 arg6 harg6 arg7 arg8 v66_r0 v64 k0_t1 v791 v1188_12 v1188_13 v1188_14 v1188_15 v1248) :
    k0_t15_body (F := F) i arg2 harg2 arg3 harg3 arg4 harg4 arg5 harg5 arg6 harg6 arg7 arg8 v66_r0 v64 k0_t1 v791 v1188_12 v1188_13 v1188_14 v1188_15 v1248 =
      fun t st => blk i arg5 (k0_off227 t) (fun r => k0_off227_inb t r) st := rfl

theorem t16_eq (i arg2 harg2 arg3 harg3 arg4 harg4 arg5 harg5 arg6 harg6 arg7 arg8 v66_r0 v64 k0_t1 v791 v1270_10 v1270_11 v1270_12 v1270_13 v1270_14 v1270_15 c10_i32_567) :
    k0_t16_body (F := F) i arg2 harg2 arg3 harg3 arg4 harg4 arg5 harg5 arg6 harg6 arg7 arg8 v66_r0 v64 k0_t1 v791 v1270_10 v1270_11 v1270_12 v1270_13 v1270_14 v1270_15 c10_i32_567 =
      fun t st => blk i arg5 (k0_off244 t) (fun r => k0_off244_inb t r) st := rfl

theorem t17_eq (i arg2 harg2 arg3 harg3 arg4 harg4 arg5 harg5 arg6 harg6 arg7 arg8 v66_r0 v64 k0_t1 v791 v1432) :
    k0_t17_body (F := F) i arg2 harg2 arg3 harg3 arg4 harg4 arg5 harg5 arg6 harg6 arg7 arg8 v66_r0 v64 k0_t1 v791 v1432 =
      fun t st => blk i arg5 (k0_off261 t) (fun r => k0_off261_inb t r) st := rfl

end Cert.KernelIdeal.K0
-- ==== Proof.K0Binds.lean ====
module

public import proofs.«01_k».proof.Proof.K0Loops

@[expose] public section

set_option maxRecDepth 65536
set_option maxHeartbeats 200000

namespace Cert.KernelIdeal.K0

open Cert.KernelIdeal Cert.KernelIdeal.Gen Idealize.ShloMosaic Idealize.SL.Sem

variable {F : FTy → Type} [FloatOps F]

theorem p84_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v1 : BitVec 32) (v64 : FVec F S16 .f32) (k0_t1 : Fin k0_t1_loop.trips) (v66 : BitVec 32) (v78 : BitVec 32) (c8_i32_41 : BitVec 32) (v96 : BitVec 32) (v101 : BitVec 32) (v103 : BitVec 32) (v104 : BitVec 1) {β : Type}
    (g : (Σ' (v135_1 : FVec F S16 .f32) (v135_2 : FVec F S16 .f32) (v135_3 : FVec F S16 .f32) (v135_4 : FVec F S16 .f32) (v135_5 : FVec F S16 .f32) (v135_6 : FVec F S16 .f32) (v135_7 : FVec F S16 .f32) (v135_8 : FVec F S16 .f32) (v135_9 : FVec F S16 .f32) (v135_10 : FVec F S16 .f32) (v135_11 : FVec F S16 .f32) (v135_12 : FVec F S16 .f32) (v135_13 : FVec F S16 .f32) (v135_14 : FVec F S16 .f32) (v135_15 : FVec F S16 .f32), BitVec 32) → TP F i β) :
    (k0_part84 (F := F) i arg2 harg2 arg3 harg3 arg4 harg4 arg5 harg5 arg6 harg6 arg7 arg8 v66_r0 v1 v64 k0_t1 v66 v78 c8_i32_41 v96 v101 v103 v104 >>= g) = (do
      let v128 : Memref sig .scVector .hbm S1x256x128 .f32 := arg2.slice (Rect.unit (s := S8x4608x768) (k0_off2 i k0_t1) S1x256x128.size (k0_off2_inb i k0_t1)) (fun _ => rfl)
      let v129 : Memref sig .scVector .hbm S256x128 .f32 := v128.squeeze S256x128 squeezes_S1x256x128_S256x128
      Prog.lift (.waitDma2 arg7.sem v129 arg4 ((View.wordExact_bits rfl).reshape _ _) harg4.wordExact)
      pf0 i arg2 arg5 harg5 arg8 k0_t1
      let (v135_0, v135_1, v135_2, v135_3, v135_4, v135_5, v135_6, v135_7, v135_8, v135_9, v135_10, v135_11, v135_12, v135_13, v135_14, v135_15) ← Scf.Loop.for k0_t2_loop k0_t2_ok (v64, v64, v64, v64, v64, v64, v64, v64, v64, v64, v64, v64, v64, v64, v64, v64) (fun t st => blk (F := F) i arg4 (k0_off4 t) (fun r => k0_off4_inb t r) st)
      let v138 : Vec F S1x1x16 .f32 ← Prog.lift (.load arg6 (Rect.unit (s := S12x16x128) (k0_off5 k0_t1) S1x1x16.size (k0_off5_inb k0_t1)).toLoadRect (View.loadsAt_vmem h_S1x1x16))
      Prog.lift (.store arg6 (Rect.unit (s := S12x16x128) (k0_off5 k0_t1) S1x1x16.size (k0_off5_inb k0_t1)) (k0_pay2910 v135_0) Finset.univ (View.stores_vmem_bits_univ h_S1x1x16 rfl) (.inl rfl))
      g ⟨v135_1, v135_2, v135_3, v135_4, v135_5, v135_6, v135_7, v135_8, v135_9, v135_10, v135_11, v135_12, v135_13, v135_14, v135_15, 1#32⟩) := by
  rw [k0_part84_eq_skeleton]; unfold k0_part84_skel
  simp only [t2_eq]
  unfold pf0
  by_cases hc : k0_cond1 k0_t1 = 1#1
  · simp only [dif_pos hc, bind_assoc, pure_bind]; rfl
  · simp only [dif_neg hc, bind_assoc, pure_bind]

theorem p87_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v66 : BitVec 32) (c0_i32_83 : BitVec 32) {β : Type}
    (g : (Σ' (v217_7 : FVec F S16 .f32) (v217_8 : FVec F S16 .f32) (v217_9 : FVec F S16 .f32) (v217_10 : FVec F S16 .f32) (v217_11 : FVec F S16 .f32) (v217_12 : FVec F S16 .f32) (v217_13 : FVec F S16 .f32) (v217_14 : FVec F S16 .f32) (v217_15 : FVec F S16 .f32), FVec F S1x1x16 .f32) → TP F i β) :
    (k0_part87 (F := F) i arg2 harg2 arg3 harg3 arg4 harg4 arg5 harg5 arg6 harg6 arg7 arg8 v66_r0 v64 k0_t1 v66 c0_i32_83 >>= g) = (do
      let (v217_0, v217_1, v217_2, v217_3, v217_4, v217_5, v217_6, v217_7, v217_8, v217_9, v217_10, v217_11, v217_12, v217_13, v217_14, v217_15) ← Scf.Loop.for k0_t2_loop k0_t2_ok (v64, v64, v64, v64, v64, v64, v64, v64, v64, v64, v64, v64, v64, v64, v64, v64) (fun t st => blk (F := F) i arg4 (k0_off21 t) (fun r => k0_off21_inb t r) st)
      let v220 : Vec F S1x1x16 .f32 ← Prog.lift (.load arg6 (Rect.unit (s := S12x16x128) (k0_off22 k0_t1) S1x1x16.size (k0_off22_inb k0_t1)).toLoadRect (View.loadsAt_vmem h_S1x1x16))
      Prog.lift (.store arg6 (Rect.unit (s := S12x16x128) (k0_off22 k0_t1) S1x1x16.size (k0_off22_inb k0_t1)) (k0_pay2955 v217_0) Finset.univ (View.stores_vmem_bits_univ h_S1x1x16 rfl) (.inl rfl))
      let v225 : Vec F S1x1x16 .f32 ← Prog.lift (.load arg6 (Rect.unit (s := S12x16x128) (k0_off23 k0_t1) S1x1x16.size (k0_off23_inb k0_t1)).toLoadRect (View.loadsAt_vmem h_S1x1x16))
      Prog.lift (.store arg6 (Rect.unit (s := S12x16x128) (k0_off23 k0_t1) S1x1x16.size (k0_off23_inb k0_t1)) (k0_pay2956 v217_1) Finset.univ (View.stores_vmem_bits_univ h_S1x1x16 rfl) (.inl rfl))
      let v230 : Vec F S1x1x16 .f32 ← Prog.lift (.load arg6 (Rect.unit (s := S12x16x128) (k0_off24 k0_t1) S1x1x16.size (k0_off24_inb k0_t1)).toLoadRect (View.loadsAt_vmem h_S1x1x16))
      Prog.lift (.store arg6 (Rect.unit (s := S12x16x128) (k0_off24 k0_t1) S1x1x16.size (k0_off24_inb k0_t1)) (k0_pay2957 v217_2) Finset.univ (View.stores_vmem_bits_univ h_S1x1x16 rfl) (.inl rfl))
      let v235 : Vec F S1x1x16 .f32 ← Prog.lift (.load arg6 (Rect.unit (s := S12x16x128) (k0_off25 k0_t1) S1x1x16.size (k0_off25_inb k0_t1)).toLoadRect (View.loadsAt_vmem h_S1x1x16))
      Prog.lift (.store arg6 (Rect.unit (s := S12x16x128) (k0_off25 k0_t1) S1x1x16.size (k0_off25_inb k0_t1)) (k0_pay2958 v217_3) Finset.univ (View.stores_vmem_bits_univ h_S1x1x16 rfl) (.inl rfl))
      let v240 : Vec F S1x1x16 .f32 ← Prog.lift (.load arg6 (Rect.unit (s := S12x16x128) (k0_off26 k0_t1) S1x1x16.size (k0_off26_inb k0_t1)).toLoadRect (View.loadsAt_vmem h_S1x1x16))
      Prog.lift (.store arg6 (Rect.unit (s := S12x16x128) (k0_off26 k0_t1) S1x1x16.size (k0_off26_inb k0_t1)) (k0_pay2959 v217_4) Finset.univ (View.stores_vmem_bits_univ h_S1x1x16 rfl) (.inl rfl))
      let v245 : Vec F S1x1x16 .f32 ← Prog.lift (.load arg6 (Rect.unit (s := S12x16x128) (k0_off27 k0_t1) S1x1x16.size (k0_off27_inb k0_t1)).toLoadRect (View.loadsAt_vmem h_S1x1x16))
      Prog.lift (.store arg6 (Rect.unit (s := S12x16x128) (k0_off27 k0_t1) S1x1x16.size (k0_off27_inb k0_t1)) (k0_pay2960 v217_5) Finset.univ (View.stores_vmem_bits_univ h_S1x1x16 rfl) (.inl rfl))
      let v250 : Vec F S1x1x16 .f32 ← Prog.lift (.load arg6 (Rect.unit (s := S12x16x128) (k0_off28 k0_t1) S1x1x16.size (k0_off28_inb k0_t1)).toLoadRect (View.loadsAt_vmem h_S1x1x16))
      g ⟨v217_7, v217_8, v217_9, v217_10, v217_11, v217_12, v217_13, v217_14, v217_15, k0_pay2961 v217_6⟩) := by
  rw [k0_part87_eq_skeleton]; unfold k0_part87_skel
  simp only [t3_eq]
  simp only [bind_assoc, pure_bind]

theorem p89_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v66 : BitVec 32) (v217_14 : FVec F S16 .f32) (v217_15 : FVec F S16 .f32) {β : Type}
    (g : (Σ' (v299_5 : FVec F S16 .f32) (v299_6 : FVec F S16 .f32) (v299_7 : FVec F S16 .f32) (v299_8 : FVec F S16 .f32) (v299_9 : FVec F S16 .f32) (v299_10 : FVec F S16 .f32) (v299_11 : FVec F S16 .f32) (v299_12 : FVec F S16 .f32) (v299_13 : FVec F S16 .f32) (v299_14 : FVec F S16 .f32) (v299_15 : FVec F S16 .f32), BitVec 32) → TP F i β) :
    (k0_part89 (F := F) i arg2 harg2 arg3 harg3 arg4 harg4 arg5 harg5 arg6 harg6 arg7 arg8 v66_r0 v64 k0_t1 v66 v217_14 v217_15 >>= g) = (do
      let v290 : Vec F S1x1x16 .f32 ← Prog.lift (.load arg6 (Rect.unit (s := S12x16x128) (k0_off36 k0_t1) S1x1x16.size (k0_off36_inb k0_t1)).toLoadRect (View.loadsAt_vmem h_S1x1x16))
      Prog.lift (.store arg6 (Rect.unit (s := S12x16x128) (k0_off36 k0_t1) S1x1x16.size (k0_off36_inb k0_t1)) (k0_pay2969 v217_14) Finset.univ (View.stores_vmem_bits_univ h_S1x1x16 rfl) (.inl rfl))
      let v295 : Vec F S1x1x16 .f32 ← Prog.lift (.load arg6 (Rect.unit (s := S12x16x128) (k0_off37 k0_t1) S1x1x16.size (k0_off37_inb k0_t1)).toLoadRect (View.loadsAt_vmem h_S1x1x16))
      Prog.lift (.store arg6 (Rect.unit (s := S12x16x128) (k0_off37 k0_t1) S1x1x16.size (k0_off37_inb k0_t1)) (k0_pay2970 v217_15) Finset.univ (View.stores_vmem_bits_univ h_S1x1x16 rfl) (.inl rfl))
      let (v299_0, v299_1, v299_2, v299_3, v299_4, v299_5, v299_6, v299_7, v299_8, v299_9, v299_10, v299_11, v299_12, v299_13, v299_14, v299_15) ← Scf.Loop.for k0_t2_loop k0_t2_ok (v64, v64, v64, v64, v64, v64, v64, v64, v64, v64, v64, v64, v64, v64, v64, v64) (fun t st => blk (F := F) i arg4 (k0_off38 t) (fun r => k0_off38_inb t r) st)
      let v302 : Vec F S1x1x16 .f32 ← Prog.lift (.load arg6 (Rect.unit (s := S12x16x128) (k0_off39 k0_t1) S1x1x16.size (k0_off39_inb k0_t1)).toLoadRect (View.loadsAt_vmem h_S1x1x16))
      Prog.lift (.store arg6 (Rect.unit (s := S12x16x128) (k0_off39 k0_t1) S1x1x16.size (k0_off39_inb k0_t1)) (k0_pay3000 v299_0) Finset.univ (View.stores_vmem_bits_univ h_S1x1x16 rfl) (.inl rfl))
      let v307 : Vec F S1x1x16 .f32 ← Prog.lift (.load arg6 (Rect.unit (s := S12x16x128) (k0_off40 k0_t1) S1x1x16.size (k0_off40_inb k0_t1)).toLoadRect (View.loadsAt_vmem h_S1x1x16))
      Prog.lift (.store arg6 (Rect.unit (s := S12x16x128) (k0_off40 k0_t1) S1x1x16.size (k0_off40_inb k0_t1)) (k0_pay3001 v299_1) Finset.univ (View.stores_vmem_bits_univ h_S1x1x16 rfl) (.inl rfl))
      let v312 : Vec F S1x1x16 .f32 ← Prog.lift (.load arg6 (Rect.unit (s := S12x16x128) (k0_off41 k0_t1) S1x1x16.size (k0_off41_inb k0_t1)).toLoadRect (View.loadsAt_vmem h_S1x1x16))
      Prog.lift (.store arg6 (Rect.unit (s := S12x16x128) (k0_off41 k0_t1) S1x1x16.size (k0_off41_inb k0_t1)) (k0_pay3002 v299_2) Finset.univ (View.stores_vmem_bits_univ h_S1x1x16 rfl) (.inl rfl))
      let v317 : Vec F S1x1x16 .f32 ← Prog.lift (.load arg6 (Rect.unit (s := S12x16x128) (k0_off42 k0_t1) S1x1x16.size (k0_off42_inb k0_t1)).toLoadRect (View.loadsAt_vmem h_S1x1x16))
      Prog.lift (.store arg6 (Rect.unit (s := S12x16x128) (k0_off42 k0_t1) S1x1x16.size (k0_off42_inb k0_t1)) (k0_pay3003 v299_3) Finset.univ (View.stores_vmem_bits_univ h_S1x1x16 rfl) (.inl rfl))
      let v322 : Vec F S1x1x16 .f32 ← Prog.lift (.load arg6 (Rect.unit (s := S12x16x128) (k0_off43 k0_t1) S1x1x16.size (k0_off43_inb k0_t1)).toLoadRect (View.loadsAt_vmem h_S1x1x16))
      Prog.lift (.store arg6 (Rect.unit (s := S12x16x128) (k0_off43 k0_t1) S1x1x16.size (k0_off43_inb k0_t1)) (k0_pay3004 v299_4) Finset.univ (View.stores_vmem_bits_univ h_S1x1x16 rfl) (.inl rfl))
      g ⟨v299_5, v299_6, v299_7, v299_8, v299_9, v299_10, v299_11, v299_12, v299_13, v299_14, v299_15, 5#32⟩) := by
  rw [k0_part89_eq_skeleton]; unfold k0_part89_skel
  simp only [t4_eq]
  simp only [bind_assoc, pure_bind]

theorem p91_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v66 : BitVec 32) (v299_12 : FVec F S16 .f32) (v299_13 : FVec F S16 .f32) (v299_14 : FVec F S16 .f32) (v299_15 : FVec F S16 .f32) (v362 : Vec F S1x1x16 .f32) {β : Type}
    (g : (Σ' (v381_3 : FVec F S16 .f32) (v381_4 : FVec F S16 .f32) (v381_5 : FVec F S16 .f32) (v381_6 : FVec F S16 .f32) (v381_7 : FVec F S16 .f32) (v381_8 : FVec F S16 .f32) (v381_9 : FVec F S16 .f32) (v381_10 : FVec F S16 .f32) (v381_11 : FVec F S16 .f32) (v381_12 : FVec F S16 .f32) (v381_13 : FVec F S16 .f32) (v381_14 : FVec F S16 .f32), FVec F S16 .f32) → TP F i β) :
    (k0_part91 (F := F) i arg2 harg2 arg3 harg3 arg4 harg4 arg5 harg5 arg6 harg6 arg7 arg8 v66_r0 v64 k0_t1 v66 v299_12 v299_13 v299_14 v299_15 v362 >>= g) = (do
      Prog.lift (.store arg6 (Rect.unit (s := S12x16x128) (k0_off51 k0_t1) S1x1x16.size (k0_off51_inb k0_t1)) (k0_pay3012 v299_12) Finset.univ (View.stores_vmem_bits_univ h_S1x1x16 rfl) (.inl rfl))
      let v367 : Vec F S1x1x16 .f32 ← Prog.lift (.load arg6 (Rect.unit (s := S12x16x128) (k0_off52 k0_t1) S1x1x16.size (k0_off52_inb k0_t1)).toLoadRect (View.loadsAt_vmem h_S1x1x16))
      Prog.lift (.store arg6 (Rect.unit (s := S12x16x128) (k0_off52 k0_t1) S1x1x16.size (k0_off52_inb k0_t1)) (k0_pay3013 v299_13) Finset.univ (View.stores_vmem_bits_univ h_S1x1x16 rfl) (.inl rfl))
      let v372 : Vec F S1x1x16 .f32 ← Prog.lift (.load arg6 (Rect.unit (s := S12x16x128) (k0_off53 k0_t1) S1x1x16.size (k0_off53_inb k0_t1)).toLoadRect (View.loadsAt_vmem h_S1x1x16))
      Prog.lift (.store arg6 (Rect.unit (s := S12x16x128) (k0_off53 k0_t1) S1x1x16.size (k0_off53_inb k0_t1)) (k0_pay3014 v299_14) Finset.univ (View.stores_vmem_bits_univ h_S1x1x16 rfl) (.inl rfl))
      let v377 : Vec F S1x1x16 .f32 ← Prog.lift (.load arg6 (Rect.unit (s := S12x16x128) (k0_off54 k0_t1) S1x1x16.size (k0_off54_inb k0_t1)).toLoadRect (View.loadsAt_vmem h_S1x1x16))
      Prog.lift (.store arg6 (Rect.unit (s := S12x16x128) (k0_off54 k0_t1) S1x1x16.size (k0_off54_inb k0_t1)) (k0_pay3015 v299_15) Finset.univ (View.stores_vmem_bits_univ h_S1x1x16 rfl) (.inl rfl))
      let (v381_0, v381_1, v381_2, v381_3, v381_4, v381_5, v381_6, v381_7, v381_8, v381_9, v381_10, v381_11, v381_12, v381_13, v381_14, v381_15) ← Scf.Loop.for k0_t2_loop k0_t2_ok (v64, v64, v64, v64, v64, v64, v64, v64, v64, v64, v64, v64, v64, v64, v64, v64) (fun t st => blk (F := F) i arg4 (k0_off55 t) (fun r => k0_off55_inb t r) st)
      let v384 : Vec F S1x1x16 .f32 ← Prog.lift (.load arg6 (Rect.unit (s := S12x16x128) (k0_off56 k0_t1) S1x1x16.size (k0_off56_inb k0_t1)).toLoadRect (View.loadsAt_vmem h_S1x1x16))
      Prog.lift (.store arg6 (Rect.unit (s := S12x16x128) (k0_off56 k0_t1) S1x1x16.size (k0_off56_inb k0_t1)) (k0_pay3045 v381_0) Finset.univ (View.stores_vmem_bits_univ h_S1x1x16 rfl) (.inl rfl))
      let v389 : Vec F S1x1x16 .f32 ← Prog.lift (.load arg6 (Rect.unit (s := S12x16x128) (k0_off57 k0_t1) S1x1x16.size (k0_off57_inb k0_t1)).toLoadRect (View.loadsAt_vmem h_S1x1x16))
      Prog.lift (.store arg6 (Rect.unit (s := S12x16x128) (k0_off57 k0_t1) S1x1x16.size (k0_off57_inb k0_t1)) (k0_pay3046 v381_1) Finset.univ (View.stores_vmem_bits_univ h_S1x1x16 rfl) (.inl rfl))
      let v394 : Vec F S1x1x16 .f32 ← Prog.lift (.load arg6 (Rect.unit (s := S12x16x128) (k0_off58 k0_t1) S1x1x16.size (k0_off58_inb k0_t1)).toLoadRect (View.loadsAt_vmem h_S1x1x16))
      Prog.lift (.store arg6 (Rect.unit (s := S12x16x128) (k0_off58 k0_t1) S1x1x16.size (k0_off58_inb k0_t1)) (k0_pay3047 v381_2) Finset.univ (View.stores_vmem_bits_univ h_S1x1x16 rfl) (.inl rfl))
      g ⟨v381_3, v381_4, v381_5, v381_6, v381_7, v381_8, v381_9, v381_10, v381_11, v381_12, v381_13, v381_14, v381_15⟩) := by
  rw [k0_part91_eq_skeleton]; unfold k0_part91_skel
  simp only [t5_eq]
  simp only [bind_assoc, pure_bind]

theorem p93_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v66 : BitVec 32) (v381_11 : FVec F S16 .f32) (v381_12 : FVec F S16 .f32) (v381_13 : FVec F S16 .f32) (v381_14 : FVec F S16 .f32) (v381_15 : FVec F S16 .f32) (v436 : FVec F S1x1x16 .f32) {β : Type}
    (g : (Σ' (v463_1 : FVec F S16 .f32) (v463_2 : FVec F S16 .f32) (v463_3 : FVec F S16 .f32) (v463_4 : FVec F S16 .f32) (v463_5 : FVec F S16 .f32) (v463_6 : FVec F S16 .f32) (v463_7 : FVec F S16 .f32) (v463_8 : FVec F S16 .f32) (v463_9 : FVec F S16 .f32) (v463_10 : FVec F S16 .f32) (v463_11 : FVec F S16 .f32) (v463_12 : FVec F S16 .f32) (v463_13 : FVec F S16 .f32) (v463_14 : FVec F S16 .f32) (v463_15 : FVec F S16 .f32), Vec F S1x1x16 .f32) → TP F i β) :
    (k0_part93 (F := F) i arg2 harg2 arg3 harg3 arg4 harg4 arg5 harg5 arg6 harg6 arg7 arg8 v66_r0 v64 k0_t1 v66 v381_11 v381_12 v381_13 v381_14 v381_15 v436 >>= g) = (do
      Prog.lift (.store arg6 (Rect.unit (s := S12x16x128) (k0_off66 k0_t1) S1x1x16.size (k0_off66_inb k0_t1)) v436 Finset.univ (View.stores_vmem_bits_univ h_S1x1x16 rfl) (.inl rfl))
      let v439 : Vec F S1x1x16 .f32 ← Prog.lift (.load arg6 (Rect.unit (s := S12x16x128) (k0_off67 k0_t1) S1x1x16.size (k0_off67_inb k0_t1)).toLoadRect (View.loadsAt_vmem h_S1x1x16))
      Prog.lift (.store arg6 (Rect.unit (s := S12x16x128) (k0_off67 k0_t1) S1x1x16.size (k0_off67_inb k0_t1)) (k0_pay3056 v381_11) Finset.univ (View.stores_vmem_bits_univ h_S1x1x16 rfl) (.inl rfl))
      let v444 : Vec F S1x1x16 .f32 ← Prog.lift (.load arg6 (Rect.unit (s := S12x16x128) (k0_off68 k0_t1) S1x1x16.size (k0_off68_inb k0_t1)).toLoadRect (View.loadsAt_vmem h_S1x1x16))
      Prog.lift (.store arg6 (Rect.unit (s := S12x16x128) (k0_off68 k0_t1) S1x1x16.size (k0_off68_inb k0_t1)) (k0_pay3057 v381_12) Finset.univ (View.stores_vmem_bits_univ h_S1x1x16 rfl) (.inl rfl))
      let v449 : Vec F S1x1x16 .f32 ← Prog.lift (.load arg6 (Rect.unit (s := S12x16x128) (k0_off69 k0_t1) S1x1x16.size (k0_off69_inb k0_t1)).toLoadRect (View.loadsAt_vmem h_S1x1x16))
      Prog.lift (.store arg6 (Rect.unit (s := S12x16x128) (k0_off69 k0_t1) S1x1x16.size (k0_off69_inb k0_t1)) (k0_pay3058 v381_13) Finset.univ (View.stores_vmem_bits_univ h_S1x1x16 rfl) (.inl rfl))
      let v454 : Vec F S1x1x16 .f32 ← Prog.lift (.load arg6 (Rect.unit (s := S12x16x128) (k0_off70 k0_t1) S1x1x16.size (k0_off70_inb k0_t1)).toLoadRect (View.loadsAt_vmem h_S1x1x16))
      Prog.lift (.store arg6 (Rect.unit (s := S12x16x128) (k0_off70 k0_t1) S1x1x16.size (k0_off70_inb k0_t1)) (k0_pay3059 v381_14) Finset.univ (View.stores_vmem_bits_univ h_S1x1x16 rfl) (.inl rfl))
      let v459 : Vec F S1x1x16 .f32 ← Prog.lift (.load arg6 (Rect.unit (s := S12x16x128) (k0_off71 k0_t1) S1x1x16.size (k0_off71_inb k0_t1)).toLoadRect (View.loadsAt_vmem h_S1x1x16))
      Prog.lift (.store arg6 (Rect.unit (s := S12x16x128) (k0_off71 k0_t1) S1x1x16.size (k0_off71_inb k0_t1)) (k0_pay3060 v381_15) Finset.univ (View.stores_vmem_bits_univ h_S1x1x16 rfl) (.inl rfl))
      let (v463_0, v463_1, v463_2, v463_3, v463_4, v463_5, v463_6, v463_7, v463_8, v463_9, v463_10, v463_11, v463_12, v463_13, v463_14, v463_15) ← Scf.Loop.for k0_t2_loop k0_t2_ok (v64, v64, v64, v64, v64, v64, v64, v64, v64, v64, v64, v64, v64, v64, v64, v64) (fun t st => blk (F := F) i arg4 (k0_off72 t) (fun r => k0_off72_inb t r) st)
      let v466 : Vec F S1x1x16 .f32 ← Prog.lift (.load arg6 (Rect.unit (s := S12x16x128) (k0_off73 k0_t1) S1x1x16.size (k0_off73_inb k0_t1)).toLoadRect (View.loadsAt_vmem h_S1x1x16))
      Prog.lift (.store arg6 (Rect.unit (s := S12x16x128) (k0_off73 k0_t1) S1x1x16.size (k0_off73_inb k0_t1)) (k0_pay3090 v463_0) Finset.univ (View.stores_vmem_bits_univ h_S1x1x16 rfl) (.inl rfl))
      let v471 : Vec F S1x1x16 .f32 ← Prog.lift (.load arg6 (Rect.unit (s := S12x16x128) (k0_off74 k0_t1) S1x1x16.size (k0_off74_inb k0_t1)).toLoadRect (View.loadsAt_vmem h_S1x1x16))
      g ⟨v463_1, v463_2, v463_3, v463_4, v463_5, v463_6, v463_7, v463_8, v463_9, v463_10, v463_11, v463_12, v463_13, v463_14, v463_15, v471⟩) := by
  rw [k0_part93_eq_skeleton]; unfold k0_part93_skel
  simp only [t6_eq]
  simp only [bind_assoc, pure_bind]

theorem p95_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v66 : BitVec 32) (v463_9 : FVec F S16 .f32) (v463_10 : FVec F S16 .f32) (v463_11 : FVec F S16 .f32) (v463_12 : FVec F S16 .f32) (v463_13 : FVec F S16 .f32) (v463_14 : FVec F S16 .f32) (v463_15 : FVec F S16 .f32) (c9_i32_209 : BitVec 32) {β : Type}
    (g : (Σ' (v545_0 : FVec F S16 .f32) (v545_1 : FVec F S16 .f32) (v545_2 : FVec F S16 .f32) (v545_3 : FVec F S16 .f32) (v545_4 : FVec F S16 .f32) (v545_5 : FVec F S16 .f32) (v545_6 : FVec F S16 .f32) (v545_7 : FVec F S16 .f32) (v545_8 : FVec F S16 .f32) (v545_9 : FVec F S16 .f32) (v545_10 : FVec F S16 .f32) (v545_11 : FVec F S16 .f32) (v545_12 : FVec F S16 .f32) (v545_13 : FVec F S16 .f32) (v545_14 : FVec F S16 .f32), FVec F S16 .f32) → TP F i β) :
    (k0_part95 (F := F) i arg2 harg2 arg3 harg3 arg4 harg4 arg5 harg5 arg6 harg6 arg7 arg8 v66_r0 v64 k0_t1 v66 v463_9 v463_10 v463_11 v463_12 v463_13 v463_14 v463_15 c9_i32_209 >>= g) = (do
      let v511 : Vec F S1x1x16 .f32 ← Prog.lift (.load arg6 (Rect.unit (s := S12x16x128) (k0_off82 k0_t1) S1x1x16.size (k0_off82_inb k0_t1)).toLoadRect (View.loadsAt_vmem h_S1x1x16))
      Prog.lift (.store arg6 (Rect.unit (s := S12x16x128) (k0_off82 k0_t1) S1x1x16.size (k0_off82_inb k0_t1)) (k0_pay3099 v463_9) Finset.univ (View.stores_vmem_bits_univ h_S1x1x16 rfl) (.inl rfl))
      let v516 : Vec F S1x1x16 .f32 ← Prog.lift (.load arg6 (Rect.unit (s := S12x16x128) (k0_off83 k0_t1) S1x1x16.size (k0_off83_inb k0_t1)).toLoadRect (View.loadsAt_vmem h_S1x1x16))
      Prog.lift (.store arg6 (Rect.unit (s := S12x16x128) (k0_off83 k0_t1) S1x1x16.size (k0_off83_inb k0_t1)) (k0_pay3100 v463_10) Finset.univ (View.stores_vmem_bits_univ h_S1x1x16 rfl) (.inl rfl))
      let v521 : Vec F S1x1x16 .f32 ← Prog.lift (.load arg6 (Rect.unit (s := S12x16x128) (k0_off84 k0_t1) S1x1x16.size (k0_off84_inb k0_t1)).toLoadRect (View.loadsAt_vmem h_S1x1x16))
      Prog.lift (.store arg6 (Rect.unit (s := S12x16x128) (k0_off84 k0_t1) S1x1x16.size (k0_off84_inb k0_t1)) (k0_pay3101 v463_11) Finset.univ (View.stores_vmem_bits_univ h_S1x1x16 rfl) (.inl rfl))
      let v526 : Vec F S1x1x16 .f32 ← Prog.lift (.load arg6 (Rect.unit (s := S12x16x128) (k0_off85 k0_t1) S1x1x16.size (k0_off85_inb k0_t1)).toLoadRect (View.loadsAt_vmem h_S1x1x16))
      Prog.lift (.store arg6 (Rect.unit (s := S12x16x128) (k0_off85 k0_t1) S1x1x16.size (k0_off85_inb k0_t1)) (k0_pay3102 v463_12) Finset.univ (View.stores_vmem_bits_univ h_S1x1x16 rfl) (.inl rfl))
      let v531 : Vec F S1x1x16 .f32 ← Prog.lift (.load arg6 (Rect.unit (s := S12x16x128) (k0_off86 k0_t1) S1x1x16.size (k0_off86_inb k0_t1)).toLoadRect (View.loadsAt_vmem h_S1x1x16))
      Prog.lift (.store arg6 (Rect.unit (s := S12x16x128) (k0_off86 k0_t1) S1x1x16.size (k0_off86_inb k0_t1)) (k0_pay3103 v463_13) Finset.univ (View.stores_vmem_bits_univ h_S1x1x16 rfl) (.inl rfl))
      let v536 : Vec F S1x1x16 .f32 ← Prog.lift (.load arg6 (Rect.unit (s := S12x16x128) (k0_off87 k0_t1) S1x1x16.size (k0_off87_inb k0_t1)).toLoadRect (View.loadsAt_vmem h_S1x1x16))
      Prog.lift (.store arg6 (Rect.unit (s := S12x16x128) (k0_off87 k0_t1) S1x1x16.size (k0_off87_inb k0_t1)) (k0_pay3104 v463_14) Finset.univ (View.stores_vmem_bits_univ h_S1x1x16 rfl) (.inl rfl))
      let v541 : Vec F S1x1x16 .f32 ← Prog.lift (.load arg6 (Rect.unit (s := S12x16x128) (k0_off88 k0_t1) S1x1x16.size (k0_off88_inb k0_t1)).toLoadRect (View.loadsAt_vmem h_S1x1x16))
      Prog.lift (.store arg6 (Rect.unit (s := S12x16x128) (k0_off88 k0_t1) S1x1x16.size (k0_off88_inb k0_t1)) (k0_pay3105 v463_15) Finset.univ (View.stores_vmem_bits_univ h_S1x1x16 rfl) (.inl rfl))
      let (v545_0, v545_1, v545_2, v545_3, v545_4, v545_5, v545_6, v545_7, v545_8, v545_9, v545_10, v545_11, v545_12, v545_13, v545_14, v545_15) ← Scf.Loop.for k0_t2_loop k0_t2_ok (v64, v64, v64, v64, v64, v64, v64, v64, v64, v64, v64, v64, v64, v64, v64, v64) (fun t st => blk (F := F) i arg4 (k0_off89 t) (fun r => k0_off89_inb t r) st)
      g ⟨v545_0, v545_1, v545_2, v545_3, v545_4, v545_5, v545_6, v545_7, v545_8, v545_9, v545_10, v545_11, v545_12, v545_13, v545_14, v545_15⟩) := by
  rw [k0_part95_eq_skeleton]; unfold k0_part95_skel
  simp only [t7_eq]
  simp only [bind_assoc, pure_bind]

theorem p98_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v66 : BitVec 32) (v545_15 : FVec F S16 .f32) (v620 : FVec F S1x1x16 .f32) {β : Type}
    (g : (Σ' (v627_5 : FVec F S16 .f32) (v627_6 : FVec F S16 .f32) (v627_7 : FVec F S16 .f32) (v627_8 : FVec F S16 .f32) (v627_9 : FVec F S16 .f32) (v627_10 : FVec F S16 .f32) (v627_11 : FVec F S16 .f32) (v627_12 : FVec F S16 .f32) (v627_13 : FVec F S16 .f32) (v627_14 : FVec F S16 .f32) (v627_15 : FVec F S16 .f32), Vec F S1x1x16 .f32) → TP F i β) :
    (k0_part98 (F := F) i arg2 harg2 arg3 harg3 arg4 harg4 arg5 harg5 arg6 harg6 arg7 arg8 v66_r0 v64 k0_t1 v66 v545_15 v620 >>= g) = (do
      Prog.lift (.store arg6 (Rect.unit (s := S12x16x128) (k0_off104 k0_t1) S1x1x16.size (k0_off104_inb k0_t1)) v620 Finset.univ (View.stores_vmem_bits_univ h_S1x1x16 rfl) (.inl rfl))
      let v623 : Vec F S1x1x16 .f32 ← Prog.lift (.load arg6 (Rect.unit (s := S12x16x128) (k0_off105 k0_t1) S1x1x16.size (k0_off105_inb k0_t1)).toLoadRect (View.loadsAt_vmem h_S1x1x16))
      Prog.lift (.store arg6 (Rect.unit (s := S12x16x128) (k0_off105 k0_t1) S1x1x16.size (k0_off105_inb k0_t1)) (k0_pay3150 v545_15) Finset.univ (View.stores_vmem_bits_univ h_S1x1x16 rfl) (.inl rfl))
      let (v627_0, v627_1, v627_2, v627_3, v627_4, v627_5, v627_6, v627_7, v627_8, v627_9, v627_10, v627_11, v627_12, v627_13, v627_14, v627_15) ← Scf.Loop.for k0_t2_loop k0_t2_ok (v64, v64, v64, v64, v64, v64, v64, v64, v64, v64, v64, v64, v64, v64, v64, v64) (fun t st => blk (F := F) i arg4 (k0_off106 t) (fun r => k0_off106_inb t r) st)
      let v630 : Vec F S1x1x16 .f32 ← Prog.lift (.load arg6 (Rect.unit (s := S12x16x128) (k0_off107 k0_t1) S1x1x16.size (k0_off107_inb k0_t1)).toLoadRect (View.loadsAt_vmem h_S1x1x16))
      Prog.lift (.store arg6 (Rect.unit (s := S12x16x128) (k0_off107 k0_t1) S1x1x16.size (k0_off107_inb k0_t1)) (k0_pay3180 v627_0) Finset.univ (View.stores_vmem_bits_univ h_S1x1x16 rfl) (.inl rfl))
      let v635 : Vec F S1x1x16 .f32 ← Prog.lift (.load arg6 (Rect.unit (s := S12x16x128) (k0_off108 k0_t1) S1x1x16.size (k0_off108_inb k0_t1)).toLoadRect (View.loadsAt_vmem h_S1x1x16))
      Prog.lift (.store arg6 (Rect.unit (s := S12x16x128) (k0_off108 k0_t1) S1x1x16.size (k0_off108_inb k0_t1)) (k0_pay3181 v627_1) Finset.univ (View.stores_vmem_bits_univ h_S1x1x16 rfl) (.inl rfl))
      let v640 : Vec F S1x1x16 .f32 ← Prog.lift (.load arg6 (Rect.unit (s := S12x16x128) (k0_off109 k0_t1) S1x1x16.size (k0_off109_inb k0_t1)).toLoadRect (View.loadsAt_vmem h_S1x1x16))
      Prog.lift (.store arg6 (Rect.unit (s := S12x16x128) (k0_off109 k0_t1) S1x1x16.size (k0_off109_inb k0_t1)) (k0_pay3182 v627_2) Finset.univ (View.stores_vmem_bits_univ h_S1x1x16 rfl) (.inl rfl))
      let v645 : Vec F S1x1x16 .f32 ← Prog.lift (.load arg6 (Rect.unit (s := S12x16x128) (k0_off110 k0_t1) S1x1x16.size (k0_off110_inb k0_t1)).toLoadRect (View.loadsAt_vmem h_S1x1x16))
      Prog.lift (.store arg6 (Rect.unit (s := S12x16x128) (k0_off110 k0_t1) S1x1x16.size (k0_off110_inb k0_t1)) (k0_pay3183 v627_3) Finset.univ (View.stores_vmem_bits_univ h_S1x1x16 rfl) (.inl rfl))
      let v650 : Vec F S1x1x16 .f32 ← Prog.lift (.load arg6 (Rect.unit (s := S12x16x128) (k0_off111 k0_t1) S1x1x16.size (k0_off111_inb k0_t1)).toLoadRect (View.loadsAt_vmem h_S1x1x16))
      Prog.lift (.store arg6 (Rect.unit (s := S12x16x128) (k0_off111 k0_t1) S1x1x16.size (k0_off111_inb k0_t1)) (k0_pay3184 v627_4) Finset.univ (View.stores_vmem_bits_univ h_S1x1x16 rfl) (.inl rfl))
      let v655 : Vec F S1x1x16 .f32 ← Prog.lift (.load arg6 (Rect.unit (s := S12x16x128) (k0_off112 k0_t1) S1x1x16.size (k0_off112_inb k0_t1)).toLoadRect (View.loadsAt_vmem h_S1x1x16))
      g ⟨v627_5, v627_6, v627_7, v627_8, v627_9, v627_10, v627_11, v627_12, v627_13, v627_14, v627_15, v655⟩) := by
  rw [k0_part98_eq_skeleton]; unfold k0_part98_skel
  simp only [t8_eq]
  simp only [bind_assoc, pure_bind]

theorem p100_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v66 : BitVec 32) (v627_13 : FVec F S16 .f32) (v627_14 : FVec F S16 .f32) (v627_15 : FVec F S16 .f32) (c13_i32_287 : BitVec 32) {β : Type}
    (g : (Σ' (v709_4 : FVec F S16 .f32) (v709_5 : FVec F S16 .f32) (v709_6 : FVec F S16 .f32) (v709_7 : FVec F S16 .f32) (v709_8 : FVec F S16 .f32) (v709_9 : FVec F S16 .f32) (v709_10 : FVec F S16 .f32) (v709_11 : FVec F S16 .f32) (v709_12 : FVec F S16 .f32) (v709_13 : FVec F S16 .f32) (v709_14 : FVec F S16 .f32) (v709_15 : FVec F S16 .f32), FVec F S1x1x16 .f32) → TP F i β) :
    (k0_part100 (F := F) i arg2 harg2 arg3 harg3 arg4 harg4 arg5 harg5 arg6 harg6 arg7 arg8 v66_r0 v64 k0_t1 v66 v627_13 v627_14 v627_15 c13_i32_287 >>= g) = (do
      let v695 : Vec F S1x1x16 .f32 ← Prog.lift (.load arg6 (Rect.unit (s := S12x16x128) (k0_off120 k0_t1) S1x1x16.size (k0_off120_inb k0_t1)).toLoadRect (View.loadsAt_vmem h_S1x1x16))
      Prog.lift (.store arg6 (Rect.unit (s := S12x16x128) (k0_off120 k0_t1) S1x1x16.size (k0_off120_inb k0_t1)) (k0_pay3193 v627_13) Finset.univ (View.stores_vmem_bits_univ h_S1x1x16 rfl) (.inl rfl))
      let v700 : Vec F S1x1x16 .f32 ← Prog.lift (.load arg6 (Rect.unit (s := S12x16x128) (k0_off121 k0_t1) S1x1x16.size (k0_off121_inb k0_t1)).toLoadRect (View.loadsAt_vmem h_S1x1x16))
      Prog.lift (.store arg6 (Rect.unit (s := S12x16x128) (k0_off121 k0_t1) S1x1x16.size (k0_off121_inb k0_t1)) (k0_pay3194 v627_14) Finset.univ (View.stores_vmem_bits_univ h_S1x1x16 rfl) (.inl rfl))
      let v705 : Vec F S1x1x16 .f32 ← Prog.lift (.load arg6 (Rect.unit (s := S12x16x128) (k0_off122 k0_t1) S1x1x16.size (k0_off122_inb k0_t1)).toLoadRect (View.loadsAt_vmem h_S1x1x16))
      Prog.lift (.store arg6 (Rect.unit (s := S12x16x128) (k0_off122 k0_t1) S1x1x16.size (k0_off122_inb k0_t1)) (k0_pay3195 v627_15) Finset.univ (View.stores_vmem_bits_univ h_S1x1x16 rfl) (.inl rfl))
      let (v709_0, v709_1, v709_2, v709_3, v709_4, v709_5, v709_6, v709_7, v709_8, v709_9, v709_10, v709_11, v709_12, v709_13, v709_14, v709_15) ← Scf.Loop.for k0_t2_loop k0_t2_ok (v64, v64, v64, v64, v64, v64, v64, v64, v64, v64, v64, v64, v64, v64, v64, v64) (fun t st => blk (F := F) i arg4 (k0_off123 t) (fun r => k0_off123_inb t r) st)
      let v712 : Vec F S1x1x16 .f32 ← Prog.lift (.load arg6 (Rect.unit (s := S12x16x128) (k0_off124 k0_t1) S1x1x16.size (k0_off124_inb k0_t1)).toLoadRect (View.loadsAt_vmem h_S1x1x16))
      Prog.lift (.store arg6 (Rect.unit (s := S12x16x128) (k0_off124 k0_t1) S1x1x16.size (k0_off124_inb k0_t1)) (k0_pay3225 v709_0) Finset.univ (View.stores_vmem_bits_univ h_S1x1x16 rfl) (.inl rfl))
      let v717 : Vec F S1x1x16 .f32 ← Prog.lift (.load arg6 (Rect.unit (s := S12x16x128) (k0_off125 k0_t1) S1x1x16.size (k0_off125_inb k0_t1)).toLoadRect (View.loadsAt_vmem h_S1x1x16))
      Prog.lift (.store arg6 (Rect.unit (s := S12x16x128) (k0_off125 k0_t1) S1x1x16.size (k0_off125_inb k0_t1)) (k0_pay3226 v709_1) Finset.univ (View.stores_vmem_bits_univ h_S1x1x16 rfl) (.inl rfl))
      let v722 : Vec F S1x1x16 .f32 ← Prog.lift (.load arg6 (Rect.unit (s := S12x16x128) (k0_off126 k0_t1) S1x1x16.size (k0_off126_inb k0_t1)).toLoadRect (View.loadsAt_vmem h_S1x1x16))
      Prog.lift (.store arg6 (Rect.unit (s := S12x16x128) (k0_off126 k0_t1) S1x1x16.size (k0_off126_inb k0_t1)) (k0_pay3227 v709_2) Finset.univ (View.stores_vmem_bits_univ h_S1x1x16 rfl) (.inl rfl))
      let v727 : Vec F S1x1x16 .f32 ← Prog.lift (.load arg6 (Rect.unit (s := S12x16x128) (k0_off127 k0_t1) S1x1x16.size (k0_off127_inb k0_t1)).toLoadRect (View.loadsAt_vmem h_S1x1x16))
      g ⟨v709_4, v709_5, v709_6, v709_7, v709_8, v709_9, v709_10, v709_11, v709_12, v709_13, v709_14, v709_15, k0_pay3228 v709_3⟩) := by
  rw [k0_part100_eq_skeleton]; unfold k0_part100_skel
  simp only [t9_eq]
  simp only [bind_assoc, pure_bind]

theorem p104_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v1 : BitVec 32) (v64 : FVec F S16 .f32) (k0_t1 : Fin k0_t1_loop.trips) (v791 : BitVec 32) (v837 : BitVec 32) (v839 : BitVec 32) (v840 : BitVec 32) (v841 : BitVec 1) (v842 : BitVec 1) (v843 : BitVec 1) {β : Type}
    (g : (Σ' (v860_4 : FVec F S16 .f32) (v860_5 : FVec F S16 .f32) (v860_6 : FVec F S16 .f32) (v860_7 : FVec F S16 .f32) (v860_8 : FVec F S16 .f32) (v860_9 : FVec F S16 .f32) (v860_10 : FVec F S16 .f32) (v860_11 : FVec F S16 .f32) (v860_12 : FVec F S16 .f32) (v860_13 : FVec F S16 .f32) (v860_14 : FVec F S16 .f32) (v860_15 : FVec F S16 .f32), FVec F S1x1x16 .f32) → TP F i β) :
    (k0_part104 (F := F) i arg2 harg2 arg3 harg3 arg4 harg4 arg5 harg5 arg6 harg6 arg7 arg8 v66_r0 v1 v64 k0_t1 v791 v837 v839 v840 v841 v842 v843 >>= g) = (do
      let v853 : Memref sig .scVector .hbm S1x256x128 .f32 := arg2.slice (Rect.unit (s := S8x4608x768) (k0_off140 i k0_t1) S1x256x128.size (k0_off140_inb i k0_t1)) (fun _ => rfl)
      let v854 : Memref sig .scVector .hbm S256x128 .f32 := v853.squeeze S256x128 squeezes_S1x256x128_S256x128
      Prog.lift (.waitDma2 arg8.sem v854 arg5 ((View.wordExact_bits rfl).reshape _ _) harg5.wordExact)
      pf1 i arg2 arg4 harg4 arg7 k0_t1
      let (v860_0, v860_1, v860_2, v860_3, v860_4, v860_5, v860_6, v860_7, v860_8, v860_9, v860_10, v860_11, v860_12, v860_13, v860_14, v860_15) ← Scf.Loop.for k0_t2_loop k0_t2_ok (v64, v64, v64, v64, v64, v64, v64, v64, v64, v64, v64, v64, v64, v64, v64, v64) (fun t st => blk (F := F) i arg5 (k0_off142 t) (fun r => k0_off142_inb t r) st)
      let v863 : Vec F S1x1x16 .f32 ← Prog.lift (.load arg6 (Rect.unit (s := S12x16x128) (k0_off143 k0_t1) S1x1x16.size (k0_off143_inb k0_t1)).toLoadRect (View.loadsAt_vmem h_S1x1x16))
      Prog.lift (.store arg6 (Rect.unit (s := S12x16x128) (k0_off143 k0_t1) S1x1x16.size (k0_off143_inb k0_t1)) (k0_pay3270 v860_0) Finset.univ (View.stores_vmem_bits_univ h_S1x1x16 rfl) (.inl rfl))
      let v868 : Vec F S1x1x16 .f32 ← Prog.lift (.load arg6 (Rect.unit (s := S12x16x128) (k0_off144 k0_t1) S1x1x16.size (k0_off144_inb k0_t1)).toLoadRect (View.loadsAt_vmem h_S1x1x16))
      Prog.lift (.store arg6 (Rect.unit (s := S12x16x128) (k0_off144 k0_t1) S1x1x16.size (k0_off144_inb k0_t1)) (k0_pay3271 v860_1) Finset.univ (View.stores_vmem_bits_univ h_S1x1x16 rfl) (.inl rfl))
      let v873 : Vec F S1x1x16 .f32 ← Prog.lift (.load arg6 (Rect.unit (s := S12x16x128) (k0_off145 k0_t1) S1x1x16.size (k0_off145_inb k0_t1)).toLoadRect (View.loadsAt_vmem h_S1x1x16))
      Prog.lift (.store arg6 (Rect.unit (s := S12x16x128) (k0_off145 k0_t1) S1x1x16.size (k0_off145_inb k0_t1)) (k0_pay3272 v860_2) Finset.univ (View.stores_vmem_bits_univ h_S1x1x16 rfl) (.inl rfl))
      let v878 : Vec F S1x1x16 .f32 ← Prog.lift (.load arg6 (Rect.unit (s := S12x16x128) (k0_off146 k0_t1) S1x1x16.size (k0_off146_inb k0_t1)).toLoadRect (View.loadsAt_vmem h_S1x1x16))
      g ⟨v860_4, v860_5, v860_6, v860_7, v860_8, v860_9, v860_10, v860_11, v860_12, v860_13, v860_14, v860_15, k0_pay3273 v860_3⟩) := by
  rw [k0_part104_eq_skeleton]; unfold k0_part104_skel
  simp only [t10_eq]
  unfold pf1
  by_cases hc : k0_cond2 k0_t1 = 1#1
  · simp only [dif_pos hc, bind_assoc, pure_bind]; rfl
  · simp only [dif_neg hc, bind_assoc, pure_bind]

theorem p106_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v791 : BitVec 32) (v860_11 : FVec F S16 .f32) (v860_12 : FVec F S16 .f32) (v860_13 : FVec F S16 .f32) (v860_14 : FVec F S16 .f32) (v860_15 : FVec F S16 .f32) {β : Type}
    (g : (Σ' (v942_2 : FVec F S16 .f32) (v942_3 : FVec F S16 .f32) (v942_4 : FVec F S16 .f32) (v942_5 : FVec F S16 .f32) (v942_6 : FVec F S16 .f32) (v942_7 : FVec F S16 .f32) (v942_8 : FVec F S16 .f32) (v942_9 : FVec F S16 .f32) (v942_10 : FVec F S16 .f32) (v942_11 : FVec F S16 .f32) (v942_12 : FVec F S16 .f32) (v942_13 : FVec F S16 .f32) (v942_14 : FVec F S16 .f32) (v942_15 : FVec F S16 .f32), BitVec 32) → TP F i β) :
    (k0_part106 (F := F) i arg2 harg2 arg3 harg3 arg4 harg4 arg5 harg5 arg6 harg6 arg7 arg8 v66_r0 v64 k0_t1 v791 v860_11 v860_12 v860_13 v860_14 v860_15 >>= g) = (do
      let v918 : Vec F S1x1x16 .f32 ← Prog.lift (.load arg6 (Rect.unit (s := S12x16x128) (k0_off154 k0_t1) S1x1x16.size (k0_off154_inb k0_t1)).toLoadRect (View.loadsAt_vmem h_S1x1x16))
      Prog.lift (.store arg6 (Rect.unit (s := S12x16x128) (k0_off154 k0_t1) S1x1x16.size (k0_off154_inb k0_t1)) (k0_pay3281 v860_11) Finset.univ (View.stores_vmem_bits_univ h_S1x1x16 rfl) (.inl rfl))
      let v923 : Vec F S1x1x16 .f32 ← Prog.lift (.load arg6 (Rect.unit (s := S12x16x128) (k0_off155 k0_t1) S1x1x16.size (k0_off155_inb k0_t1)).toLoadRect (View.loadsAt_vmem h_S1x1x16))
      Prog.lift (.store arg6 (Rect.unit (s := S12x16x128) (k0_off155 k0_t1) S1x1x16.size (k0_off155_inb k0_t1)) (k0_pay3282 v860_12) Finset.univ (View.stores_vmem_bits_univ h_S1x1x16 rfl) (.inl rfl))
      let v928 : Vec F S1x1x16 .f32 ← Prog.lift (.load arg6 (Rect.unit (s := S12x16x128) (k0_off156 k0_t1) S1x1x16.size (k0_off156_inb k0_t1)).toLoadRect (View.loadsAt_vmem h_S1x1x16))
      Prog.lift (.store arg6 (Rect.unit (s := S12x16x128) (k0_off156 k0_t1) S1x1x16.size (k0_off156_inb k0_t1)) (k0_pay3283 v860_13) Finset.univ (View.stores_vmem_bits_univ h_S1x1x16 rfl) (.inl rfl))
      let v933 : Vec F S1x1x16 .f32 ← Prog.lift (.load arg6 (Rect.unit (s := S12x16x128) (k0_off157 k0_t1) S1x1x16.size (k0_off157_inb k0_t1)).toLoadRect (View.loadsAt_vmem h_S1x1x16))
      Prog.lift (.store arg6 (Rect.unit (s := S12x16x128) (k0_off157 k0_t1) S1x1x16.size (k0_off157_inb k0_t1)) (k0_pay3284 v860_14) Finset.univ (View.stores_vmem_bits_univ h_S1x1x16 rfl) (.inl rfl))
      let v938 : Vec F S1x1x16 .f32 ← Prog.lift (.load arg6 (Rect.unit (s := S12x16x128) (k0_off158 k0_t1) S1x1x16.size (k0_off158_inb k0_t1)).toLoadRect (View.loadsAt_vmem h_S1x1x16))
      Prog.lift (.store arg6 (Rect.unit (s := S12x16x128) (k0_off158 k0_t1) S1x1x16.size (k0_off158_inb k0_t1)) (k0_pay3285 v860_15) Finset.univ (View.stores_vmem_bits_univ h_S1x1x16 rfl) (.inl rfl))
      let (v942_0, v942_1, v942_2, v942_3, v942_4, v942_5, v942_6, v942_7, v942_8, v942_9, v942_10, v942_11, v942_12, v942_13, v942_14, v942_15) ← Scf.Loop.for k0_t2_loop k0_t2_ok (v64, v64, v64, v64, v64, v64, v64, v64, v64, v64, v64, v64, v64, v64, v64, v64) (fun t st => blk (F := F) i arg5 (k0_off159 t) (fun r => k0_off159_inb t r) st)
      let v945 : Vec F S1x1x16 .f32 ← Prog.lift (.load arg6 (Rect.unit (s := S12x16x128) (k0_off160 k0_t1) S1x1x16.size (k0_off160_inb k0_t1)).toLoadRect (View.loadsAt_vmem h_S1x1x16))
      Prog.lift (.store arg6 (Rect.unit (s := S12x16x128) (k0_off160 k0_t1) S1x1x16.size (k0_off160_inb k0_t1)) (k0_pay3315 v942_0) Finset.univ (View.stores_vmem_bits_univ h_S1x1x16 rfl) (.inl rfl))
      let v950 : Vec F S1x1x16 .f32 ← Prog.lift (.load arg6 (Rect.unit (s := S12x16x128) (k0_off161 k0_t1) S1x1x16.size (k0_off161_inb k0_t1)).toLoadRect (View.loadsAt_vmem h_S1x1x16))
      Prog.lift (.store arg6 (Rect.unit (s := S12x16x128) (k0_off161 k0_t1) S1x1x16.size (k0_off161_inb k0_t1)) (k0_pay3316 v942_1) Finset.univ (View.stores_vmem_bits_univ h_S1x1x16 rfl) (.inl rfl))
      g ⟨v942_2, v942_3, v942_4, v942_5, v942_6, v942_7, v942_8, v942_9, v942_10, v942_11, v942_12, v942_13, v942_14, v942_15, 2#32⟩) := by
  rw [k0_part106_eq_skeleton]; unfold k0_part106_skel
  simp only [t11_eq]
  simp only [bind_assoc, pure_bind]

theorem p108_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v791 : BitVec 32) (v942_9 : FVec F S16 .f32) (v942_10 : FVec F S16 .f32) (v942_11 : FVec F S16 .f32) (v942_12 : FVec F S16 .f32) (v942_13 : FVec F S16 .f32) (v942_14 : FVec F S16 .f32) (v942_15 : FVec F S16 .f32) (v990 : Vec F S1x1x16 .f32) {β : Type}
    (g : (Σ' (v1024_0 : FVec F S16 .f32) (v1024_1 : FVec F S16 .f32) (v1024_2 : FVec F S16 .f32) (v1024_3 : FVec F S16 .f32) (v1024_4 : FVec F S16 .f32) (v1024_5 : FVec F S16 .f32) (v1024_6 : FVec F S16 .f32) (v1024_7 : FVec F S16 .f32) (v1024_8 : FVec F S16 .f32) (v1024_9 : FVec F S16 .f32) (v1024_10 : FVec F S16 .f32) (v1024_11 : FVec F S16 .f32) (v1024_12 : FVec F S16 .f32) (v1024_13 : FVec F S16 .f32) (v1024_14 : FVec F S16 .f32), FVec F S16 .f32) → TP F i β) :
    (k0_part108 (F := F) i arg2 harg2 arg3 harg3 arg4 harg4 arg5 harg5 arg6 harg6 arg7 arg8 v66_r0 v64 k0_t1 v791 v942_9 v942_10 v942_11 v942_12 v942_13 v942_14 v942_15 v990 >>= g) = (do
      Prog.lift (.store arg6 (Rect.unit (s := S12x16x128) (k0_off169 k0_t1) S1x1x16.size (k0_off169_inb k0_t1)) (k0_pay3324 v942_9) Finset.univ (View.stores_vmem_bits_univ h_S1x1x16 rfl) (.inl rfl))
      let v995 : Vec F S1x1x16 .f32 ← Prog.lift (.load arg6 (Rect.unit (s := S12x16x128) (k0_off170 k0_t1) S1x1x16.size (k0_off170_inb k0_t1)).toLoadRect (View.loadsAt_vmem h_S1x1x16))
      Prog.lift (.store arg6 (Rect.unit (s := S12x16x128) (k0_off170 k0_t1) S1x1x16.size (k0_off170_inb k0_t1)) (k0_pay3325 v942_10) Finset.univ (View.stores_vmem_bits_univ h_S1x1x16 rfl) (.inl rfl))
      let v1000 : Vec F S1x1x16 .f32 ← Prog.lift (.load arg6 (Rect.unit (s := S12x16x128) (k0_off171 k0_t1) S1x1x16.size (k0_off171_inb k0_t1)).toLoadRect (View.loadsAt_vmem h_S1x1x16))
      Prog.lift (.store arg6 (Rect.unit (s := S12x16x128) (k0_off171 k0_t1) S1x1x16.size (k0_off171_inb k0_t1)) (k0_pay3326 v942_11) Finset.univ (View.stores_vmem_bits_univ h_S1x1x16 rfl) (.inl rfl))
      let v1005 : Vec F S1x1x16 .f32 ← Prog.lift (.load arg6 (Rect.unit (s := S12x16x128) (k0_off172 k0_t1) S1x1x16.size (k0_off172_inb k0_t1)).toLoadRect (View.loadsAt_vmem h_S1x1x16))
      Prog.lift (.store arg6 (Rect.unit (s := S12x16x128) (k0_off172 k0_t1) S1x1x16.size (k0_off172_inb k0_t1)) (k0_pay3327 v942_12) Finset.univ (View.stores_vmem_bits_univ h_S1x1x16 rfl) (.inl rfl))
      let v1010 : Vec F S1x1x16 .f32 ← Prog.lift (.load arg6 (Rect.unit (s := S12x16x128) (k0_off173 k0_t1) S1x1x16.size (k0_off173_inb k0_t1)).toLoadRect (View.loadsAt_vmem h_S1x1x16))
      Prog.lift (.store arg6 (Rect.unit (s := S12x16x128) (k0_off173 k0_t1) S1x1x16.size (k0_off173_inb k0_t1)) (k0_pay3328 v942_13) Finset.univ (View.stores_vmem_bits_univ h_S1x1x16 rfl) (.inl rfl))
      let v1015 : Vec F S1x1x16 .f32 ← Prog.lift (.load arg6 (Rect.unit (s := S12x16x128) (k0_off174 k0_t1) S1x1x16.size (k0_off174_inb k0_t1)).toLoadRect (View.loadsAt_vmem h_S1x1x16))
      Prog.lift (.store arg6 (Rect.unit (s := S12x16x128) (k0_off174 k0_t1) S1x1x16.size (k0_off174_inb k0_t1)) (k0_pay3329 v942_14) Finset.univ (View.stores_vmem_bits_univ h_S1x1x16 rfl) (.inl rfl))
      let v1020 : Vec F S1x1x16 .f32 ← Prog.lift (.load arg6 (Rect.unit (s := S12x16x128) (k0_off175 k0_t1) S1x1x16.size (k0_off175_inb k0_t1)).toLoadRect (View.loadsAt_vmem h_S1x1x16))
      Prog.lift (.store arg6 (Rect.unit (s := S12x16x128) (k0_off175 k0_t1) S1x1x16.size (k0_off175_inb k0_t1)) (k0_pay3330 v942_15) Finset.univ (View.stores_vmem_bits_univ h_S1x1x16 rfl) (.inl rfl))
      let (v1024_0, v1024_1, v1024_2, v1024_3, v1024_4, v1024_5, v1024_6, v1024_7, v1024_8, v1024_9, v1024_10, v1024_11, v1024_12, v1024_13, v1024_14, v1024_15) ← Scf.Loop.for k0_t2_loop k0_t2_ok (v64, v64, v64, v64, v64, v64, v64, v64, v64, v64, v64, v64, v64, v64, v64, v64) (fun t st => blk (F := F) i arg5 (k0_off176 t) (fun r => k0_off176_inb t r) st)
      g ⟨v1024_0, v1024_1, v1024_2, v1024_3, v1024_4, v1024_5, v1024_6, v1024_7, v1024_8, v1024_9, v1024_10, v1024_11, v1024_12, v1024_13, v1024_14, v1024_15⟩) := by
  rw [k0_part108_eq_skeleton]; unfold k0_part108_skel
  simp only [t12_eq]
  simp only [bind_assoc, pure_bind]

theorem p111_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v791 : BitVec 32) (v1024_15 : FVec F S16 .f32) {β : Type}
    (g : (Σ' (v1106_6 : FVec F S16 .f32) (v1106_7 : FVec F S16 .f32) (v1106_8 : FVec F S16 .f32) (v1106_9 : FVec F S16 .f32) (v1106_10 : FVec F S16 .f32) (v1106_11 : FVec F S16 .f32) (v1106_12 : FVec F S16 .f32) (v1106_13 : FVec F S16 .f32) (v1106_14 : FVec F S16 .f32) (v1106_15 : FVec F S16 .f32), BitVec 32) → TP F i β) :
    (k0_part111 (F := F) i arg2 harg2 arg3 harg3 arg4 harg4 arg5 harg5 arg6 harg6 arg7 arg8 v66_r0 v64 k0_t1 v791 v1024_15 >>= g) = (do
      let v1102 : Vec F S1x1x16 .f32 ← Prog.lift (.load arg6 (Rect.unit (s := S12x16x128) (k0_off192 k0_t1) S1x1x16.size (k0_off192_inb k0_t1)).toLoadRect (View.loadsAt_vmem h_S1x1x16))
      Prog.lift (.store arg6 (Rect.unit (s := S12x16x128) (k0_off192 k0_t1) S1x1x16.size (k0_off192_inb k0_t1)) (k0_pay3375 v1024_15) Finset.univ (View.stores_vmem_bits_univ h_S1x1x16 rfl) (.inl rfl))
      let (v1106_0, v1106_1, v1106_2, v1106_3, v1106_4, v1106_5, v1106_6, v1106_7, v1106_8, v1106_9, v1106_10, v1106_11, v1106_12, v1106_13, v1106_14, v1106_15) ← Scf.Loop.for k0_t2_loop k0_t2_ok (v64, v64, v64, v64, v64, v64, v64, v64, v64, v64, v64, v64, v64, v64, v64, v64) (fun t st => blk (F := F) i arg5 (k0_off193 t) (fun r => k0_off193_inb t r) st)
      let v1109 : Vec F S1x1x16 .f32 ← Prog.lift (.load arg6 (Rect.unit (s := S12x16x128) (k0_off194 k0_t1) S1x1x16.size (k0_off194_inb k0_t1)).toLoadRect (View.loadsAt_vmem h_S1x1x16))
      Prog.lift (.store arg6 (Rect.unit (s := S12x16x128) (k0_off194 k0_t1) S1x1x16.size (k0_off194_inb k0_t1)) (k0_pay3405 v1106_0) Finset.univ (View.stores_vmem_bits_univ h_S1x1x16 rfl) (.inl rfl))
      let v1114 : Vec F S1x1x16 .f32 ← Prog.lift (.load arg6 (Rect.unit (s := S12x16x128) (k0_off195 k0_t1) S1x1x16.size (k0_off195_inb k0_t1)).toLoadRect (View.loadsAt_vmem h_S1x1x16))
      Prog.lift (.store arg6 (Rect.unit (s := S12x16x128) (k0_off195 k0_t1) S1x1x16.size (k0_off195_inb k0_t1)) (k0_pay3406 v1106_1) Finset.univ (View.stores_vmem_bits_univ h_S1x1x16 rfl) (.inl rfl))
      let v1119 : Vec F S1x1x16 .f32 ← Prog.lift (.load arg6 (Rect.unit (s := S12x16x128) (k0_off196 k0_t1) S1x1x16.size (k0_off196_inb k0_t1)).toLoadRect (View.loadsAt_vmem h_S1x1x16))
      Prog.lift (.store arg6 (Rect.unit (s := S12x16x128) (k0_off196 k0_t1) S1x1x16.size (k0_off196_inb k0_t1)) (k0_pay3407 v1106_2) Finset.univ (View.stores_vmem_bits_univ h_S1x1x16 rfl) (.inl rfl))
      let v1124 : Vec F S1x1x16 .f32 ← Prog.lift (.load arg6 (Rect.unit (s := S12x16x128) (k0_off197 k0_t1) S1x1x16.size (k0_off197_inb k0_t1)).toLoadRect (View.loadsAt_vmem h_S1x1x16))
      Prog.lift (.store arg6 (Rect.unit (s := S12x16x128) (k0_off197 k0_t1) S1x1x16.size (k0_off197_inb k0_t1)) (k0_pay3408 v1106_3) Finset.univ (View.stores_vmem_bits_univ h_S1x1x16 rfl) (.inl rfl))
      let v1129 : Vec F S1x1x16 .f32 ← Prog.lift (.load arg6 (Rect.unit (s := S12x16x128) (k0_off198 k0_t1) S1x1x16.size (k0_off198_inb k0_t1)).toLoadRect (View.loadsAt_vmem h_S1x1x16))
      Prog.lift (.store arg6 (Rect.unit (s := S12x16x128) (k0_off198 k0_t1) S1x1x16.size (k0_off198_inb k0_t1)) (k0_pay3409 v1106_4) Finset.univ (View.stores_vmem_bits_univ h_S1x1x16 rfl) (.inl rfl))
      let v1134 : Vec F S1x1x16 .f32 ← Prog.lift (.load arg6 (Rect.unit (s := S12x16x128) (k0_off199 k0_t1) S1x1x16.size (k0_off199_inb k0_t1)).toLoadRect (View.loadsAt_vmem h_S1x1x16))
      Prog.lift (.store arg6 (Rect.unit (s := S12x16x128) (k0_off199 k0_t1) S1x1x16.size (k0_off199_inb k0_t1)) (k0_pay3410 v1106_5) Finset.univ (View.stores_vmem_bits_univ h_S1x1x16 rfl) (.inl rfl))
      g ⟨v1106_6, v1106_7, v1106_8, v1106_9, v1106_10, v1106_11, v1106_12, v1106_13, v1106_14, v1106_15, 6#32⟩) := by
  rw [k0_part111_eq_skeleton]; unfold k0_part111_skel
  simp only [t13_eq]
  simp only [bind_assoc, pure_bind]

theorem p113_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v791 : BitVec 32) (v1106_13 : FVec F S16 .f32) (v1106_14 : FVec F S16 .f32) (v1106_15 : FVec F S16 .f32) (v1174 : Vec F S1x1x16 .f32) {β : Type}
    (g : (Σ' (v1188_4 : FVec F S16 .f32) (v1188_5 : FVec F S16 .f32) (v1188_6 : FVec F S16 .f32) (v1188_7 : FVec F S16 .f32) (v1188_8 : FVec F S16 .f32) (v1188_9 : FVec F S16 .f32) (v1188_10 : FVec F S16 .f32) (v1188_11 : FVec F S16 .f32) (v1188_12 : FVec F S16 .f32) (v1188_13 : FVec F S16 .f32) (v1188_14 : FVec F S16 .f32), FVec F S16 .f32) → TP F i β) :
    (k0_part113 (F := F) i arg2 harg2 arg3 harg3 arg4 harg4 arg5 harg5 arg6 harg6 arg7 arg8 v66_r0 v64 k0_t1 v791 v1106_13 v1106_14 v1106_15 v1174 >>= g) = (do
      Prog.lift (.store arg6 (Rect.unit (s := S12x16x128) (k0_off207 k0_t1) S1x1x16.size (k0_off207_inb k0_t1)) (k0_pay3418 v1106_13) Finset.univ (View.stores_vmem_bits_univ h_S1x1x16 rfl) (.inl rfl))
      let v1179 : Vec F S1x1x16 .f32 ← Prog.lift (.load arg6 (Rect.unit (s := S12x16x128) (k0_off208 k0_t1) S1x1x16.size (k0_off208_inb k0_t1)).toLoadRect (View.loadsAt_vmem h_S1x1x16))
      Prog.lift (.store arg6 (Rect.unit (s := S12x16x128) (k0_off208 k0_t1) S1x1x16.size (k0_off208_inb k0_t1)) (k0_pay3419 v1106_14) Finset.univ (View.stores_vmem_bits_univ h_S1x1x16 rfl) (.inl rfl))
      let v1184 : Vec F S1x1x16 .f32 ← Prog.lift (.load arg6 (Rect.unit (s := S12x16x128) (k0_off209 k0_t1) S1x1x16.size (k0_off209_inb k0_t1)).toLoadRect (View.loadsAt_vmem h_S1x1x16))
      Prog.lift (.store arg6 (Rect.unit (s := S12x16x128) (k0_off209 k0_t1) S1x1x16.size (k0_off209_inb k0_t1)) (k0_pay3420 v1106_15) Finset.univ (View.stores_vmem_bits_univ h_S1x1x16 rfl) (.inl rfl))
      let (v1188_0, v1188_1, v1188_2, v1188_3, v1188_4, v1188_5, v1188_6, v1188_7, v1188_8, v1188_9, v1188_10, v1188_11, v1188_12, v1188_13, v1188_14, v1188_15) ← Scf.Loop.for k0_t2_loop k0_t2_ok (v64, v64, v64, v64, v64, v64, v64, v64, v64, v64, v64, v64, v64, v64, v64, v64) (fun t st => blk (F := F) i arg5 (k0_off210 t) (fun r => k0_off210_inb t r) st)
      let v1191 : Vec F S1x1x16 .f32 ← Prog.lift (.load arg6 (Rect.unit (s := S12x16x128) (k0_off211 k0_t1) S1x1x16.size (k0_off211_inb k0_t1)).toLoadRect (View.loadsAt_vmem h_S1x1x16))
      Prog.lift (.store arg6 (Rect.unit (s := S12x16x128) (k0_off211 k0_t1) S1x1x16.size (k0_off211_inb k0_t1)) (k0_pay3450 v1188_0) Finset.univ (View.stores_vmem_bits_univ h_S1x1x16 rfl) (.inl rfl))
      let v1196 : Vec F S1x1x16 .f32 ← Prog.lift (.load arg6 (Rect.unit (s := S12x16x128) (k0_off212 k0_t1) S1x1x16.size (k0_off212_inb k0_t1)).toLoadRect (View.loadsAt_vmem h_S1x1x16))
      Prog.lift (.store arg6 (Rect.unit (s := S12x16x128) (k0_off212 k0_t1) S1x1x16.size (k0_off212_inb k0_t1)) (k0_pay3451 v1188_1) Finset.univ (View.stores_vmem_bits_univ h_S1x1x16 rfl) (.inl rfl))
      let v1201 : Vec F S1x1x16 .f32 ← Prog.lift (.load arg6 (Rect.unit (s := S12x16x128) (k0_off213 k0_t1) S1x1x16.size (k0_off213_inb k0_t1)).toLoadRect (View.loadsAt_vmem h_S1x1x16))
      Prog.lift (.store arg6 (Rect.unit (s := S12x16x128) (k0_off213 k0_t1) S1x1x16.size (k0_off213_inb k0_t1)) (k0_pay3452 v1188_2) Finset.univ (View.stores_vmem_bits_univ h_S1x1x16 rfl) (.inl rfl))
      let v1206 : Vec F S1x1x16 .f32 ← Prog.lift (.load arg6 (Rect.unit (s := S12x16x128) (k0_off214 k0_t1) S1x1x16.size (k0_off214_inb k0_t1)).toLoadRect (View.loadsAt_vmem h_S1x1x16))
      Prog.lift (.store arg6 (Rect.unit (s := S12x16x128) (k0_off214 k0_t1) S1x1x16.size (k0_off214_inb k0_t1)) (k0_pay3453 v1188_3) Finset.univ (View.stores_vmem_bits_univ h_S1x1x16 rfl) (.inl rfl))
      g ⟨v1188_4, v1188_5, v1188_6, v1188_7, v1188_8, v1188_9, v1188_10, v1188_11, v1188_12, v1188_13, v1188_14, v1188_15⟩) := by
  rw [k0_part113_eq_skeleton]; unfold k0_part113_skel
  simp only [t14_eq]
  simp only [bind_assoc, pure_bind]

theorem p115_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v791 : BitVec 32) (v1188_12 : FVec F S16 .f32) (v1188_13 : FVec F S16 .f32) (v1188_14 : FVec F S16 .f32) (v1188_15 : FVec F S16 .f32) (v1248 : FVec F S1x1x16 .f32) {β : Type}
    (g : (Σ' (v1270_2 : FVec F S16 .f32) (v1270_3 : FVec F S16 .f32) (v1270_4 : FVec F S16 .f32) (v1270_5 : FVec F S16 .f32) (v1270_6 : FVec F S16 .f32) (v1270_7 : FVec F S16 .f32) (v1270_8 : FVec F S16 .f32) (v1270_9 : FVec F S16 .f32) (v1270_10 : FVec F S16 .f32) (v1270_11 : FVec F S16 .f32) (v1270_12 : FVec F S16 .f32) (v1270_13 : FVec F S16 .f32) (v1270_14 : FVec F S16 .f32) (v1270_15 : FVec F S16 .f32), Vec F S1x1x16 .f32) → TP F i β) :
    (k0_part115 (F := F) i arg2 harg2 arg3 harg3 arg4 harg4 arg5 harg5 arg6 harg6 arg7 arg8 v66_r0 v64 k0_t1 v791 v1188_12 v1188_13 v1188_14 v1188_15 v1248 >>= g) = (do
      Prog.lift (.store arg6 (Rect.unit (s := S12x16x128) (k0_off222 k0_t1) S1x1x16.size (k0_off222_inb k0_t1)) v1248 Finset.univ (View.stores_vmem_bits_univ h_S1x1x16 rfl) (.inl rfl))
      let v1251 : Vec F S1x1x16 .f32 ← Prog.lift (.load arg6 (Rect.unit (s := S12x16x128) (k0_off223 k0_t1) S1x1x16.size (k0_off223_inb k0_t1)).toLoadRect (View.loadsAt_vmem h_S1x1x16))
      Prog.lift (.store arg6 (Rect.unit (s := S12x16x128) (k0_off223 k0_t1) S1x1x16.size (k0_off223_inb k0_t1)) (k0_pay3462 v1188_12) Finset.univ (View.stores_vmem_bits_univ h_S1x1x16 rfl) (.inl rfl))
      let v1256 : Vec F S1x1x16 .f32 ← Prog.lift (.load arg6 (Rect.unit (s := S12x16x128) (k0_off224 k0_t1) S1x1x16.size (k0_off224_inb k0_t1)).toLoadRect (View.loadsAt_vmem h_S1x1x16))
      Prog.lift (.store arg6 (Rect.unit (s := S12x16x128) (k0_off224 k0_t1) S1x1x16.size (k0_off224_inb k0_t1)) (k0_pay3463 v1188_13) Finset.univ (View.stores_vmem_bits_univ h_S1x1x16 rfl) (.inl rfl))
      let v1261 : Vec F S1x1x16 .f32 ← Prog.lift (.load arg6 (Rect.unit (s := S12x16x128) (k0_off225 k0_t1) S1x1x16.size (k0_off225_inb k0_t1)).toLoadRect (View.loadsAt_vmem h_S1x1x16))
      Prog.lift (.store arg6 (Rect.unit (s := S12x16x128) (k0_off225 k0_t1) S1x1x16.size (k0_off225_inb k0_t1)) (k0_pay3464 v1188_14) Finset.univ (View.stores_vmem_bits_univ h_S1x1x16 rfl) (.inl rfl))
      let v1266 : Vec F S1x1x16 .f32 ← Prog.lift (.load arg6 (Rect.unit (s := S12x16x128) (k0_off226 k0_t1) S1x1x16.size (k0_off226_inb k0_t1)).toLoadRect (View.loadsAt_vmem h_S1x1x16))
      Prog.lift (.store arg6 (Rect.unit (s := S12x16x128) (k0_off226 k0_t1) S1x1x16.size (k0_off226_inb k0_t1)) (k0_pay3465 v1188_15) Finset.univ (View.stores_vmem_bits_univ h_S1x1x16 rfl) (.inl rfl))
      let (v1270_0, v1270_1, v1270_2, v1270_3, v1270_4, v1270_5, v1270_6, v1270_7, v1270_8, v1270_9, v1270_10, v1270_11, v1270_12, v1270_13, v1270_14, v1270_15) ← Scf.Loop.for k0_t2_loop k0_t2_ok (v64, v64, v64, v64, v64, v64, v64, v64, v64, v64, v64, v64, v64, v64, v64, v64) (fun t st => blk (F := F) i arg5 (k0_off227 t) (fun r => k0_off227_inb t r) st)
      let v1273 : Vec F S1x1x16 .f32 ← Prog.lift (.load arg6 (Rect.unit (s := S12x16x128) (k0_off228 k0_t1) S1x1x16.size (k0_off228_inb k0_t1)).toLoadRect (View.loadsAt_vmem h_S1x1x16))
      Prog.lift (.store arg6 (Rect.unit (s := S12x16x128) (k0_off228 k0_t1) S1x1x16.size (k0_off228_inb k0_t1)) (k0_pay3495 v1270_0) Finset.univ (View.stores_vmem_bits_univ h_S1x1x16 rfl) (.inl rfl))
      let v1278 : Vec F S1x1x16 .f32 ← Prog.lift (.load arg6 (Rect.unit (s := S12x16x128) (k0_off229 k0_t1) S1x1x16.size (k0_off229_inb k0_t1)).toLoadRect (View.loadsAt_vmem h_S1x1x16))
      Prog.lift (.store arg6 (Rect.unit (s := S12x16x128) (k0_off229 k0_t1) S1x1x16.size (k0_off229_inb k0_t1)) (k0_pay3496 v1270_1) Finset.univ (View.stores_vmem_bits_univ h_S1x1x16 rfl) (.inl rfl))
      let v1283 : Vec F S1x1x16 .f32 ← Prog.lift (.load arg6 (Rect.unit (s := S12x16x128) (k0_off230 k0_t1) S1x1x16.size (k0_off230_inb k0_t1)).toLoadRect (View.loadsAt_vmem h_S1x1x16))
      g ⟨v1270_2, v1270_3, v1270_4, v1270_5, v1270_6, v1270_7, v1270_8, v1270_9, v1270_10, v1270_11, v1270_12, v1270_13, v1270_14, v1270_15, v1283⟩) := by
  rw [k0_part115_eq_skeleton]; unfold k0_part115_skel
  simp only [t15_eq]
  simp only [bind_assoc, pure_bind]

theorem p117_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v791 : BitVec 32) (v1270_10 : FVec F S16 .f32) (v1270_11 : FVec F S16 .f32) (v1270_12 : FVec F S16 .f32) (v1270_13 : FVec F S16 .f32) (v1270_14 : FVec F S16 .f32) (v1270_15 : FVec F S16 .f32) (c10_i32_567 : BitVec 32) {β : Type}
    (g : (Σ' (v1352_1 : FVec F S16 .f32) (v1352_2 : FVec F S16 .f32) (v1352_3 : FVec F S16 .f32) (v1352_4 : FVec F S16 .f32) (v1352_5 : FVec F S16 .f32) (v1352_6 : FVec F S16 .f32) (v1352_7 : FVec F S16 .f32) (v1352_8 : FVec F S16 .f32) (v1352_9 : FVec F S16 .f32) (v1352_10 : FVec F S16 .f32) (v1352_11 : FVec F S16 .f32) (v1352_12 : FVec F S16 .f32) (v1352_13 : FVec F S16 .f32) (v1352_14 : FVec F S16 .f32) (v1352_15 : FVec F S16 .f32), FVec F S1x1x16 .f32) → TP F i β) :
    (k0_part117 (F := F) i arg2 harg2 arg3 harg3 arg4 harg4 arg5 harg5 arg6 harg6 arg7 arg8 v66_r0 v64 k0_t1 v791 v1270_10 v1270_11 v1270_12 v1270_13 v1270_14 v1270_15 c10_i32_567 >>= g) = (do
      let v1323 : Vec F S1x1x16 .f32 ← Prog.lift (.load arg6 (Rect.unit (s := S12x16x128) (k0_off238 k0_t1) S1x1x16.size (k0_off238_inb k0_t1)).toLoadRect (View.loadsAt_vmem h_S1x1x16))
      Prog.lift (.store arg6 (Rect.unit (s := S12x16x128) (k0_off238 k0_t1) S1x1x16.size (k0_off238_inb k0_t1)) (k0_pay3505 v1270_10) Finset.univ (View.stores_vmem_bits_univ h_S1x1x16 rfl) (.inl rfl))
      let v1328 : Vec F S1x1x16 .f32 ← Prog.lift (.load arg6 (Rect.unit (s := S12x16x128) (k0_off239 k0_t1) S1x1x16.size (k0_off239_inb k0_t1)).toLoadRect (View.loadsAt_vmem h_S1x1x16))
      Prog.lift (.store arg6 (Rect.unit (s := S12x16x128) (k0_off239 k0_t1) S1x1x16.size (k0_off239_inb k0_t1)) (k0_pay3506 v1270_11) Finset.univ (View.stores_vmem_bits_univ h_S1x1x16 rfl) (.inl rfl))
      let v1333 : Vec F S1x1x16 .f32 ← Prog.lift (.load arg6 (Rect.unit (s := S12x16x128) (k0_off240 k0_t1) S1x1x16.size (k0_off240_inb k0_t1)).toLoadRect (View.loadsAt_vmem h_S1x1x16))
      Prog.lift (.store arg6 (Rect.unit (s := S12x16x128) (k0_off240 k0_t1) S1x1x16.size (k0_off240_inb k0_t1)) (k0_pay3507 v1270_12) Finset.univ (View.stores_vmem_bits_univ h_S1x1x16 rfl) (.inl rfl))
      let v1338 : Vec F S1x1x16 .f32 ← Prog.lift (.load arg6 (Rect.unit (s := S12x16x128) (k0_off241 k0_t1) S1x1x16.size (k0_off241_inb k0_t1)).toLoadRect (View.loadsAt_vmem h_S1x1x16))
      Prog.lift (.store arg6 (Rect.unit (s := S12x16x128) (k0_off241 k0_t1) S1x1x16.size (k0_off241_inb k0_t1)) (k0_pay3508 v1270_13) Finset.univ (View.stores_vmem_bits_univ h_S1x1x16 rfl) (.inl rfl))
      let v1343 : Vec F S1x1x16 .f32 ← Prog.lift (.load arg6 (Rect.unit (s := S12x16x128) (k0_off242 k0_t1) S1x1x16.size (k0_off242_inb k0_t1)).toLoadRect (View.loadsAt_vmem h_S1x1x16))
      Prog.lift (.store arg6 (Rect.unit (s := S12x16x128) (k0_off242 k0_t1) S1x1x16.size (k0_off242_inb k0_t1)) (k0_pay3509 v1270_14) Finset.univ (View.stores_vmem_bits_univ h_S1x1x16 rfl) (.inl rfl))
      let v1348 : Vec F S1x1x16 .f32 ← Prog.lift (.load arg6 (Rect.unit (s := S12x16x128) (k0_off243 k0_t1) S1x1x16.size (k0_off243_inb k0_t1)).toLoadRect (View.loadsAt_vmem h_S1x1x16))
      Prog.lift (.store arg6 (Rect.unit (s := S12x16x128) (k0_off243 k0_t1) S1x1x16.size (k0_off243_inb k0_t1)) (k0_pay3510 v1270_15) Finset.univ (View.stores_vmem_bits_univ h_S1x1x16 rfl) (.inl rfl))
      let (v1352_0, v1352_1, v1352_2, v1352_3, v1352_4, v1352_5, v1352_6, v1352_7, v1352_8, v1352_9, v1352_10, v1352_11, v1352_12, v1352_13, v1352_14, v1352_15) ← Scf.Loop.for k0_t2_loop k0_t2_ok (v64, v64, v64, v64, v64, v64, v64, v64, v64, v64, v64, v64, v64, v64, v64, v64) (fun t st => blk (F := F) i arg5 (k0_off244 t) (fun r => k0_off244_inb t r) st)
      let v1355 : Vec F S1x1x16 .f32 ← Prog.lift (.load arg6 (Rect.unit (s := S12x16x128) (k0_off245 k0_t1) S1x1x16.size (k0_off245_inb k0_t1)).toLoadRect (View.loadsAt_vmem h_S1x1x16))
      g ⟨v1352_1, v1352_2, v1352_3, v1352_4, v1352_5, v1352_6, v1352_7, v1352_8, v1352_9, v1352_10, v1352_11, v1352_12, v1352_13, v1352_14, v1352_15, k0_pay3540 v1352_0⟩) := by
  rw [k0_part117_eq_skeleton]; unfold k0_part117_skel
  simp only [t16_eq]
  simp only [bind_assoc, pure_bind]

theorem p120_bind (i : grid0.Coords) (arg2 : Memref sig .scVector .hbm S8x4608x768 .f32) (harg2 : arg2.IsWhole) (arg3 : Memref sig .scVector .hbm S12x32x16x128 .f32) (harg3 : arg3.IsWhole) (arg4 : Memref sig .scVector .vmem S256x128 .f32) (harg4 : arg4.IsWhole) (arg5 : Memref sig .scVector .vmem S256x128 .f32) (harg5 : arg5.IsWhole) (arg6 : Memref sig .scVector .vmem S12x16x128 .f32) (harg6 : arg6.IsWhole) (arg7 : DmaSems sig S_) (arg8 : DmaSems sig S_) (v66_r0 : DmaSems sig S_) (v64 : FVec F S16 .f32) (k0_t1 : Fin k0_t1_loop.trips) (v791 : BitVec 32) (v1432 : FVec F S1x1x16 .f32) {β : Type}
    (g : (Σ' (v1434_6 : FVec F S16 .f32) (v1434_7 : FVec F S16 .f32) (v1434_8 : FVec F S16 .f32) (v1434_9 : FVec F S16 .f32) (v1434_10 : FVec F S16 .f32) (v1434_11 : FVec F S16 .f32) (v1434_12 : FVec F S16 .f32) (v1434_13 : FVec F S16 .f32) (v1434_14 : FVec F S16 .f32) (v1434_15 : FVec F S16 .f32), Vec F S1x1x16 .f32) → TP F i β) :
    (k0_part120 (F := F) i arg2 harg2 arg3 harg3 arg4 harg4 arg5 harg5 arg6 harg6 arg7 arg8 v66_r0 v64 k0_t1 v791 v1432 >>= g) = (do
      Prog.lift (.store arg6 (Rect.unit (s := S12x16x128) (k0_off260 k0_t1) S1x1x16.size (k0_off260_inb k0_t1)) v1432 Finset.univ (View.stores_vmem_bits_univ h_S1x1x16 rfl) (.inl rfl))
      let (v1434_0, v1434_1, v1434_2, v1434_3, v1434_4, v1434_5, v1434_6, v1434_7, v1434_8, v1434_9, v1434_10, v1434_11, v1434_12, v1434_13, v1434_14, v1434_15) ← Scf.Loop.for k0_t2_loop k0_t2_ok (v64, v64, v64, v64, v64, v64, v64, v64, v64, v64, v64, v64, v64, v64, v64, v64) (fun t st => blk (F := F) i arg5 (k0_off261 t) (fun r => k0_off261_inb t r) st)
      let v1437 : Vec F S1x1x16 .f32 ← Prog.lift (.load arg6 (Rect.unit (s := S12x16x128) (k0_off262 k0_t1) S1x1x16.size (k0_off262_inb k0_t1)).toLoadRect (View.loadsAt_vmem h_S1x1x16))
      Prog.lift (.store arg6 (Rect.unit (s := S12x16x128) (k0_off262 k0_t1) S1x1x16.size (k0_off262_inb k0_t1)) (k0_pay3585 v1434_0) Finset.univ (View.stores_vmem_bits_univ h_S1x1x16 rfl) (.inl rfl))
      let v1442 : Vec F S1x1x16 .f32 ← Prog.lift (.load arg6 (Rect.unit (s := S12x16x128) (k0_off263 k0_t1) S1x1x16.size (k0_off263_inb k0_t1)).toLoadRect (View.loadsAt_vmem h_S1x1x16))
      Prog.lift (.store arg6 (Rect.unit (s := S12x16x128) (k0_off263 k0_t1) S1x1x16.size (k0_off263_inb k0_t1)) (k0_pay3586 v1434_1) Finset.univ (View.stores_vmem_bits_univ h_S1x1x16 rfl) (.inl rfl))
      let v1447 : Vec F S1x1x16 .f32 ← Prog.lift (.load arg6 (Rect.unit (s := S12x16x128) (k0_off264 k0_t1) S1x1x16.size (k0_off264_inb k0_t1)).toLoadRect (View.loadsAt_vmem h_S1x1x16))
      Prog.lift (.store arg6 (Rect.unit (s := S12x16x128) (k0_off264 k0_t1) S1x1x16.size (k0_off264_inb k0_t1)) (k0_pay3587 v1434_2) Finset.univ (View.stores_vmem_bits_univ h_S1x1x16 rfl) (.inl rfl))
      let v1452 : Vec F S1x1x16 .f32 ← Prog.lift (.load arg6 (Rect.unit (s := S12x16x128) (k0_off265 k0_t1) S1x1x16.size (k0_off265_inb k0_t1)).toLoadRect (View.loadsAt_vmem h_S1x1x16))
      Prog.lift (.store arg6 (Rect.unit (s := S12x16x128) (k0_off265 k0_t1) S1x1x16.size (k0_off265_inb k0_t1)) (k0_pay3588 v1434_3) Finset.univ (View.stores_vmem_bits_univ h_S1x1x16 rfl) (.inl rfl))
      let v1457 : Vec F S1x1x16 .f32 ← Prog.lift (.load arg6 (Rect.unit (s := S12x16x128) (k0_off266 k0_t1) S1x1x16.size (k0_off266_inb k0_t1)).toLoadRect (View.loadsAt_vmem h_S1x1x16))
      Prog.lift (.store arg6 (Rect.unit (s := S12x16x128) (k0_off266 k0_t1) S1x1x16.size (k0_off266_inb k0_t1)) (k0_pay3589 v1434_4) Finset.univ (View.stores_vmem_bits_univ h_S1x1x16 rfl) (.inl rfl))
      let v1462 : Vec F S1x1x16 .f32 ← Prog.lift (.load arg6 (Rect.unit (s := S12x16x128) (k0_off267 k0_t1) S1x1x16.size (k0_off267_inb k0_t1)).toLoadRect (View.loadsAt_vmem h_S1x1x16))
      Prog.lift (.store arg6 (Rect.unit (s := S12x16x128) (k0_off267 k0_t1) S1x1x16.size (k0_off267_inb k0_t1)) (k0_pay3590 v1434_5) Finset.univ (View.stores_vmem_bits_univ h_S1x1x16 rfl) (.inl rfl))
      let v1467 : Vec F S1x1x16 .f32 ← Prog.lift (.load arg6 (Rect.unit (s := S12x16x128) (k0_off268 k0_t1) S1x1x16.size (k0_off268_inb k0_t1)).toLoadRect (View.loadsAt_vmem h_S1x1x16))
      g ⟨v1434_6, v1434_7, v1434_8, v1434_9, v1434_10, v1434_11, v1434_12, v1434_13, v1434_14, v1434_15, v1467⟩) := by
  rw [k0_part120_eq_skeleton]; unfold k0_part120_skel
  simp only [t17_eq]
  simp only [bind_assoc, pure_bind]

end Cert.KernelIdeal.K0
-- ==== Proof.K0T1.lean ====
module

public import proofs.«01_k».proof.Proof.K0Binds

@[expose] public section

set_option maxRecDepth 65536
set_option maxHeartbeats 400000

namespace Cert.KernelIdeal.K0

open Cert.KernelIdeal Cert.KernelIdeal.Gen Idealize.ShloMosaic Idealize.SL.Sem

variable {F : FTy → Type} [FloatOps F]

theorem t1_eq (i arg2 harg2 arg3 harg3 arg4 harg4 arg5 harg5 arg6 harg6 arg7 arg8 v66_r0 v1 v12 c8_i32 v30 v35 v37 c0_i32_14 k0_t1) :
    k0_t1_body (F := F) i arg2 harg2 arg3 harg3 arg4 harg4 arg5 harg5 arg6 harg6 arg7 arg8 v66_r0 v1 v12 c8_i32 v30 v35 v37 c0_i32_14 k0_t1 () =
      t1 i arg2 arg4 harg4 arg5 harg5 arg6 arg7 arg8 k0_t1 := by
  unfold k0_t1_body t1 task sub
  simp only [p84_bind, p87_bind, p89_bind, p91_bind, p93_bind, p95_bind, p98_bind, p100_bind, p104_bind, p106_bind, p108_bind, p111_bind, p113_bind, p115_bind, p117_bind, p120_bind]
  simp only [bind_assoc]
  rfl

end Cert.KernelIdeal.K0
-- ==== Proof.Acc.lean ====
module

public import proofs.«01_k».proof.Proof.TopS
public import Mathlib.Tactic.FinCases

/-! The straight lines over families of wires, and a run of blocks folded into one list. -/

@[expose] public section

set_option maxRecDepth 65536

namespace Cert.Top

theorem wires_fam {α : Type*} (v : ℕ → α) : ∀ i < 16, wires ![v 0, v 1, v 2, v 3, v 4, v 5, v 6, v 7, v 8, v 9, v 10, v 11, v 12, v 13, v 14, v 15] i = v i := by
  intro i hi
  unfold wires
  rw [dif_pos hi]
  have key : ∀ j : Fin 16, (![v 0, v 1, v 2, v 3, v 4, v 5, v 6, v 7, v 8, v 9, v 10, v 11, v 12, v 13, v 14, v 15] : Fin 16 → α) j = v j.val := by
    intro j; fin_cases j <;> rfl
  exact key ⟨i, hi⟩

section
variable {α β : Type*} (mx mn : α → α → α)

theorem sortS_fam (v : ℕ → α) (k : α → α → α → α → α → α → α → α → α → α → α → α → α → α → α → α → β) :
    sortS mx mn (v 0) (v 1) (v 2) (v 3) (v 4) (v 5) (v 6) (v 7) (v 8) (v 9) (v 10) (v 11) (v 12) (v 13) (v 14) (v 15) k =
      let s := sort16 mx mn v
      k (s 0) (s 1) (s 2) (s 3) (s 4) (s 5) (s 6) (s 7) (s 8) (s 9) (s 10) (s 11) (s 12) (s 13) (s 14) (s 15) := by
  rw [sortS_eq]
  have h := net_agree mx mn sortL sortL_lt _ v (wires_fam v)
  simp only [sort16]
  rw [h 0 (by decide), h 1 (by decide), h 2 (by decide), h 3 (by decide), h 4 (by decide), h 5 (by decide), h 6 (by decide), h 7 (by decide),
    h 8 (by decide), h 9 (by decide), h 10 (by decide), h 11 (by decide), h 12 (by decide), h 13 (by decide), h 14 (by decide), h 15 (by decide)]

theorem mergeS_fam (a b : ℕ → α) (k : α → α → α → α → α → α → α → α → α → α → α → α → α → α → α → α → β) :
    mergeS mx mn (a 0) (a 1) (a 2) (a 3) (a 4) (a 5) (a 6) (a 7) (a 8) (a 9) (a 10) (a 11) (a 12) (a 13) (a 14) (a 15)
      (b 0) (b 1) (b 2) (b 3) (b 4) (b 5) (b 6) (b 7) (b 8) (b 9) (b 10) (b 11) (b 12) (b 13) (b 14) (b 15) k =
      let s := merge mx mn a b
      k (s 0) (s 1) (s 2) (s 3) (s 4) (s 5) (s 6) (s 7) (s 8) (s 9) (s 10) (s 11) (s 12) (s 13) (s 14) (s 15) := by
  unfold mergeS
  rw [cleanS_eq]
  have h := net_agree mx mn cleanL cleanL_lt _ (half mx a b) (wires_fam (half mx a b))
  simp only [half, Nat.sub_zero, Nat.reduceSub, Nat.sub_self] at h
  simp only [merge]
  rw [h 0 (by decide), h 1 (by decide), h 2 (by decide), h 3 (by decide), h 4 (by decide), h 5 (by decide), h 6 (by decide), h 7 (by decide),
    h 8 (by decide), h 9 (by decide), h 10 (by decide), h 11 (by decide), h 12 (by decide), h 13 (by decide), h 14 (by decide), h 15 (by decide)]

/-- Blocks of sixteen rows sorted and merged, one after another, into the list. -/
def acc (bot : α) (h : ℕ → α) : ℕ → ℕ → α
  | 0 => fun _ => bot
  | j + 1 => merge mx mn (sort16 mx mn fun k => h (16 * j + k)) (acc bot h j)

end

theorem acc_hom {α β : Type*} {mx mn : α → α → α} {mx' mn' : β → β → β} (e : α → β)
    (hx : ∀ a b, e (mx a b) = mx' (e a) (e b)) (hn : ∀ a b, e (mn a b) = mn' (e a) (e b)) (bot : α) (h : ℕ → α) (j k : ℕ) :
    e (acc mx mn bot h j k) = acc mx' mn' (e bot) (fun i => e (h i)) j k := by
  induction j generalizing k with
  | zero => rfl
  | succ j ih =>
    unfold acc
    rw [merge_hom e hx hn]
    congr 1
    · funext i; exact sort16_hom e hx hn _ _
    · funext i; exact ih i

end Cert.Top
-- ==== Proof.K0Val.lean ====
module

public import proofs.«01_k».proof.Proof.K0Prog
public import proofs.«01_k».proof.Proof.Acc
public import Idealize.ShloMosaic.Lib.ValueLayout

/-! What the SparseCore kernel's blocks compute: a buffer's columns folded into their lists. -/

@[expose] public section

set_option maxRecDepth 65536

noncomputable section

namespace Cert.KernelIdeal.K0

open Cert.KernelIdeal Cert.KernelIdeal.Gen Idealize.ShloMosaic Idealize.SL.Sem Idealize.ShloMosaic.ValueIdx

variable {F : FTy → Type} [FloatOps F]

/-- A buffer's place. -/
def at2 (r c : ℕ) : S256x128.Idx := ix2 (Fin.ofNat 256 r) (Fin.ofNat 128 c)

/-- Row `r`'s lanes in sub-column `n`. -/
def rowv (g : S256x128.Idx → F .f32) (n r : ℕ) : FVec F S16 .f32 := fun x => g (at2 r (16 * n + (x 0).val))

/-- The lists after `j` blocks of sub-column `n`. -/
def accV (g : S256x128.Idx → F .f32) (n j : ℕ) : ℕ → FVec F S16 .f32 := Top.acc maximumf minimumf neg (rowv g n) j

/-- A family of sixteen as the loop carries it. -/
def pack (s : ℕ → FVec F S16 .f32) : T16 F :=
  (s 0, s 1, s 2, s 3, s 4, s 5, s 6, s 7, s 8, s 9, s 10, s 11, s 12, s 13, s 14, s 15)

/-- Entry `s` of column `c`'s list. -/
def outAt (g : S256x128.Idx → F .f32) (s c : ℕ) : F .f32 := accV g (c / 16) 16 s (ix1 (Fin.ofNat 16 c))

theorem pack_neg (g : S256x128.Idx → F .f32) (n : ℕ) :
    (neg, neg, neg, neg, neg, neg, neg, neg, neg, neg, neg, neg, neg, neg, neg, neg) = pack (F := F) (accV g n 0) := rfl

theorem blk_val (g : S256x128.Idx → F .f32) (n t : ℕ) (a : ℕ → FVec F S16 .f32) (ha : ∀ k < 16, a k = rowv g n (16 * t + k)) (b : ℕ → FVec F S16 .f32)
    (hb : b = accV g n t) :
    (Top.sortS maximumf minimumf (a 0) (a 1) (a 2) (a 3) (a 4) (a 5) (a 6) (a 7) (a 8) (a 9) (a 10) (a 11) (a 12) (a 13) (a 14) (a 15) fun s0 s1 s2 s3 s4 s5 s6 s7 s8 s9 s10 s11 s12 s13 s14 s15 =>
      Top.mergeS maximumf minimumf s0 s1 s2 s3 s4 s5 s6 s7 s8 s9 s10 s11 s12 s13 s14 s15 (b 0) (b 1) (b 2) (b 3) (b 4) (b 5) (b 6) (b 7) (b 8) (b 9) (b 10) (b 11) (b 12) (b 13) (b 14) (b 15) fun m0 m1 m2 m3 m4 m5 m6 m7 m8 m9 m10 m11 m12 m13 m14 m15 =>
        ((m0, m1, m2, m3, m4, m5, m6, m7, m8, m9, m10, m11, m12, m13, m14, m15) : T16 F)) = pack (accV g n (t + 1)) := by
  subst hb
  have h := fun i hi => (Top.net_agree (maximumf (F := F) (s := S16) (φ := .f32)) minimumf Top.sortL Top.sortL_lt a (fun k => rowv g n (16 * t + k)) ha i hi)
  rw [Top.sortS_fam]
  simp only [Top.sort16]
  rw [h 0 (by decide), h 1 (by decide), h 2 (by decide), h 3 (by decide), h 4 (by decide), h 5 (by decide), h 6 (by decide), h 7 (by decide),
    h 8 (by decide), h 9 (by decide), h 10 (by decide), h 11 (by decide), h 12 (by decide), h 13 (by decide), h 14 (by decide), h 15 (by decide)]
  exact Top.mergeS_fam maximumf minimumf (Top.sort16 maximumf minimumf fun k => rowv g n (16 * t + k)) (accV g n t) _

/-- An entry of a list is the scalar network's on its column. -/
theorem outAt_eq (g : S256x128.Idx → F .f32) (s c : ℕ) :
    outAt g s c = Top.acc FloatOps.maximumf FloatOps.minimumf (Scalar.ofBits .f32 0xFF800000#32) (fun r => g (at2 r c)) 16 s := by
  unfold outAt accV
  refine (Top.acc_hom (fun v : FVec F S16 .f32 => v (ix1 (Fin.ofNat 16 c))) (mx' := FloatOps.maximumf) (mn' := FloatOps.minimumf)
    (fun _ _ => rfl) (fun _ _ => rfl) neg (rowv g (c / 16)) 16 s).trans ?_
  congr 1
  funext r
  show g (at2 r (16 * (c / 16) + c % 16)) = _
  rw [Nat.div_add_mod]

end Cert.KernelIdeal.K0
-- ==== Proof.K0Common.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.K0Val

/-! The program as the launch takes it, and its ghost state. -/

@[expose] public section

noncomputable section

namespace Cert.KernelIdeal.K0

open Cert.KernelIdeal Cert.KernelIdeal.Gen Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The pipeline's share of the ghost state. -/
abbrev UP : Type := UR sig nD τ
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP; infer_instance

abbrev cV (L : grid0.Coords) : Fin τ.nSC := (L 0).castLE hcore0
abbrev jV (L : grid0.Coords) : Fin τ.nSub := (L 1).castLE hsub0

end Cert.KernelIdeal.K0
-- ==== Proof.K0Tile.lean ====
module

public import proofs.«01_k».proof.Proof.K0Common

/-! One task over a buffer: its loads, its lists and its stores. -/

@[expose] public section

set_option maxRecDepth 65536

noncomputable section

namespace Cert.KernelIdeal.K0

open Cert.KernelIdeal Cert.KernelIdeal.Gen Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords)

/-- A tile's program takes its resources to `Q`. -/
abbrev tw {α : Type} (p : TP F L α) (Q : α → sProp 𝕄) : sProp 𝕄 :=
  wp frame (wpE (defs₀ (F := F)) 𝒱₀ (V d (cV L) (jV L)) none) Set.univ p Q

/-- The lanes loaded of a row. -/
theorem ld_wp (buf : Memref sig .scVector .vmem S256x128 .f32) (o : Fin 2 → ℕ)
    (h : ∀ a, o a + S1x16.size a ≤ S256x128.size a) (n r : ℕ) (ho : o = ![r, 16 * n])
    (f : Buf (Elt F) (buf.view.loc (V d (cV L) (jV L)))) {α : Type} {k : FVec F S16 .f32 → TP F L α} {Q : α → sProp 𝕄} :
    (buf.view.loc (V d (cV L) (jV L)) ↦{fullShare} f : sProp 𝕄)
      ⊢ iprop(((buf.view.loc (V d (cV L) (jV L)) ↦{fullShare} f) -∗ tw d L (k (rowv (buf.view.read (Elt F) f) n r)) Q)
          -∗ tw d L (ld L buf o h >>= k) Q) := by
  subst ho
  have hv : shapeCast S16 ((buf.access (Rect.unit (s := S256x128) ![r, 16 * n] S1x16.size h)).read (Elt F) f) shapeCasts_S1x16_S16
      = rowv (buf.view.read (Elt F) f) n r := by
    funext x
    refine (shapeCast_apply _ shapeCasts_S1x16_S16 x (ix2 0 (x 0)) ?_).trans ?_
    · rw [Shape.rowMajor_val_two, Shape.rowMajor_val_one]
      show 0 * 16 + (x 0).val = (x 0).val
      omega
    · unfold rowv
      show buf.view.read (Elt F) f _ = _
      congr 1
      have hr := h 0
      have hc := h 1
      have hx : (x 0).val < 16 := (x 0).isLt
      simp at hr hc
      funext a
      match a with
      | ⟨0, _⟩ => exact Fin.ext (show r + 1 * 0 = r % 256 by rw [Nat.mod_eq_of_lt (by omega)]; omega)
      | ⟨1, _⟩ => exact Fin.ext (show 16 * n + 1 * (x 0).val = (16 * n + (x 0).val) % 128 by rw [Nat.mod_eq_of_lt (by omega)]; omega)
  rw [← hv]
  exact wp_load_rect (defs := defs₀ (F := F)) 𝒱₀ (V d (cV L) (jV L)) none (Γ := _) Set.univ (m := buf)
    (r := Rect.unit (s := S256x128) ![r, 16 * n] S1x16.size h) (hl := View.loadsAt_vmem h_S1x16)
    (k := fun v => k (shapeCast S16 v shapeCasts_S1x16_S16)) (q := fullShare) (f := f) (Finset.subset_univ _)

theorem trips2 : k0_t2_loop.trips = 16 := by decide +kernel
theorem trips1 : k0_t1_loop.trips = 6 := by decide +kernel

/-- One block's loads, sort and merge. -/
theorem blk_wp (buf : Memref sig .scVector .vmem S256x128 .f32) (o : BitVec 32 → Fin 2 → ℕ)
    (h : ∀ (r : Fin 16), ∀ a, o (BitVec.ofNat 32 r.val) a + S1x16.size a ≤ S256x128.size a) (n t : ℕ)
    (ho : ∀ r : Fin 16, o (BitVec.ofNat 32 r.val) = ![16 * t + r.val, 16 * n])
    (f : Buf (Elt F) (buf.view.loc (V d (cV L) (jV L)))) :
    (buf.view.loc (V d (cV L) (jV L)) ↦{fullShare} f : sProp 𝕄)
      ⊢ tw d L (blk L buf o h (pack (accV (buf.view.read (Elt F) f) n t))) fun st =>
          iprop(⌜st = pack (accV (buf.view.read (Elt F) f) n (t + 1))⌝ ∗ (buf.view.loc (V d (cV L) (jV L)) ↦{fullShare} f)) := by
  unfold blk
  iintro H
  iapply (ld_wp d L buf _ (h 0) n _ (ho 0)) $$ H; iintro H
  iapply (ld_wp d L buf _ (h 1) n _ (ho 1)) $$ H; iintro H
  iapply (ld_wp d L buf _ (h 2) n _ (ho 2)) $$ H; iintro H
  iapply (ld_wp d L buf _ (h 3) n _ (ho 3)) $$ H; iintro H
  iapply (ld_wp d L buf _ (h 4) n _ (ho 4)) $$ H; iintro H
  iapply (ld_wp d L buf _ (h 5) n _ (ho 5)) $$ H; iintro H
  iapply (ld_wp d L buf _ (h 6) n _ (ho 6)) $$ H; iintro H
  iapply (ld_wp d L buf _ (h 7) n _ (ho 7)) $$ H; iintro H
  iapply (ld_wp d L buf _ (h 8) n _ (ho 8)) $$ H; iintro H
  iapply (ld_wp d L buf _ (h 9) n _ (ho 9)) $$ H; iintro H
  iapply (ld_wp d L buf _ (h 10) n _ (ho 10)) $$ H; iintro H
  iapply (ld_wp d L buf _ (h 11) n _ (ho 11)) $$ H; iintro H
  iapply (ld_wp d L buf _ (h 12) n _ (ho 12)) $$ H; iintro H
  iapply (ld_wp d L buf _ (h 13) n _ (ho 13)) $$ H; iintro H
  iapply (ld_wp d L buf _ (h 14) n _ (ho 14)) $$ H; iintro H
  iapply (ld_wp d L buf _ (h 15) n _ (ho 15)) $$ H; iintro H
  unfold tw
  simp only [pack, wp_pure]
  imodintro
  isplitr
  · ipureintro
    exact blk_val (buf.view.read (Elt F) f) n t (fun k => rowv (buf.view.read (Elt F) f) n (16 * t + k)) (fun _ _ => rfl) _ rfl
  · iexact H

/-- The places of the result already written: the tasks before, and of this one the sub-columns before and rows of this. -/
def Pt (q n s : ℕ) (y : S12x16x128.Idx) : Prop :=
  (y 0).val < q ∨ ((y 0).val = q ∧ ((y 2).val / 16 < n ∨ ((y 2).val / 16 = n ∧ (y 1).val < s)))

/-- The result buffer, written at its first places. -/
def RES (res : Memref sig .scVector .vmem S12x16x128 .f32) (G : S12x16x128.Idx → F .f32) (q n s : ℕ) : sProp 𝕄 :=
  iprop(∃ f : Buf (Elt F) (res.view.loc (V d (cV L) (jV L))), ⌜∀ y, Pt q n s y → res.view.read (Elt F) f y = G y⌝
    ∗ (res.view.loc (V d (cV L) (jV L)) ↦{fullShare} f))

theorem RES_congr (res : Memref sig .scVector .vmem S12x16x128 .f32) (G : S12x16x128.Idx → F .f32) {q n s q' n' s' : ℕ}
    (h : ∀ y, Pt q' n' s' y → Pt q n s y) : RES d L res G q n s ⊢ (RES d L res G q' n' s' : sProp 𝕄) := by
  unfold RES
  iintro ⟨%f, %hf, H⟩
  iexists f
  isplitr
  · ipureintro; exact fun y hy => hf y (h y hy)
  · iexact H

/-- A row of lanes stored. -/
theorem st1_wp (res : Memref sig .scVector .vmem S12x16x128 .f32) (G : S12x16x128.Idx → F .f32) (o : Fin 3 → ℕ)
    (h : ∀ a, o a + S1x1x16.size a ≤ S12x16x128.size a) (q n s : ℕ) (ho : o = ![q, s, 16 * n]) (v : FVec F S16 .f32)
    (hv : ∀ (x : S16.Idx) (y : S12x16x128.Idx), (y 0).val = q → (y 1).val = s → (y 2).val = 16 * n + (x 0).val → v x = G y) :
    RES d L res G q n s ⊢ tw d L (st1 L res o h v) fun _ => RES d L res G q n (s + 1) := by
  subst ho
  unfold RES
  iintro ⟨%f, %hf, H⟩
  unfold st1 tw
  simp only [Prog.bind_lift, Prog.lift]
  iapply (wp_load (defs := defs₀ (F := F)) 𝒱₀ (V d (cV L) (jV L)) none Set.univ (m := res) (q := fullShare) (f := f) (Finset.subset_univ _)) $$ H
  iintro H
  iapply (wp_store (defs := defs₀ (F := F)) 𝒱₀ (V d (cV L) (jV L)) none Set.univ (m := res) (r := Rect.unit (s := S12x16x128) ![q, s, 16 * n] S1x1x16.size h) (f := f) (Finset.subset_univ _)) $$ H
  iintro H
  rw [wp_ret]
  imodintro
  iexists _
  isplitr
  swap
  · iexact H
  ipureintro
  intro y hy
  have h0 := h 0
  have h1 := h 1
  have h2 := h 2
  simp at h0 h1 h2
  by_cases hm : (y 0).val = q ∧ (y 1).val = s ∧ (y 2).val / 16 = n
  · obtain ⟨e0, e1, e2⟩ := hm
    have hx : (y 2).val % 16 < 16 := Nat.mod_lt _ (by decide)
    have e := View.read_slice_write_emb (v := res.view) (Val := Elt F) (Rect.unit (s := S12x16x128) ![q, s, 16 * n] S1x1x16.size h) f
      (shapeCast S1x1x16 v shapeCasts_S16_S1x1x16) (M := Finset.univ) (x := ix3 0 0 ⟨(y 2).val % 16, hx⟩) (Finset.mem_univ _)
    have ey : (Rect.unit (s := S12x16x128) ![q, s, 16 * n] S1x1x16.size h).emb (ix3 0 0 ⟨(y 2).val % 16, hx⟩) = y := by
      apply Rect.emb_eq_of_coords
      intro a
      match a with
      | ⟨0, _⟩ => exact (show (y 0).val = q + 1 * 0 by omega)
      | ⟨1, _⟩ => exact (show (y 1).val = s + 1 * 0 by omega)
      | ⟨2, _⟩ => exact (show (y 2).val = 16 * n + 1 * ((y 2).val % 16) by omega)
    rw [ey] at e
    refine e.trans ?_
    refine (shapeCast_apply _ shapeCasts_S16_S1x1x16 _ (ix1 ⟨(y 2).val % 16, hx⟩) ?_).trans ?_
    · rw [Shape.rowMajor_val_three, Shape.rowMajor_val_one]
      show (y 2).val % 16 = (0 * 1 + 0) * 16 + (y 2).val % 16
      omega
    · exact hv _ y e0 e1 (show (y 2).val = 16 * n + (y 2).val % 16 by omega)
  · rw [← hf y (by unfold Pt at hy ⊢; omega)]
    refine View.read_slice_write_of_not_mem (v := res.view) (Val := Elt F) (Rect.unit (s := S12x16x128) ![q, s, 16 * n] S1x1x16.size h) f _ _ ?_
    rw [Rect.map_emb_univ]
    intro hmem
    rw [Rect.mem_set_unit] at hmem
    apply hm
    have m0 := hmem 0
    have m1 := hmem 1
    have m2 := hmem 2
    simp at m0 m1 m2
    omega

end Tile

end Cert.KernelIdeal.K0
-- ==== Proof.K0Task.lean ====
module

public import proofs.«01_k».proof.Proof.K0Tile

/-! One task: its eight sub-columns. -/

@[expose] public section

set_option maxRecDepth 65536

noncomputable section

namespace Cert.KernelIdeal.K0

open Cert.KernelIdeal Cert.KernelIdeal.Gen Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords)

/-- A row of lanes stored at the head of a program. -/
theorem st1_bind (res : Memref sig .scVector .vmem S12x16x128 .f32) (G : S12x16x128.Idx → F .f32) (o : Fin 3 → ℕ)
    (h : ∀ a, o a + S1x1x16.size a ≤ S12x16x128.size a) (q n s : ℕ) (ho : o = ![q, s, 16 * n]) (v : FVec F S16 .f32)
    (hv : ∀ (x : S16.Idx) (y : S12x16x128.Idx), (y 0).val = q → (y 1).val = s → (y 2).val = 16 * n + (x 0).val → v x = G y)
    {α : Type} {k : PUnit → TP F L α} {Q : α → sProp 𝕄} :
    RES d L res G q n s ⊢ iprop((RES d L res G q n (s + 1) -∗ tw d L (k ⟨⟩) Q) -∗ tw d L (st1 L res o h v >>= k) Q) := by
  unfold tw
  rw [wp_bind]
  iintro HR HK
  iapply (wp_wand_r frame _ _)
  isplitl [HR]
  · iapply (st1_wp d L res G o h q n s ho v hv); iexact HR
  iintro %_u HR
  iapply HK; iexact HR

/-- One sub-column of a task. -/
theorem sub_wp (buf : Memref sig .scVector .vmem S256x128 .f32) (res : Memref sig .scVector .vmem S12x16x128 .f32)
    (o : Fin k0_t2_loop.trips → BitVec 32 → Fin 2 → ℕ)
    (h : ∀ t (r : Fin 16), ∀ a, o t (BitVec.ofNat 32 r.val) a + S1x16.size a ≤ S256x128.size a)
    (so : Fin 16 → Fin 3 → ℕ) (hs : ∀ s a, so s a + S1x1x16.size a ≤ S12x16x128.size a) (q n : ℕ)
    (ho : ∀ t (r : Fin 16), o t (BitVec.ofNat 32 r.val) = ![16 * t.val + r.val, 16 * n])
    (hso : ∀ s : Fin 16, so s = ![q, s.val, 16 * n])
    (f : Buf (Elt F) (buf.view.loc (V d (cV L) (jV L)))) (G : S12x16x128.Idx → F .f32)
    (hG : ∀ y : S12x16x128.Idx, (y 0).val = q → G y = outAt (buf.view.read (Elt F) f) (y 1).val (y 2).val) :
    iprop((buf.view.loc (V d (cV L) (jV L)) ↦{fullShare} f) ∗ RES d L res G q n 0)
      ⊢ tw d L (sub L buf res o h so hs) fun _ =>
          iprop((buf.view.loc (V d (cV L) (jV L)) ↦{fullShare} f) ∗ RES d L res G q (n + 1) 0) := by
  have hv : ∀ s : ℕ, ∀ (x : S16.Idx) (y : S12x16x128.Idx), (y 0).val = q → (y 1).val = s → (y 2).val = 16 * n + (x 0).val →
      accV (buf.view.read (Elt F) f) n 16 s x = G y := by
    intro s x y e0 e1 e2
    have hx : (x 0).val < 16 := (x 0).isLt
    rw [hG y e0, e1, e2]
    unfold outAt
    rw [show (16 * n + (x 0).val) / 16 = n by omega]
    congr 1
    funext a
    match a with
    | ⟨0, _⟩ => exact Fin.ext (show (x 0).val = (16 * n + (x 0).val) % 16 by omega)
  unfold sub
  iintro ⟨H, HR⟩
  iapply (Scf.wp_for_bind frame (wpE (defs₀ (F := F)) 𝒱₀ (V d (cV L) (jV L)) none) Set.univ _ _ _ k0_t2_ok _ _
    (fun t st => iprop(⌜st = pack (accV (buf.view.read (Elt F) f) n t)⌝ ∗ (buf.view.loc (V d (cV L) (jV L)) ↦{fullShare} f)))
    (fun t st => by
      iintro ⟨%e, H⟩
      subst e
      iapply (blk_wp d L buf (o t) (h t) n t.val (ho t) f)
      iexact H)) $$ [H]
  · isplitr
    · ipureintro; rfl
    · iexact H
  iintro %st ⟨%e, H⟩
  have e' : st = pack (accV (buf.view.read (Elt F) f) n 16) := e.trans (by rw [show (Scf.trips _ _ _ : ℕ) = 16 from trips2])
  subst e'
  simp only [pack]
  iapply (st1_bind d L res G (so 0) (hs 0) q n 0 (hso 0) _ (hv 0)) $$ HR; iintro HR
  iapply (st1_bind d L res G (so 1) (hs 1) q n 1 (hso 1) _ (hv 1)) $$ HR; iintro HR
  iapply (st1_bind d L res G (so 2) (hs 2) q n 2 (hso 2) _ (hv 2)) $$ HR; iintro HR
  iapply (st1_bind d L res G (so 3) (hs 3) q n 3 (hso 3) _ (hv 3)) $$ HR; iintro HR
  iapply (st1_bind d L res G (so 4) (hs 4) q n 4 (hso 4) _ (hv 4)) $$ HR; iintro HR
  iapply (st1_bind d L res G (so 5) (hs 5) q n 5 (hso 5) _ (hv 5)) $$ HR; iintro HR
  iapply (st1_bind d L res G (so 6) (hs 6) q n 6 (hso 6) _ (hv 6)) $$ HR; iintro HR
  iapply (st1_bind d L res G (so 7) (hs 7) q n 7 (hso 7) _ (hv 7)) $$ HR; iintro HR
  iapply (st1_bind d L res G (so 8) (hs 8) q n 8 (hso 8) _ (hv 8)) $$ HR; iintro HR
  iapply (st1_bind d L res G (so 9) (hs 9) q n 9 (hso 9) _ (hv 9)) $$ HR; iintro HR
  iapply (st1_bind d L res G (so 10) (hs 10) q n 10 (hso 10) _ (hv 10)) $$ HR; iintro HR
  iapply (st1_bind d L res G (so 11) (hs 11) q n 11 (hso 11) _ (hv 11)) $$ HR; iintro HR
  iapply (st1_bind d L res G (so 12) (hs 12) q n 12 (hso 12) _ (hv 12)) $$ HR; iintro HR
  iapply (st1_bind d L res G (so 13) (hs 13) q n 13 (hso 13) _ (hv 13)) $$ HR; iintro HR
  iapply (st1_bind d L res G (so 14) (hs 14) q n 14 (hso 14) _ (hv 14)) $$ HR; iintro HR
  iapply (wp_wand_r frame _ _)
  isplitl [HR]
  · iapply (st1_wp d L res G (so 15) (hs 15) q n 15 (hso 15) _ (hv 15)); iexact HR
  iintro %_u HR
  isplitl [H]; · iexact H
  iapply (RES_congr d L res G (q := q) (n := n) (s := 16)); rotate_left
  · iexact HR
  intro y hy
  have h1 : (y 1).val < 16 := (y 1).isLt
  unfold Pt at hy ⊢
  omega

/-- One sub-column at the head of a program. -/
theorem sub_bind (buf : Memref sig .scVector .vmem S256x128 .f32) (res : Memref sig .scVector .vmem S12x16x128 .f32)
    (o : Fin k0_t2_loop.trips → BitVec 32 → Fin 2 → ℕ)
    (h : ∀ t (r : Fin 16), ∀ a, o t (BitVec.ofNat 32 r.val) a + S1x16.size a ≤ S256x128.size a)
    (so : Fin 16 → Fin 3 → ℕ) (hs : ∀ s a, so s a + S1x1x16.size a ≤ S12x16x128.size a) (q n : ℕ)
    (ho : ∀ t (r : Fin 16), o t (BitVec.ofNat 32 r.val) = ![16 * t.val + r.val, 16 * n])
    (hso : ∀ s : Fin 16, so s = ![q, s.val, 16 * n])
    (f : Buf (Elt F) (buf.view.loc (V d (cV L) (jV L)))) (G : S12x16x128.Idx → F .f32)
    (hG : ∀ y : S12x16x128.Idx, (y 0).val = q → G y = outAt (buf.view.read (Elt F) f) (y 1).val (y 2).val)
    {α : Type} {k : PUnit → TP F L α} {Q : α → sProp 𝕄} :
    iprop((buf.view.loc (V d (cV L) (jV L)) ↦{fullShare} f) ∗ RES d L res G q n 0)
      ⊢ iprop((iprop((buf.view.loc (V d (cV L) (jV L)) ↦{fullShare} f) ∗ RES d L res G q (n + 1) 0) -∗ tw d L (k ⟨⟩) Q)
          -∗ tw d L (sub L buf res o h so hs >>= k) Q) := by
  unfold tw
  rw [wp_bind]
  iintro HR HK
  iapply (wp_wand_r frame _ _)
  isplitl [HR]
  · iapply (sub_wp d L buf res o h so hs q n ho hso f G hG); iexact HR
  iintro %_u HR
  iapply HK; iexact HR

/-- A task. -/
theorem task_wp (buf : Memref sig .scVector .vmem S256x128 .f32) (res : Memref sig .scVector .vmem S12x16x128 .f32)
    (o : Fin 8 → Fin k0_t2_loop.trips → BitVec 32 → Fin 2 → ℕ)
    (h : ∀ n t (r : Fin 16), ∀ a, o n t (BitVec.ofNat 32 r.val) a + S1x16.size a ≤ S256x128.size a)
    (so : Fin 8 → Fin 16 → Fin 3 → ℕ) (hs : ∀ n s a, so n s a + S1x1x16.size a ≤ S12x16x128.size a) (q : ℕ)
    (ho : ∀ n t (r : Fin 16), o n t (BitVec.ofNat 32 r.val) = ![16 * t.val + r.val, 16 * n.val])
    (hso : ∀ n (s : Fin 16), so n s = ![q, s.val, 16 * n.val])
    (f : Buf (Elt F) (buf.view.loc (V d (cV L) (jV L)))) (G : S12x16x128.Idx → F .f32)
    (hG : ∀ y : S12x16x128.Idx, (y 0).val = q → G y = outAt (buf.view.read (Elt F) f) (y 1).val (y 2).val)
    {α : Type} {k : PUnit → TP F L α} {Q : α → sProp 𝕄} :
    iprop((buf.view.loc (V d (cV L) (jV L)) ↦{fullShare} f) ∗ RES d L res G q 0 0)
      ⊢ iprop((iprop((buf.view.loc (V d (cV L) (jV L)) ↦{fullShare} f) ∗ RES d L res G (q + 1) 0 0) -∗ tw d L (k ⟨⟩) Q)
          -∗ tw d L (task L buf res o h so hs >>= k) Q) := by
  unfold tw
  rw [wp_bind]
  unfold task
  iintro H HK
  iapply (sub_bind d L buf res (o 0) (h 0) (so 0) (hs 0) q 0 (ho 0) (hso 0) f G hG) $$ H; iintro H
  iapply (sub_bind d L buf res (o 1) (h 1) (so 1) (hs 1) q 1 (ho 1) (hso 1) f G hG) $$ H; iintro H
  iapply (sub_bind d L buf res (o 2) (h 2) (so 2) (hs 2) q 2 (ho 2) (hso 2) f G hG) $$ H; iintro H
  iapply (sub_bind d L buf res (o 3) (h 3) (so 3) (hs 3) q 3 (ho 3) (hso 3) f G hG) $$ H; iintro H
  iapply (sub_bind d L buf res (o 4) (h 4) (so 4) (hs 4) q 4 (ho 4) (hso 4) f G hG) $$ H; iintro H
  iapply (sub_bind d L buf res (o 5) (h 5) (so 5) (hs 5) q 5 (ho 5) (hso 5) f G hG) $$ H; iintro H
  iapply (sub_bind d L buf res (o 6) (h 6) (so 6) (hs 6) q 6 (ho 6) (hso 6) f G hG) $$ H; iintro H
  iapply (wp_wand_r frame _ _)
  isplitl [H]
  · iapply (sub_wp d L buf res (o 7) (h 7) (so 7) (hs 7) q 7 (ho 7) (hso 7) f G hG); iexact H
  iintro %_u ⟨H, HR⟩
  iapply HK
  isplitl [H]; · iexact H
  iapply (RES_congr d L res G (q := q) (n := 8) (s := 0)); rotate_left
  · iexact HR
  intro y hy
  have h1 : (y 2).val < 128 := (y 2).isLt
  unfold Pt at hy ⊢
  omega

end Tile

end Cert.KernelIdeal.K0
-- ==== Proof.K0Dma.lean ====
module

public import proofs.«01_k».proof.Proof.K0Task

/-! The copies into a tile's buffers: where each reads, its start and its wait. -/

@[expose] public section

set_option maxRecDepth 65536

noncomputable section

namespace Cert.KernelIdeal.K0

open Cert.KernelIdeal Cert.KernelIdeal.Gen Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A tile's number. -/
abbrev wid (L : grid0.Coords) : ℕ := 2 * (L 1).val + (L 0).val

/-- Where task `t`'s window begins. -/
def toff (t : ℕ) : Fin 3 → ℕ := ![t / 48, 2560 + t % 8 * 256, t % 48 / 8 * 128]

theorem off1_eq : ∀ L : grid0.Coords, k0_off1 L = toff (wid L) := by decide +kernel
theorem off3_eq : ∀ (t : Fin k0_t1_loop.trips) (L : grid0.Coords), k0_off3 L t = toff ((2 * t.val + 1) * 32 + wid L) := by decide +kernel
theorem off141_eq : ∀ (t : Fin k0_t1_loop.trips), t.val < 5 → ∀ (L : grid0.Coords), k0_off141 L t = toff ((2 * t.val + 2) * 32 + wid L) := by decide +kernel
theorem cond1_eq : ∀ t : Fin k0_t1_loop.trips, k0_cond1 t = 1#1 := by decide +kernel
theorem cond2_eq : ∀ t : Fin k0_t1_loop.trips, k0_cond2 t = 1#1 ↔ t.val < 5 := by decide +kernel

/-- Task `t`'s window of the array. -/
def rowsOf (A : S8x4608x768.Idx → F .f32) (t : ℕ) : S256x128.Idx → F .f32 := fun y =>
  A (ix3 (Fin.ofNat 8 (t / 48)) (Fin.ofNat 4608 (2560 + t % 8 * 256 + (y 0).val)) (Fin.ofNat 768 (t % 48 / 8 * 128 + (y 1).val)))

abbrev xV : Memref sig .scVector .hbm S8x4608x768 .f32 := Memref.whole main_v0_scv

theorem src_read (A : S8x4608x768.Idx → F .f32) (o : Fin 3 → ℕ) (h : ∀ a, o a + S1x256x128.size a ≤ S8x4608x768.size a) (t : ℕ)
    (ho : o = toff t) : (src xV o h).view.read (Elt F) A = rowsOf A t := by
  subst ho
  funext y
  obtain ⟨a, b, rfl⟩ : ∃ (a : Fin 256) (b : Fin 128), y = ix2 a b := ⟨y 0, y 1, eq_ix2 y⟩
  have h0 := h 0
  have h1 := h 1
  have h2 := h 2
  simp [toff] at h0 h1 h2
  have hy0 := a.isLt
  have hy1 := b.isLt
  refine (View.read_apply _ _).trans ((cast_eq _ _).trans ?_)
  unfold rowsOf
  congr 1
  show (Rect.unit (s := S8x4608x768) (toff t) S1x256x128.size h).emb (Shape.reshapeEquiv _ (ix2 a b)) = _
  refine (congrArg _ (reshapeEquiv_ix2_1ab _ a b)).trans ?_
  apply Rect.emb_eq_of_coords
  intro c
  match c with
  | ⟨0, _⟩ => exact (show (t / 48) % 8 = t / 48 + 1 * 0 by omega)
  | ⟨1, _⟩ => exact (show (2560 + t % 8 * 256 + a.val) % 4608 = 2560 + t % 8 * 256 + 1 * a.val by omega)
  | ⟨2, _⟩ => exact (show (t % 48 / 8 * 128 + b.val) % 768 = t % 48 / 8 * 128 + 1 * b.val by omega)

section Tile

variable (d : Dev nD) (L : grid0.Coords)

/-- The array, at a share. -/
abbrev XP (q : PosShare TreeShare) (A : S8x4608x768.Idx → F .f32) : sProp 𝕄 :=
  xV.view.loc (V d (cV L) (jV L)) ↦{q} A

/-- A buffer holding task `t`'s window. -/
def BUF (buf : Memref sig .scVector .vmem S256x128 .f32) (g : S256x128.Idx → F .f32) : sProp 𝕄 :=
  iprop(∃ f : Buf (Elt F) (buf.view.loc (V d (cV L) (jV L))), ⌜buf.view.read (Elt F) f = g⌝ ∗ (buf.view.loc (V d (cV L) (jV L)) ↦{fullShare} f))

/-- A copy of task `t`'s window under way. -/
def FLY (q : PosShare TreeShare) (A : S8x4608x768.Idx → F .f32) (buf : Memref sig .scVector .vmem S256x128 .f32) (sm : DmaSem sig) (t : ℕ) : sProp 𝕄 :=
  iprop(∃ S : Finset S8x4608x768.Idx, Transfers.Flight (countersEmb (U := UU)) (V d (cV L) (jV L)) (.dma sm) (default : HIx 1) buf.view.dmaCredit
      iprop(BUF d L buf (rowsOf A t) ∗ (xV.view.loc (V d (cV L) (jV L)) ↦[S]{q} A))
    ∗ (xV.view.loc (V d (cV L) (jV L)) ↦[Finset.univ \ S]{q} A))

theorem enq_wp (q : PosShare TreeShare) (A : S8x4608x768.Idx → F .f32) (buf : Memref sig .scVector .vmem S256x128 .f32) (sm : DmaSem sig) (t : ℕ)
    (o : Fin 3 → ℕ) (h : ∀ a, o a + S1x256x128.size a ≤ S8x4608x768.size a) (ho : o = toff t)
    (h0 : 0 < buf.view.dmaCredit)
    {hsrc : (src xV o h).view.WordExact} {hdst : buf.view.WordExact} {hsem : DmaTarget.Typed (nD := nD) (p := Proc.scVector (cV L) (jV L)) .hbm (.dma sm) (.here buf)}
    {α : Type} {k : PUnit → TP F L α} {Q : α → sProp 𝕄} :
    iprop(XP d L q A ∗ (∃ f, buf.view.loc (V d (cV L) (jV L)) ↦{fullShare} f) ∗ semVal ((V d (cV L) (jV L)), .dma sm) 0)
      ⊢ iprop((FLY d L q A buf sm t -∗ tw d L (k ⟨⟩) Q)
          -∗ tw d L (.op (.enqueueDma (src xV o h) (.here buf) (.dma sm) hsrc hdst hsem) k) Q) := by
  iintro ⟨HX, ⟨%f, Hb⟩, Hs⟩ HK
  ihave Hxs := (pointsTo_split_subset (q := q) (f := A) (S := Finset.univ) (Finset.subset_univ (src xV o h).view.set)).1 $$ HX
  icases Hxs with ⟨Hxs, Hxr⟩
  unfold tw
  iapply (Transfers.wp_dmaLocal (countersEmb (U := UU)) 𝒱₀ (V d (cV L) (jV L)) none (src := src xV o h) (dst := buf) (sm := .dma sm) (q := q) (fs := A)
    (Sd := Finset.univ) (fd := f) (default : HIx 1) buf.view.dmaCredit rfl h0 (Finset.subset_univ _)) $$ [Hxs Hb Hs]
  · isplitl [Hxs]; · iexact Hxs
    isplitl [Hb]; · iexact Hb
    iexact Hs
  iintro HF
  iapply HK
  unfold FLY
  iexists (src xV o h).view.set
  isplitl [HF]
  · iapply (Transfers.Flight_mono (countersEmb (U := UU)) (V d (cV L) (jV L)) ?_) $$ HF
    iintro ⟨Hb, Hx⟩
    isplitl [Hb]
    · unfold BUF
      iexists _
      isplitr
      swap
      · iexact Hb
      ipureintro
      rw [View.read_write_univ]
      exact src_read A o h t ho
    · iexact Hx
  · iexact Hxr

theorem wait_wp (q : PosShare TreeShare) (A : S8x4608x768.Idx → F .f32) (buf : Memref sig .scVector .vmem S256x128 .f32) (sm : DmaSem sig) (t : ℕ)
    (m : Memref sig .scVector .hbm S256x128 .f32) {hsrc : m.view.WordExact} {hdst : buf.view.WordExact}
    (O : CellTallies nD τ sig (HIx 1)) (W W' : Waits sig (HIx 1)) (hW : ∀ p ∈ W', p ∈ W ∨ p.2 = none)
    {α : Type} {k : PUnit → TP F L α} {Q : α → sProp 𝕄} :
    iprop(FLY d L q A buf sm t ∗ owes (V d (cV L) (jV L)) O W' ∗ Transfers.MayWaits (V d (cV L) (jV L)) (default : HIx 1) O)
      ⊢ iprop((iprop(XP d L q A ∗ BUF d L buf (rowsOf A t) ∗ semVal ((V d (cV L) (jV L)), .dma sm) 0
            ∗ ∃ W', ⌜∀ p ∈ W', p ∈ W ∨ p.2 = none⌝ ∗ owes (V d (cV L) (jV L)) O W') -∗ tw d L (k ⟨⟩) Q)
          -∗ tw d L (.op (.waitDma2 sm m buf hsrc hdst) k) Q) := by
  unfold FLY tw
  iintro ⟨⟨%S, HF, Hxr⟩, HO, Hmw⟩ HK
  iapply (Transfers.wp_waitLocalO (countersEmb (U := UU)) 𝒱₀ (V d (cV L) (jV L)) none (default : HIx 1) (rfl : buf.view.dmaCredit = _)) $$ [HF HO Hmw]
  · isplitl [HF]; · iexact HF
    isplitl [HO]; · iexact HO
    iapply (Transfers.MayWaits.elim (SemLoc.dma sm)) $$ Hmw
  iintro ⟨⟨Hb, Hx⟩, Hs, HO⟩
  iapply HK
  isplitl [Hx Hxr]
  · iapply (pointsTo_split_subset (q := q) (f := A) (S := Finset.univ) (Finset.subset_univ S)).2
    isplitl [Hx] <;> iassumption
  isplitl [Hb]; · iexact Hb
  isplitl [Hs]; · iexact Hs
  iexists _
  isplitr
  swap
  · iexact HO
  ipureintro
  intro p hp
  rcases Finset.mem_insert.mp hp with hp | hp
  · exact .inr (hp ▸ rfl)
  · exact hW p hp

end Tile

end Cert.KernelIdeal.K0
-- ==== Proof.K0Body.lean ====
module

public import proofs.«01_k».proof.Proof.K0T1
public import proofs.«01_k».proof.Proof.K0Dma

/-! A tile's whole task: its first copy, the loop over the pairs of tasks, and the copy of its lists out. -/

@[expose] public section

set_option maxRecDepth 65536

noncomputable section

namespace Cert.KernelIdeal.K0

open Cert.KernelIdeal Cert.KernelIdeal.Gen Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A tile's lists: entry `(q, s, l)` is the list of task `q * 32 + w`, row `s`, lane `l`. -/
def tileG (A : S8x4608x768.Idx → F .f32) (w : ℕ) : S12x16x128.Idx → F .f32 := fun y =>
  outAt (rowsOf A ((y 0).val * 32 + w)) (y 1).val (y 2).val

/-- The call's result. -/
def scOut (A : S8x4608x768.Idx → F .f32) : S12x32x16x128.Idx → F .f32 := fun z =>
  outAt (rowsOf A ((z 0).val * 32 + (z 1).val)) (z 2).val (z 3).val

abbrev oV : Memref sig .scVector .hbm S12x32x16x128 .f32 := Memref.whole main_v1_scv
abbrev b0 : Memref sig .scVector .vmem S256x128 .f32 := Memref.whole cc0_scratch0
abbrev b1 : Memref sig .scVector .vmem S256x128 .f32 := Memref.whole cc0_scratch1
abbrev rs : Memref sig .scVector .vmem S12x16x128 .f32 := Memref.whole cc0_scratch2

/-- A tile's column of the result. -/
abbrev dstM (L : grid0.Coords) : Memref sig .scVector .hbm S12x16x128 .f32 :=
  (oV.slice (Rect.unit (s := S12x32x16x128) (k0_off278 L) S12x1x16x128.size (k0_off278_inb L)) (fun _ => rfl)).squeeze S12x16x128
    squeezes_S12x1x16x128_S12x16x128

/-- A tile's program over its buffers. -/
abbrev theBody (L : grid0.Coords) : TP F L PUnit :=
  cc0__sc_topk_body L xV (Memref.isWhole_whole _) oV (Memref.isWhole_whole _) b0 (Memref.isWhole_whole _) b1 (Memref.isWhole_whole _)
    rs (Memref.isWhole_whole _) cc0_scratch3 cc0_scratch4 cc0_scoped0

/-- The same, by its steps. -/
def bodyP (L : grid0.Coords) : TP F L PUnit :=
  Prog.op (.enqueueDma (src xV (k0_off1 L) (k0_off1_inb L)) (.here b0) (.dma cc0_scratch3.sem)
      ((View.wordExact_bits rfl).reshape _ _) (Memref.isWhole_whole _).wordExact ⟨Or.inl rfl, trivial⟩) fun _ =>
  Scf.Loop.for k0_t1_loop k0_t1_ok ⟨⟩ (fun t _ => t1 L xV b0 (Memref.isWhole_whole _) b1 (Memref.isWhole_whole _) rs cc0_scratch3 cc0_scratch4 t) >>= fun _ =>
  Prog.op (.enqueueDma rs (.here (dstM L)) (.dma cc0_scoped0.sem) (Memref.isWhole_whole _).wordExact
      ((View.wordExact_bits rfl).reshape _ _) ⟨Or.inl rfl, trivial⟩) fun _ =>
  Prog.op (.waitDma2 cc0_scoped0.sem rs (dstM L) (Memref.isWhole_whole _).wordExact ((View.wordExact_bits rfl).reshape _ _)) fun _ =>
  pure ⟨⟩

theorem theBody_eq (L : grid0.Coords) : theBody (F := F) L = bodyP L := by
  have ht : ∀ (v1 v12 c8 v30 v35 v37 c0 : BitVec 32), (k0_t1_body (F := F) L xV (Memref.isWhole_whole _) oV (Memref.isWhole_whole _) b0 (Memref.isWhole_whole _) b1 (Memref.isWhole_whole _)
    rs (Memref.isWhole_whole _) cc0_scratch3 cc0_scratch4 cc0_scoped0 v1 v12 c8 v30 v35 v37 c0) =
      (fun t _ => t1 L xV b0 (Memref.isWhole_whole _) b1 (Memref.isWhole_whole _) rs cc0_scratch3 cc0_scratch4 t) := by
    intro v1 v12 c8 v30 v35 v37 c0
    funext t u
    exact t1_eq ..
  unfold theBody
  rw [cc0__sc_topk_body_eq_skeleton]
  unfold cc0__sc_topk_body_skel
  rw [k0_part122_eq_skeleton, k0_part123_eq_skeleton]
  unfold k0_part122_skel k0_part123_skel
  simp only [pure_bind, ht, bind_assoc, bodyP]
  rfl

section Tile

variable (d : Dev nD) (L : grid0.Coords)

/-- The first buffer and its copy, before pair `t`. -/
def FST (q : PosShare TreeShare) (A : S8x4608x768.Idx → F .f32) (t : ℕ) : sProp 𝕄 :=
  if t < 6 then FLY d L q A b0 cc0_scratch3.sem (2 * t * 32 + wid L)
  else iprop((∃ f, b0.view.loc (V d (cV L) (jV L)) ↦{fullShare} f) ∗ semVal ((V d (cV L) (jV L)), .dma cc0_scratch3.sem) 0 ∗ XP d L q A)

/-- What holds before pair `t`. -/
def INV (q : PosShare TreeShare) (A : S8x4608x768.Idx → F .f32) (O : CellTallies nD τ sig (HIx 1)) (W : Waits sig (HIx 1)) (t : ℕ) : sProp 𝕄 :=
  iprop(Transfers.MayWaits (V d (cV L) (jV L)) (default : HIx 1) O ∗ (∃ W', ⌜∀ p ∈ W', p ∈ W ∨ p.2 = none⌝ ∗ owes (V d (cV L) (jV L)) O W')
    ∗ RES d L rs (tileG A (wid L)) (2 * t) 0 0 ∗ (∃ f, b1.view.loc (V d (cV L) (jV L)) ↦{fullShare} f)
    ∗ semVal ((V d (cV L) (jV L)), .dma cc0_scratch4.sem) 0 ∗ FST d L q A t)

theorem t1_wp (q : PosShare TreeShare) (A : S8x4608x768.Idx → F .f32) (O : CellTallies nD τ sig (HIx 1)) (W : Waits sig (HIx 1))
    (t : Fin k0_t1_loop.trips) :
    INV d L q A O W t.val ⊢ tw d L (t1 L xV b0 (Memref.isWhole_whole _) b1 (Memref.isWhole_whole _) rs cc0_scratch3 cc0_scratch4 t)
      fun _ => INV d L q A O W (t.val + 1) := by
  have ht : t.val < 6 := lt_of_lt_of_eq t.isLt trips1
  unfold t1 pf0
  rw [dif_pos (cond1_eq t)]
  simp only [Prog.bind_lift]
  unfold INV
  rw [show FST d L q A t.val = FLY d L q A b0 cc0_scratch3.sem (2 * t.val * 32 + wid L) from if_pos ht]
  iintro ⟨#Hmw, ⟨%W1, %hW1, HO⟩, HR, Hb1, Hs1, HF⟩
  iapply (wait_wp d L q A b0 cc0_scratch3.sem _ _ O W W1 hW1) $$ [HF HO]
  · isplitl [HF]; · iexact HF
    isplitl [HO]; · iexact HO
    iexact Hmw
  iintro ⟨HX, Hb0, Hs0, ⟨%W2, %hW2, HO⟩⟩
  iapply (enq_wp d L q A b1 cc0_scratch4.sem ((2 * t.val + 1) * 32 + wid L) _ _ (off3_eq t L) (by decide)) $$ [HX Hb1 Hs1]
  · isplitl [HX]; · iexact HX
    isplitl [Hb1]; · iexact Hb1
    iexact Hs1
  iintro HF
  unfold BUF
  icases Hb0 with ⟨%f0, %hf0, Hb0⟩
  iapply (task_wp d L b0 rs lo0 lo0_inb (so0 t) (so0_inb t) (2 * t.val) lo0_eq (so0_eq t) f0 (tileG A (wid L))
    (fun y hy => by rw [hf0]; unfold tileG; rw [hy])) $$ [Hb0 HR]
  · isplitl [Hb0]; · iexact Hb0
    iexact HR
  iintro ⟨Hb0, HR⟩
  iapply (wait_wp d L q A b1 cc0_scratch4.sem _ _ O W W2 hW2) $$ [HF HO]
  · isplitl [HF]; · iexact HF
    isplitl [HO]; · iexact HO
    iexact Hmw
  iintro ⟨HX, Hb1, Hs1, HO⟩
  unfold BUF
  icases Hb1 with ⟨%f1, %hf1, Hb1⟩
  have fin : iprop(iprop(b1.view.loc (V d (cV L) (jV L)) ↦{fullShare} f1) ∗ RES d L rs (tileG A (wid L)) (2 * t.val + 1) 0 0) ⊢
      iprop((iprop((b1.view.loc (V d (cV L) (jV L)) ↦{fullShare} f1) ∗ RES d L rs (tileG A (wid L)) (2 * (t.val + 1)) 0 0) -∗ INV d L q A O W (t.val + 1))
        -∗ tw d L (task (F := F) L b1 rs lo1 lo1_inb (so1 t) (so1_inb t)) fun _ => INV d L q A O W (t.val + 1)) := by
    have h := task_wp (F := F) d L b1 rs lo1 lo1_inb (so1 t) (so1_inb t) (2 * t.val + 1) lo1_eq (so1_eq t) f1 (tileG A (wid L))
      (fun y hy => by rw [hf1]; unfold tileG; rw [hy]) (k := fun u => pure u) (Q := fun _ => INV d L q A O W (t.val + 1))
    rw [bind_pure] at h
    simp only [tw, wp_pure] at h
    iintro H HK
    iapply h $$ H
    iintro H
    imodintro
    iapply HK; iexact H
  unfold pf1
  by_cases hc : t.val < 5
  · rw [dif_pos ((cond2_eq t).mpr hc)]
    simp only [Prog.bind_lift]
    iapply (enq_wp d L q A b0 cc0_scratch3.sem ((2 * t.val + 2) * 32 + wid L) _ _ (off141_eq t hc L) (by decide)) $$ [HX Hb0 Hs0]
    · isplitl [HX]; · iexact HX
      isplitl [Hb0]; · iexists f0; iexact Hb0
      iexact Hs0
    iintro HF
    iapply fin $$ [Hb1 HR]
    · isplitl [Hb1]; · iexact Hb1
      iexact HR
    iintro ⟨Hb1, HR⟩
    unfold INV
    isplitr; · iexact Hmw
    isplitl [HO]; · iexact HO
    isplitl [HR]; · iexact HR
    isplitl [Hb1]; · iexists f1; iexact Hb1
    isplitl [Hs1]; · iexact Hs1
    unfold FST
    rw [if_pos (by omega)]
    iexact HF
  · rw [dif_neg (fun h => hc ((cond2_eq t).mp h))]
    simp only [pure_bind]
    iapply fin $$ [Hb1 HR]
    · isplitl [Hb1]; · iexact Hb1
      iexact HR
    iintro ⟨Hb1, HR⟩
    unfold INV
    isplitr; · iexact Hmw
    isplitl [HO]; · iexact HO
    isplitl [HR]; · iexact HR
    isplitl [Hb1]; · iexists f1; iexact Hb1
    isplitl [Hs1]; · iexact Hs1
    unfold FST
    rw [if_neg (by omega)]
    isplitl [Hb0]; · iexists f0; iexact Hb0
    isplitl [Hs0]; · iexact Hs0
    iexact HX

end Tile

end Cert.KernelIdeal.K0
-- ==== Proof.K0Out.lean ====
module

public import proofs.«01_k».proof.Proof.K0Body

/-! A tile's task, from its share of the array and its column of the result. -/

@[expose] public section

set_option maxRecDepth 65536

noncomputable section

namespace Cert.KernelIdeal.K0

open Cert.KernelIdeal Cert.KernelIdeal.Gen Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem off278_eq : ∀ L : grid0.Coords, k0_off278 L = ![0, wid L, 0, 0] := by decide +kernel

/-- A column of the result. -/
def colS (w : ℕ) : Finset S12x32x16x128.Idx := Finset.univ.filter fun y => (y 1).val = w

theorem dst_emb (L : grid0.Coords) (y : S12x16x128.Idx) :
    (dstM L).view.emb y = ix4 (y 0) (⟨wid L, by have := (L 0).isLt; have := (L 1).isLt; have h0 : grid0.bound 0 = 2 := rfl; have h1 : grid0.bound 1 = 16 := rfl; unfold wid; omega⟩ : Fin 32) (y 1) (y 2) := by
  obtain ⟨a, b, c, rfl⟩ : ∃ (a : Fin 12) (b : Fin 16) (c : Fin 128), y = ix3 a b c := ⟨y 0, y 1, y 2, eq_ix3 y⟩
  show (Rect.unit (s := S12x32x16x128) (k0_off278 L) S12x1x16x128.size (k0_off278_inb L)).emb (Shape.reshapeEquiv _ (ix3 a b c)) = _
  have hr : Shape.reshapeEquiv squeezes_S12x1x16x128_S12x16x128.numel_eq (ix3 a b c) = (ix4 a (0 : Fin 1) b c : S12x1x16x128.Idx) :=
    Shape.reshapeEquiv_eq_of_rowMajor _ (by
      rw [Shape.rowMajor_val_four, Shape.rowMajor_val_three]
      show (((a.val * 1 + 0) * 16 + b.val) * 128 + c.val) = ((a.val * 16 + b.val) * 128 + c.val)
      omega)
  refine (congrArg _ hr).trans ?_
  apply Rect.emb_eq_of_coords
  intro x
  have e := off278_eq L
  match x with
  | ⟨0, _⟩ => exact (show a.val = k0_off278 L 0 + 1 * a.val by rw [e]; show a.val = 0 + 1 * a.val; omega)
  | ⟨1, _⟩ => exact (show wid L = k0_off278 L 1 + 1 * 0 by rw [e]; show wid L = wid L + 1 * 0; omega)
  | ⟨2, _⟩ => exact (show b.val = k0_off278 L 2 + 1 * b.val by rw [e]; show b.val = 0 + 1 * b.val; omega)
  | ⟨3, _⟩ => exact (show c.val = k0_off278 L 3 + 1 * c.val by rw [e]; show c.val = 0 + 1 * c.val; omega)

theorem mem_dst (L : grid0.Coords) (z : S12x32x16x128.Idx) : z ∈ (dstM L).view.set ↔ z ∈ colS (wid L) := by
  unfold colS View.set
  rw [Finset.mem_filter, Finset.mem_map]
  constructor
  · rintro ⟨y, -, rfl⟩
    refine ⟨Finset.mem_univ _, ?_⟩
    rw [dst_emb]
  · rintro ⟨-, h⟩
    refine ⟨ix3 (z 0) (z 2) (z 3), Finset.mem_univ _, ?_⟩
    rw [dst_emb]
    funext a
    match a with
    | ⟨0, _⟩ => rfl
    | ⟨1, _⟩ => exact Fin.ext h.symm
    | ⟨2, _⟩ => rfl
    | ⟨3, _⟩ => rfl

theorem set_dst (L : grid0.Coords) : (dstM L).view.set = colS (wid L) := Finset.ext (mem_dst L)

/-- The column, written with the tile's lists, is the call's result there. -/
theorem dst_val (L : grid0.Coords) (A : S8x4608x768.Idx → F .f32) (f : S12x32x16x128.Idx → F .f32) (v : S12x16x128.Idx → F .f32)
    (hv : v = tileG A (wid L)) : ∀ z ∈ (dstM L).view.set, (dstM L).view.write (Elt F) f v Finset.univ z = scOut A z := by
  intro z hz
  obtain ⟨y, -, rfl⟩ := Finset.mem_map.mp hz
  have h := congrFun (View.read_write_univ (Val := Elt F) (v := (dstM L).view) f v) y
  rw [View.read_apply, cast_eq] at h
  refine h.trans ?_
  rw [hv, dst_emb]
  rfl

section Tile

variable (d : Dev nD) (L : grid0.Coords)

theorem body_wp (q : PosShare TreeShare) (A : S8x4608x768.Idx → F .f32) (g : S12x32x16x128.Idx → F .f32)
    (O : CellTallies nD τ sig (HIx 1)) (W : Waits sig (HIx 1)) :
    iprop(Transfers.MayWaits (V d (cV L) (jV L)) (default : HIx 1) O ∗ XP d L q A ∗ (oV.view.loc (V d (cV L) (jV L)) ↦[colS (wid L)]{fullShare} g)
        ∗ (∃ f, b0.view.loc (V d (cV L) (jV L)) ↦{fullShare} f) ∗ (∃ f, b1.view.loc (V d (cV L) (jV L)) ↦{fullShare} f)
        ∗ (∃ f, rs.view.loc (V d (cV L) (jV L)) ↦{fullShare} f)
        ∗ semVal ((V d (cV L) (jV L)), .dma cc0_scratch3.sem) 0 ∗ semVal ((V d (cV L) (jV L)), .dma cc0_scratch4.sem) 0
        ∗ semVal ((V d (cV L) (jV L)), .dma cc0_scoped0.sem) 0 ∗ owes (V d (cV L) (jV L)) O W)
      ⊢ tw d L (theBody L) fun _ =>
        iprop((XP d L q A ∗ (oV.view.loc (V d (cV L) (jV L)) ↦[colS (wid L)]{fullShare} scOut A))
        ∗ ((∃ f, b0.view.loc (V d (cV L) (jV L)) ↦{fullShare} f) ∗ (∃ f, b1.view.loc (V d (cV L) (jV L)) ↦{fullShare} f)
        ∗ (∃ f, rs.view.loc (V d (cV L) (jV L)) ↦{fullShare} f))
        ∗ (semVal ((V d (cV L) (jV L)), .dma cc0_scratch3.sem) 0 ∗ semVal ((V d (cV L) (jV L)), .dma cc0_scratch4.sem) 0
        ∗ semVal ((V d (cV L) (jV L)), .dma cc0_scoped0.sem) 0)
        ∗ ∃ W', ⌜∀ p ∈ W', p ∈ W ∨ p.2 = none⌝ ∗ owes (V d (cV L) (jV L)) O W') := by
  rw [theBody_eq]
  unfold bodyP
  iintro ⟨#Hmw, HX, HD, Hb0, Hb1, ⟨%fr, Hr⟩, Hs0, Hs1, Hs2, HO⟩
  iapply (enq_wp d L q A b0 cc0_scratch3.sem (wid L) _ _ (off1_eq L) (by decide)) $$ [HX Hb0 Hs0]
  · isplitl [HX]; · iexact HX
    isplitl [Hb0]; · iexact Hb0
    iexact Hs0
  iintro HF
  iapply (Scf.wp_for_bind frame (wpE (defs₀ (F := F)) 𝒱₀ (V d (cV L) (jV L)) none) Set.univ _ _ _ k0_t1_ok _ _
    (fun t _ => INV d L q A O W t) (fun t _ => t1_wp d L q A O W t)) $$ [HF Hb1 Hr Hs1 HO]
  · unfold INV FST
    rw [if_pos (by omega), show 2 * 0 * 32 + wid L = wid L by omega]
    isplitr; · iexact Hmw
    isplitl [HO]
    · iexists W
      isplitr; · ipureintro; exact fun p hp => .inl hp
      iexact HO
    isplitl [Hr]
    · unfold RES
      iexists fr
      isplitr
      · ipureintro
        intro y hy
        unfold Pt at hy
        omega
      iexact Hr
    isplitl [Hb1]; · iexact Hb1
    isplitl [Hs1]; · iexact Hs1
    iexact HF
  iintro %_u HI
  ihave HI := (Entails.of_eq (show INV d L q A O W (Scf.trips _ _ _) = INV (F := F) d L q A O W 6 by rw [show (Scf.trips _ _ _ : ℕ) = 6 from trips1])) $$ HI
  unfold INV FST
  rw [if_neg (by omega)]
  icases HI with ⟨-, ⟨%W1, %hW1, HO⟩, HR, Hb1, Hs1, Hb0, Hs0, HX⟩
  unfold RES
  icases HR with ⟨%f, %hf, Hr⟩
  have hG : rs.view.read (Elt F) f = tileG A (wid L) := by
    funext y
    refine hf y (.inl ?_)
    exact (y 0).isLt
  have hcr : 0 < (dstM L).view.dmaCredit := (by decide : 0 < rs.view.dmaCredit)
  have hrs : rs.view.set = Finset.univ := View.set_whole _
  iapply (Transfers.wp_dmaLocal (countersEmb (U := UU)) 𝒱₀ (V d (cV L) (jV L)) none (src := rs) (dst := dstM L) (sm := .dma cc0_scoped0.sem) (q := fullShare) (fs := f)
    (Sd := colS (wid L)) (fd := g) (default : HIx 1) (dstM L).view.dmaCredit rfl hcr (subset_of_eq (set_dst L))) $$ [Hr HD Hs2]
  · isplitl [Hr]; · rw [hrs]; iexact Hr
    isplitl [HD]; · iexact HD
    iexact Hs2
  iintro HF
  iapply (Transfers.wp_waitLocalO (countersEmb (U := UU)) 𝒱₀ (V d (cV L) (jV L)) none (default : HIx 1) (rfl : (dstM L).view.dmaCredit = _)) $$ [HF HO]
  · isplitl [HF]; · iexact HF
    isplitl [HO]; · iexact HO
    iapply (Transfers.MayWaits.elim (SemLoc.dma cc0_scoped0.sem)) $$ Hmw
  iintro ⟨⟨HD, Hr⟩, Hs2, HO⟩
  rw [wp_pure]
  imodintro
  isplitl [HX HD]
  · isplitl [HX]; · iexact HX
    iapply (Entails.of_eq (pointsTo_congr (q := fullShare) (ℓ := oV.view.loc (V d (cV L) (jV L))) (fun z hz => dst_val L A g _ hG z ((mem_dst L z).mpr hz)))) $$ HD
  isplitl [Hb0 Hb1 Hr]
  · isplitl [Hb0]; · iexact Hb0
    isplitl [Hb1]; · iexact Hb1
    iexists f
    rw [hrs]
    iexact Hr
  isplitl [Hs0 Hs1 Hs2]
  · isplitl [Hs0]; · iexact Hs0
    isplitl [Hs1]; · iexact Hs1
    iexact Hs2
  iexists _
  isplitr
  swap
  · iexact HO
  ipureintro
  intro p hp
  rcases Finset.mem_insert.mp hp with hp | hp
  · exact .inr (hp ▸ rfl)
  · exact hW1 p hp

end Tile

end Cert.KernelIdeal.K0
-- ==== Proof.K1Prog.lean ====
module

public import proofs.«01_k».proof.Proof.Gen.KernelIdeal.Skeleton
public import proofs.«01_k».proof.Proof.TopS

/-! The TensorCore kernel's body as one load, a network, and sixteen stores. -/

@[expose] public section

set_option maxRecDepth 65536

noncomputable section

namespace Cert.KernelIdeal.K1

open Cert.KernelIdeal Cert.KernelIdeal.Gen Idealize.ShloMosaic Idealize.SL.Sem

variable {F : FTy → Type} [FloatOps F]

/-- A TensorCore program. -/
abbrev MP (F : FTy → Type) := Prog (TpuEff nD τ sig (Elt F) Λ₀ .tc)

/-- The block's rows sorted in sixteens, the lists halved and merged until one is left. -/
def tcNet {β : Type*} (v : FVec F S8x512x768 .f32) (k : FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → β) : β :=
  Top.sortS maximumf minimumf (extractStridedSlice S8x32x768 ![0, 0, 0] v slices_S8x512x768_o0_0_0_S8x32x768) (extractStridedSlice S8x32x768 ![0, 32, 0] v slices_S8x512x768_o0_32_0_S8x32x768) (extractStridedSlice S8x32x768 ![0, 64, 0] v slices_S8x512x768_o0_64_0_S8x32x768) (extractStridedSlice S8x32x768 ![0, 96, 0] v slices_S8x512x768_o0_96_0_S8x32x768) (extractStridedSlice S8x32x768 ![0, 128, 0] v slices_S8x512x768_o0_128_0_S8x32x768) (extractStridedSlice S8x32x768 ![0, 160, 0] v slices_S8x512x768_o0_160_0_S8x32x768) (extractStridedSlice S8x32x768 ![0, 192, 0] v slices_S8x512x768_o0_192_0_S8x32x768) (extractStridedSlice S8x32x768 ![0, 224, 0] v slices_S8x512x768_o0_224_0_S8x32x768) (extractStridedSlice S8x32x768 ![0, 256, 0] v slices_S8x512x768_o0_256_0_S8x32x768) (extractStridedSlice S8x32x768 ![0, 288, 0] v slices_S8x512x768_o0_288_0_S8x32x768) (extractStridedSlice S8x32x768 ![0, 320, 0] v slices_S8x512x768_o0_320_0_S8x32x768) (extractStridedSlice S8x32x768 ![0, 352, 0] v slices_S8x512x768_o0_352_0_S8x32x768) (extractStridedSlice S8x32x768 ![0, 384, 0] v slices_S8x512x768_o0_384_0_S8x32x768) (extractStridedSlice S8x32x768 ![0, 416, 0] v slices_S8x512x768_o0_416_0_S8x32x768) (extractStridedSlice S8x32x768 ![0, 448, 0] v slices_S8x512x768_o0_448_0_S8x32x768) (extractStridedSlice S8x32x768 ![0, 480, 0] v slices_S8x512x768_o0_480_0_S8x32x768) fun a0 a1 a2 a3 a4 a5 a6 a7 a8 a9 a10 a11 a12 a13 a14 a15 =>
  Top.mergeS maximumf minimumf (extractStridedSlice S8x16x768 ![0, 0, 0] a0 slices_S8x32x768_o0_0_0_S8x16x768) (extractStridedSlice S8x16x768 ![0, 0, 0] a1 slices_S8x32x768_o0_0_0_S8x16x768) (extractStridedSlice S8x16x768 ![0, 0, 0] a2 slices_S8x32x768_o0_0_0_S8x16x768) (extractStridedSlice S8x16x768 ![0, 0, 0] a3 slices_S8x32x768_o0_0_0_S8x16x768) (extractStridedSlice S8x16x768 ![0, 0, 0] a4 slices_S8x32x768_o0_0_0_S8x16x768) (extractStridedSlice S8x16x768 ![0, 0, 0] a5 slices_S8x32x768_o0_0_0_S8x16x768) (extractStridedSlice S8x16x768 ![0, 0, 0] a6 slices_S8x32x768_o0_0_0_S8x16x768) (extractStridedSlice S8x16x768 ![0, 0, 0] a7 slices_S8x32x768_o0_0_0_S8x16x768) (extractStridedSlice S8x16x768 ![0, 0, 0] a8 slices_S8x32x768_o0_0_0_S8x16x768) (extractStridedSlice S8x16x768 ![0, 0, 0] a9 slices_S8x32x768_o0_0_0_S8x16x768) (extractStridedSlice S8x16x768 ![0, 0, 0] a10 slices_S8x32x768_o0_0_0_S8x16x768) (extractStridedSlice S8x16x768 ![0, 0, 0] a11 slices_S8x32x768_o0_0_0_S8x16x768) (extractStridedSlice S8x16x768 ![0, 0, 0] a12 slices_S8x32x768_o0_0_0_S8x16x768) (extractStridedSlice S8x16x768 ![0, 0, 0] a13 slices_S8x32x768_o0_0_0_S8x16x768) (extractStridedSlice S8x16x768 ![0, 0, 0] a14 slices_S8x32x768_o0_0_0_S8x16x768) (extractStridedSlice S8x16x768 ![0, 0, 0] a15 slices_S8x32x768_o0_0_0_S8x16x768) (extractStridedSlice S8x16x768 ![0, 16, 0] a0 slices_S8x32x768_o0_16_0_S8x16x768) (extractStridedSlice S8x16x768 ![0, 16, 0] a1 slices_S8x32x768_o0_16_0_S8x16x768) (extractStridedSlice S8x16x768 ![0, 16, 0] a2 slices_S8x32x768_o0_16_0_S8x16x768) (extractStridedSlice S8x16x768 ![0, 16, 0] a3 slices_S8x32x768_o0_16_0_S8x16x768) (extractStridedSlice S8x16x768 ![0, 16, 0] a4 slices_S8x32x768_o0_16_0_S8x16x768) (extractStridedSlice S8x16x768 ![0, 16, 0] a5 slices_S8x32x768_o0_16_0_S8x16x768) (extractStridedSlice S8x16x768 ![0, 16, 0] a6 slices_S8x32x768_o0_16_0_S8x16x768) (extractStridedSlice S8x16x768 ![0, 16, 0] a7 slices_S8x32x768_o0_16_0_S8x16x768) (extractStridedSlice S8x16x768 ![0, 16, 0] a8 slices_S8x32x768_o0_16_0_S8x16x768) (extractStridedSlice S8x16x768 ![0, 16, 0] a9 slices_S8x32x768_o0_16_0_S8x16x768) (extractStridedSlice S8x16x768 ![0, 16, 0] a10 slices_S8x32x768_o0_16_0_S8x16x768) (extractStridedSlice S8x16x768 ![0, 16, 0] a11 slices_S8x32x768_o0_16_0_S8x16x768) (extractStridedSlice S8x16x768 ![0, 16, 0] a12 slices_S8x32x768_o0_16_0_S8x16x768) (extractStridedSlice S8x16x768 ![0, 16, 0] a13 slices_S8x32x768_o0_16_0_S8x16x768) (extractStridedSlice S8x16x768 ![0, 16, 0] a14 slices_S8x32x768_o0_16_0_S8x16x768) (extractStridedSlice S8x16x768 ![0, 16, 0] a15 slices_S8x32x768_o0_16_0_S8x16x768) fun b0 b1 b2 b3 b4 b5 b6 b7 b8 b9 b10 b11 b12 b13 b14 b15 =>
  Top.mergeS maximumf minimumf (extractStridedSlice S8x8x768 ![0, 0, 0] b0 slices_S8x16x768_o0_0_0_S8x8x768) (extractStridedSlice S8x8x768 ![0, 0, 0] b1 slices_S8x16x768_o0_0_0_S8x8x768) (extractStridedSlice S8x8x768 ![0, 0, 0] b2 slices_S8x16x768_o0_0_0_S8x8x768) (extractStridedSlice S8x8x768 ![0, 0, 0] b3 slices_S8x16x768_o0_0_0_S8x8x768) (extractStridedSlice S8x8x768 ![0, 0, 0] b4 slices_S8x16x768_o0_0_0_S8x8x768) (extractStridedSlice S8x8x768 ![0, 0, 0] b5 slices_S8x16x768_o0_0_0_S8x8x768) (extractStridedSlice S8x8x768 ![0, 0, 0] b6 slices_S8x16x768_o0_0_0_S8x8x768) (extractStridedSlice S8x8x768 ![0, 0, 0] b7 slices_S8x16x768_o0_0_0_S8x8x768) (extractStridedSlice S8x8x768 ![0, 0, 0] b8 slices_S8x16x768_o0_0_0_S8x8x768) (extractStridedSlice S8x8x768 ![0, 0, 0] b9 slices_S8x16x768_o0_0_0_S8x8x768) (extractStridedSlice S8x8x768 ![0, 0, 0] b10 slices_S8x16x768_o0_0_0_S8x8x768) (extractStridedSlice S8x8x768 ![0, 0, 0] b11 slices_S8x16x768_o0_0_0_S8x8x768) (extractStridedSlice S8x8x768 ![0, 0, 0] b12 slices_S8x16x768_o0_0_0_S8x8x768) (extractStridedSlice S8x8x768 ![0, 0, 0] b13 slices_S8x16x768_o0_0_0_S8x8x768) (extractStridedSlice S8x8x768 ![0, 0, 0] b14 slices_S8x16x768_o0_0_0_S8x8x768) (extractStridedSlice S8x8x768 ![0, 0, 0] b15 slices_S8x16x768_o0_0_0_S8x8x768) (extractStridedSlice S8x8x768 ![0, 8, 0] b0 slices_S8x16x768_o0_8_0_S8x8x768) (extractStridedSlice S8x8x768 ![0, 8, 0] b1 slices_S8x16x768_o0_8_0_S8x8x768) (extractStridedSlice S8x8x768 ![0, 8, 0] b2 slices_S8x16x768_o0_8_0_S8x8x768) (extractStridedSlice S8x8x768 ![0, 8, 0] b3 slices_S8x16x768_o0_8_0_S8x8x768) (extractStridedSlice S8x8x768 ![0, 8, 0] b4 slices_S8x16x768_o0_8_0_S8x8x768) (extractStridedSlice S8x8x768 ![0, 8, 0] b5 slices_S8x16x768_o0_8_0_S8x8x768) (extractStridedSlice S8x8x768 ![0, 8, 0] b6 slices_S8x16x768_o0_8_0_S8x8x768) (extractStridedSlice S8x8x768 ![0, 8, 0] b7 slices_S8x16x768_o0_8_0_S8x8x768) (extractStridedSlice S8x8x768 ![0, 8, 0] b8 slices_S8x16x768_o0_8_0_S8x8x768) (extractStridedSlice S8x8x768 ![0, 8, 0] b9 slices_S8x16x768_o0_8_0_S8x8x768) (extractStridedSlice S8x8x768 ![0, 8, 0] b10 slices_S8x16x768_o0_8_0_S8x8x768) (extractStridedSlice S8x8x768 ![0, 8, 0] b11 slices_S8x16x768_o0_8_0_S8x8x768) (extractStridedSlice S8x8x768 ![0, 8, 0] b12 slices_S8x16x768_o0_8_0_S8x8x768) (extractStridedSlice S8x8x768 ![0, 8, 0] b13 slices_S8x16x768_o0_8_0_S8x8x768) (extractStridedSlice S8x8x768 ![0, 8, 0] b14 slices_S8x16x768_o0_8_0_S8x8x768) (extractStridedSlice S8x8x768 ![0, 8, 0] b15 slices_S8x16x768_o0_8_0_S8x8x768) fun c0 c1 c2 c3 c4 c5 c6 c7 c8 c9 c10 c11 c12 c13 c14 c15 =>
  Top.mergeS maximumf minimumf (extractStridedSlice S8x4x768 ![0, 0, 0] c0 slices_S8x8x768_o0_0_0_S8x4x768) (extractStridedSlice S8x4x768 ![0, 0, 0] c1 slices_S8x8x768_o0_0_0_S8x4x768) (extractStridedSlice S8x4x768 ![0, 0, 0] c2 slices_S8x8x768_o0_0_0_S8x4x768) (extractStridedSlice S8x4x768 ![0, 0, 0] c3 slices_S8x8x768_o0_0_0_S8x4x768) (extractStridedSlice S8x4x768 ![0, 0, 0] c4 slices_S8x8x768_o0_0_0_S8x4x768) (extractStridedSlice S8x4x768 ![0, 0, 0] c5 slices_S8x8x768_o0_0_0_S8x4x768) (extractStridedSlice S8x4x768 ![0, 0, 0] c6 slices_S8x8x768_o0_0_0_S8x4x768) (extractStridedSlice S8x4x768 ![0, 0, 0] c7 slices_S8x8x768_o0_0_0_S8x4x768) (extractStridedSlice S8x4x768 ![0, 0, 0] c8 slices_S8x8x768_o0_0_0_S8x4x768) (extractStridedSlice S8x4x768 ![0, 0, 0] c9 slices_S8x8x768_o0_0_0_S8x4x768) (extractStridedSlice S8x4x768 ![0, 0, 0] c10 slices_S8x8x768_o0_0_0_S8x4x768) (extractStridedSlice S8x4x768 ![0, 0, 0] c11 slices_S8x8x768_o0_0_0_S8x4x768) (extractStridedSlice S8x4x768 ![0, 0, 0] c12 slices_S8x8x768_o0_0_0_S8x4x768) (extractStridedSlice S8x4x768 ![0, 0, 0] c13 slices_S8x8x768_o0_0_0_S8x4x768) (extractStridedSlice S8x4x768 ![0, 0, 0] c14 slices_S8x8x768_o0_0_0_S8x4x768) (extractStridedSlice S8x4x768 ![0, 0, 0] c15 slices_S8x8x768_o0_0_0_S8x4x768) (extractStridedSlice S8x4x768 ![0, 4, 0] c0 slices_S8x8x768_o0_4_0_S8x4x768) (extractStridedSlice S8x4x768 ![0, 4, 0] c1 slices_S8x8x768_o0_4_0_S8x4x768) (extractStridedSlice S8x4x768 ![0, 4, 0] c2 slices_S8x8x768_o0_4_0_S8x4x768) (extractStridedSlice S8x4x768 ![0, 4, 0] c3 slices_S8x8x768_o0_4_0_S8x4x768) (extractStridedSlice S8x4x768 ![0, 4, 0] c4 slices_S8x8x768_o0_4_0_S8x4x768) (extractStridedSlice S8x4x768 ![0, 4, 0] c5 slices_S8x8x768_o0_4_0_S8x4x768) (extractStridedSlice S8x4x768 ![0, 4, 0] c6 slices_S8x8x768_o0_4_0_S8x4x768) (extractStridedSlice S8x4x768 ![0, 4, 0] c7 slices_S8x8x768_o0_4_0_S8x4x768) (extractStridedSlice S8x4x768 ![0, 4, 0] c8 slices_S8x8x768_o0_4_0_S8x4x768) (extractStridedSlice S8x4x768 ![0, 4, 0] c9 slices_S8x8x768_o0_4_0_S8x4x768) (extractStridedSlice S8x4x768 ![0, 4, 0] c10 slices_S8x8x768_o0_4_0_S8x4x768) (extractStridedSlice S8x4x768 ![0, 4, 0] c11 slices_S8x8x768_o0_4_0_S8x4x768) (extractStridedSlice S8x4x768 ![0, 4, 0] c12 slices_S8x8x768_o0_4_0_S8x4x768) (extractStridedSlice S8x4x768 ![0, 4, 0] c13 slices_S8x8x768_o0_4_0_S8x4x768) (extractStridedSlice S8x4x768 ![0, 4, 0] c14 slices_S8x8x768_o0_4_0_S8x4x768) (extractStridedSlice S8x4x768 ![0, 4, 0] c15 slices_S8x8x768_o0_4_0_S8x4x768) fun d0 d1 d2 d3 d4 d5 d6 d7 d8 d9 d10 d11 d12 d13 d14 d15 =>
  Top.mergeS maximumf minimumf (extractStridedSlice S8x2x768 ![0, 0, 0] d0 slices_S8x4x768_o0_0_0_S8x2x768) (extractStridedSlice S8x2x768 ![0, 0, 0] d1 slices_S8x4x768_o0_0_0_S8x2x768) (extractStridedSlice S8x2x768 ![0, 0, 0] d2 slices_S8x4x768_o0_0_0_S8x2x768) (extractStridedSlice S8x2x768 ![0, 0, 0] d3 slices_S8x4x768_o0_0_0_S8x2x768) (extractStridedSlice S8x2x768 ![0, 0, 0] d4 slices_S8x4x768_o0_0_0_S8x2x768) (extractStridedSlice S8x2x768 ![0, 0, 0] d5 slices_S8x4x768_o0_0_0_S8x2x768) (extractStridedSlice S8x2x768 ![0, 0, 0] d6 slices_S8x4x768_o0_0_0_S8x2x768) (extractStridedSlice S8x2x768 ![0, 0, 0] d7 slices_S8x4x768_o0_0_0_S8x2x768) (extractStridedSlice S8x2x768 ![0, 0, 0] d8 slices_S8x4x768_o0_0_0_S8x2x768) (extractStridedSlice S8x2x768 ![0, 0, 0] d9 slices_S8x4x768_o0_0_0_S8x2x768) (extractStridedSlice S8x2x768 ![0, 0, 0] d10 slices_S8x4x768_o0_0_0_S8x2x768) (extractStridedSlice S8x2x768 ![0, 0, 0] d11 slices_S8x4x768_o0_0_0_S8x2x768) (extractStridedSlice S8x2x768 ![0, 0, 0] d12 slices_S8x4x768_o0_0_0_S8x2x768) (extractStridedSlice S8x2x768 ![0, 0, 0] d13 slices_S8x4x768_o0_0_0_S8x2x768) (extractStridedSlice S8x2x768 ![0, 0, 0] d14 slices_S8x4x768_o0_0_0_S8x2x768) (extractStridedSlice S8x2x768 ![0, 0, 0] d15 slices_S8x4x768_o0_0_0_S8x2x768) (extractStridedSlice S8x2x768 ![0, 2, 0] d0 slices_S8x4x768_o0_2_0_S8x2x768) (extractStridedSlice S8x2x768 ![0, 2, 0] d1 slices_S8x4x768_o0_2_0_S8x2x768) (extractStridedSlice S8x2x768 ![0, 2, 0] d2 slices_S8x4x768_o0_2_0_S8x2x768) (extractStridedSlice S8x2x768 ![0, 2, 0] d3 slices_S8x4x768_o0_2_0_S8x2x768) (extractStridedSlice S8x2x768 ![0, 2, 0] d4 slices_S8x4x768_o0_2_0_S8x2x768) (extractStridedSlice S8x2x768 ![0, 2, 0] d5 slices_S8x4x768_o0_2_0_S8x2x768) (extractStridedSlice S8x2x768 ![0, 2, 0] d6 slices_S8x4x768_o0_2_0_S8x2x768) (extractStridedSlice S8x2x768 ![0, 2, 0] d7 slices_S8x4x768_o0_2_0_S8x2x768) (extractStridedSlice S8x2x768 ![0, 2, 0] d8 slices_S8x4x768_o0_2_0_S8x2x768) (extractStridedSlice S8x2x768 ![0, 2, 0] d9 slices_S8x4x768_o0_2_0_S8x2x768) (extractStridedSlice S8x2x768 ![0, 2, 0] d10 slices_S8x4x768_o0_2_0_S8x2x768) (extractStridedSlice S8x2x768 ![0, 2, 0] d11 slices_S8x4x768_o0_2_0_S8x2x768) (extractStridedSlice S8x2x768 ![0, 2, 0] d12 slices_S8x4x768_o0_2_0_S8x2x768) (extractStridedSlice S8x2x768 ![0, 2, 0] d13 slices_S8x4x768_o0_2_0_S8x2x768) (extractStridedSlice S8x2x768 ![0, 2, 0] d14 slices_S8x4x768_o0_2_0_S8x2x768) (extractStridedSlice S8x2x768 ![0, 2, 0] d15 slices_S8x4x768_o0_2_0_S8x2x768) fun e0 e1 e2 e3 e4 e5 e6 e7 e8 e9 e10 e11 e12 e13 e14 e15 =>
  Top.mergeS maximumf minimumf (extractStridedSlice S8x1x768 ![0, 0, 0] e0 slices_S8x2x768_o0_0_0_S8x1x768) (extractStridedSlice S8x1x768 ![0, 0, 0] e1 slices_S8x2x768_o0_0_0_S8x1x768) (extractStridedSlice S8x1x768 ![0, 0, 0] e2 slices_S8x2x768_o0_0_0_S8x1x768) (extractStridedSlice S8x1x768 ![0, 0, 0] e3 slices_S8x2x768_o0_0_0_S8x1x768) (extractStridedSlice S8x1x768 ![0, 0, 0] e4 slices_S8x2x768_o0_0_0_S8x1x768) (extractStridedSlice S8x1x768 ![0, 0, 0] e5 slices_S8x2x768_o0_0_0_S8x1x768) (extractStridedSlice S8x1x768 ![0, 0, 0] e6 slices_S8x2x768_o0_0_0_S8x1x768) (extractStridedSlice S8x1x768 ![0, 0, 0] e7 slices_S8x2x768_o0_0_0_S8x1x768) (extractStridedSlice S8x1x768 ![0, 0, 0] e8 slices_S8x2x768_o0_0_0_S8x1x768) (extractStridedSlice S8x1x768 ![0, 0, 0] e9 slices_S8x2x768_o0_0_0_S8x1x768) (extractStridedSlice S8x1x768 ![0, 0, 0] e10 slices_S8x2x768_o0_0_0_S8x1x768) (extractStridedSlice S8x1x768 ![0, 0, 0] e11 slices_S8x2x768_o0_0_0_S8x1x768) (extractStridedSlice S8x1x768 ![0, 0, 0] e12 slices_S8x2x768_o0_0_0_S8x1x768) (extractStridedSlice S8x1x768 ![0, 0, 0] e13 slices_S8x2x768_o0_0_0_S8x1x768) (extractStridedSlice S8x1x768 ![0, 0, 0] e14 slices_S8x2x768_o0_0_0_S8x1x768) (extractStridedSlice S8x1x768 ![0, 0, 0] e15 slices_S8x2x768_o0_0_0_S8x1x768) (extractStridedSlice S8x1x768 ![0, 1, 0] e0 slices_S8x2x768_o0_1_0_S8x1x768) (extractStridedSlice S8x1x768 ![0, 1, 0] e1 slices_S8x2x768_o0_1_0_S8x1x768) (extractStridedSlice S8x1x768 ![0, 1, 0] e2 slices_S8x2x768_o0_1_0_S8x1x768) (extractStridedSlice S8x1x768 ![0, 1, 0] e3 slices_S8x2x768_o0_1_0_S8x1x768) (extractStridedSlice S8x1x768 ![0, 1, 0] e4 slices_S8x2x768_o0_1_0_S8x1x768) (extractStridedSlice S8x1x768 ![0, 1, 0] e5 slices_S8x2x768_o0_1_0_S8x1x768) (extractStridedSlice S8x1x768 ![0, 1, 0] e6 slices_S8x2x768_o0_1_0_S8x1x768) (extractStridedSlice S8x1x768 ![0, 1, 0] e7 slices_S8x2x768_o0_1_0_S8x1x768) (extractStridedSlice S8x1x768 ![0, 1, 0] e8 slices_S8x2x768_o0_1_0_S8x1x768) (extractStridedSlice S8x1x768 ![0, 1, 0] e9 slices_S8x2x768_o0_1_0_S8x1x768) (extractStridedSlice S8x1x768 ![0, 1, 0] e10 slices_S8x2x768_o0_1_0_S8x1x768) (extractStridedSlice S8x1x768 ![0, 1, 0] e11 slices_S8x2x768_o0_1_0_S8x1x768) (extractStridedSlice S8x1x768 ![0, 1, 0] e12 slices_S8x2x768_o0_1_0_S8x1x768) (extractStridedSlice S8x1x768 ![0, 1, 0] e13 slices_S8x2x768_o0_1_0_S8x1x768) (extractStridedSlice S8x1x768 ![0, 1, 0] e14 slices_S8x2x768_o0_1_0_S8x1x768) (extractStridedSlice S8x1x768 ![0, 1, 0] e15 slices_S8x2x768_o0_1_0_S8x1x768) fun f0 f1 f2 f3 f4 f5 f6 f7 f8 f9 f10 f11 f12 f13 f14 f15 =>
  k f0 f1 f2 f3 f4 f5 f6 f7 f8 f9 f10 f11 f12 f13 f14 f15

theorem inb_row (n : Fin 16) : ∀ a, (![0, 0, n.val, 0] : Fin 4 → ℕ) a + S8x1x1x768.size a ≤ S8x1x16x768.size a := by
  revert n; decide +kernel

/-- One row of the list stored: the row read first, as the program does. -/
def st (arg2 : Memref sig .tc .vmem S8x1x16x768 .f32) (n : Fin 16) (v : FVec F S8x1x768 .f32) : MP F PUnit := do
  let _v : Vec F S8x1x1x768 .f32 ← Prog.lift (.load arg2 (Rect.unit (s := S8x1x16x768) ![0, 0, n.val, 0] S8x1x1x768.size (inb_row n)).toLoadRect (View.loadsAt_vmem h_S8x1x1x768))
  Prog.lift (.store arg2 (Rect.unit (s := S8x1x16x768) ![0, 0, n.val, 0] S8x1x1x768.size (inb_row n))
    (shapeCast S8x1x1x768 (shapeCast S8x768 v shapeCasts_S8x1x768_S8x768) shapeCasts_S8x768_S8x1x1x768) Finset.univ (View.stores_vmem_bits_univ h_S8x1x1x768 rfl) (.inl rfl))

/-- The body. -/
def body (arg1 : Memref sig .tc .vmem S8x512x768 .f32) (arg2 : Memref sig .tc .vmem S8x1x16x768 .f32) : MP F PUnit := do
  let v : Vec F S8x512x768 .f32 ← Prog.lift (.load arg1 (Rect.unit (s := S8x512x768) ![0, 0, 0] S8x512x768.size inb_S8x512x768_S8x512x768_0_0_0).toLoadRect (View.loadsAt_vmem h_S8x512x768))
  tcNet (shapeCast S8x512x768 v shapeCasts_S8x512x768_S8x512x768) fun s0 s1 s2 s3 s4 s5 s6 s7 s8 s9 s10 s11 s12 s13 s14 s15 => do
    st arg2 0 s0
    st arg2 1 s1
    st arg2 2 s2
    st arg2 3 s3
    st arg2 4 s4
    st arg2 5 s5
    st arg2 6 s6
    st arg2 7 s7
    st arg2 8 s8
    st arg2 9 s9
    st arg2 10 s10
    st arg2 11 s11
    st arg2 12 s12
    st arg2 13 s13
    st arg2 14 s14
    st arg2 15 s15

theorem body_eq (i : grid1.Coords) (arg1 : Memref sig .tc .vmem S8x512x768 .f32) (harg1 : arg1.IsWhole) (arg2 : Memref sig .tc .vmem S8x1x16x768 .f32) (harg2 : arg2.IsWhole) :
    cc1__tc_topk_body (F := F) i arg1 harg1 arg2 harg2 = body arg1 arg2 := rfl

end Cert.KernelIdeal.K1
-- ==== Proof.TopK.lean ====
module

public import proofs.«01_k».proof.Proof.Acc
public import Idealize.ShloMosaic.Lib.SortFacts
public import Idealize.ShloMosaic.PureOps.Ideal

/-! The accumulated list, and a descending sort's first sixteen, are both the sixteen greatest. -/

@[expose] public section

namespace Cert.Top

open Idealize.ShloMosaic

/-- The blocks' accumulated list has the sixteen greatest of their rows. -/
theorem acc_isTop (h : ℕ → EReal) (j : ℕ) : IsTop (Finset.range (16 * j)) h (acc max min ⊥ h j) := by
  induction j with
  | zero =>
    have e : Finset.range (16 * 0) = ∅ := rfl
    rw [e]
    exact isTop_empty h
  | succ j ih =>
    have e : Finset.range (16 * (j + 1)) = (Finset.range 16).image (fun k => 16 * j + k) ∪ Finset.range (16 * j) := by
      ext x
      simp only [Finset.mem_range, Finset.mem_union, Finset.mem_image]
      constructor
      · intro hx
        by_cases hx' : x < 16 * j
        · exact .inr hx'
        · exact .inl ⟨x - 16 * j, by omega, by omega⟩
      · rintro (⟨k, hk, rfl⟩ | hx) <;> omega
    rw [e]
    unfold acc
    refine IsTop.merge (isTop_sort h (fun k => 16 * j + k) (fun a _ b _ hab => by simpa using hab)) ih ?_
    rw [Finset.disjoint_left]
    intro x hx
    simp only [Finset.mem_image, Finset.mem_range] at hx ⊢
    obtain ⟨k, -, rfl⟩ := hx
    omega

/-- A descending arrangement's first sixteen are the sixteen greatest. -/
theorem isTop_perm (n : ℕ) (M : ℕ → EReal) (π : Fin n → Fin n) (hπ : Function.Injective π)
    (hm : ∀ i j, i < j → M (π j) ≤ M (π i)) (s : ℕ → EReal) (h16 : 16 ≤ n) (hs : ∀ i (hi : i < n), i < 16 → s i = M (π ⟨i, hi⟩)) :
    IsTop (Finset.range n) M s := by
  intro t _ i hi
  have hin : i < n := by omega
  rw [hs i hin hi]
  have hbij : Function.Bijective π := Finite.injective_iff_bijective.mp hπ
  have hc : cnt (Finset.range n) M t = (Finset.univ.filter fun k : Fin n => t ≤ M (π k)).card := by
    unfold cnt
    symm
    refine Finset.card_bij (fun k _ => (π k).val) ?_ ?_ ?_
    · intro k hk
      rw [Finset.mem_filter] at hk ⊢
      exact ⟨Finset.mem_range.mpr (π k).isLt, hk.2⟩
    · intro a _ b _ hab
      exact hπ (Fin.ext hab)
    · intro b hb
      rw [Finset.mem_filter] at hb
      obtain ⟨a, ha⟩ := hbij.2 ⟨b, Finset.mem_range.mp hb.1⟩
      refine ⟨a, ?_, by rw [ha]⟩
      rw [Finset.mem_filter, ha]
      exact ⟨Finset.mem_univ _, hb.2⟩
  rw [hc]
  have anti : ∀ a b : Fin n, a ≤ b → M (π b) ≤ M (π a) := fun a b hab => by
    rcases eq_or_lt_of_le hab with rfl | hlt
    · exact le_rfl
    · exact hm a b hlt
  constructor
  · intro ht
    have hsub : Finset.Iic (⟨i, hin⟩ : Fin n) ⊆ Finset.univ.filter fun k : Fin n => t ≤ M (π k) := by
      intro k hk
      rw [Finset.mem_filter]
      exact ⟨Finset.mem_univ _, ht.trans (anti _ _ (Finset.mem_Iic.mp hk))⟩
    have := Finset.card_le_card hsub
    rw [Fin.card_Iic] at this
    exact this
  · intro hlt
    by_contra hn
    have hsub : (Finset.univ.filter fun k : Fin n => t ≤ M (π k)) ⊆ Finset.Iio (⟨i, hin⟩ : Fin n) := by
      intro k hk
      rw [Finset.mem_filter] at hk
      rw [Finset.mem_Iio]
      by_contra hk'
      exact hn (hk.2.trans (anti _ _ (not_lt.mp hk')))
    have := Finset.card_le_card hsub
    rw [Fin.card_Iio] at this
    exact absurd hlt (not_lt.mpr this)

/-- The host's descending sort, along one fibre, has the sixteen greatest first. -/
theorem isTop_sorted (n : ℕ) (M : ℕ → EReal) (s : ℕ → EReal) (h16 : 16 ≤ n)
    (hs : ∀ i (hi : i < n), i < 16 → s i = M (sortedFrom (fun k k' : Fin n => FloatOps.cmpfTotal (F := Ideal) (φ := .f32) .gt (M k.val) (M k'.val) == 1#1) ⟨i, hi⟩)) :
    IsTop (Finset.range n) M s := by
  have hB : ∀ a b : Fin n, (FloatOps.cmpfTotal (F := Ideal) (φ := .f32) .gt (M a.val) (M b.val) == 1#1) = decide (M b.val < M a.val) := by
    intro a b
    show (BitVec.ofBool (decide (M b.val < M a.val)) == 1#1) = _
    cases decide (M b.val < M a.val) <;> rfl
  refine isTop_perm n M _ (sortedFrom_injective _) (fun i j hij => ?_) s h16 hs
  have h := sortedFrom_noInversion (fun k k' : Fin n => FloatOps.cmpfTotal (F := Ideal) (φ := .f32) .gt (M k.val) (M k'.val) == 1#1) _
    (fun a b hab => by
      rw [hB a b] at hab
      rw [hB b a]
      exact decide_eq_false (not_lt.mpr (of_decide_eq_true hab).le))
    (fun a b hab => hab)
    (fun {a b c} hab hbc => by
      rw [hB] at hab hbc ⊢
      exact decide_eq_false (not_lt.mpr ((not_lt.mp (of_decide_eq_false hab)).trans (not_lt.mp (of_decide_eq_false hbc))))) i j hij
  rw [hB] at h
  exact not_lt.mp (of_decide_eq_false h)

end Cert.Top
-- ==== Proof.K1Val.lean ====
module

public import proofs.«01_k».proof.Proof.K1Prog
public import proofs.«01_k».proof.Proof.TopK
public import Idealize.ShloMosaic.Lib.ValueLayout

/-! What the TensorCore kernel's network computes of a block: each column's sixteen greatest, in order. -/

@[expose] public section

set_option maxRecDepth 65536

noncomputable section

namespace Cert.Top

/-- Places sorted in sixteens thirty-two apart, then folded in halves until one list is left: the list at a place. -/
def tree {α : Type*} (mx mn : α → α → α) (h : ℕ → α) : ℕ → ℕ → ℕ → α
  | 0, p => sort16 mx mn fun k => h (32 * k + p)
  | n + 1, p => merge mx mn (tree mx mn h n p) (tree mx mn h n (p + 16 / 2 ^ n))

/-- One folding: the places in two halves. -/
theorem isTop_fold (h : ℕ → EReal) (w : ℕ) (hw : w = 16 ∨ w = 8 ∨ w = 4 ∨ w = 2 ∨ w = 1) (s : ℕ → ℕ → EReal)
    (H : ∀ p < 2 * w, IsTop ((Finset.range 512).filter fun r => r % (2 * w) = p) h (s p)) :
    ∀ p < w, IsTop ((Finset.range 512).filter fun r => r % w = p) h (merge max min (s p) (s (p + w))) := by
  intro p hp
  have e : ((Finset.range 512).filter fun r => r % w = p)
      = ((Finset.range 512).filter fun r => r % (2 * w) = p) ∪ ((Finset.range 512).filter fun r => r % (2 * w) = p + w) := by
    ext r
    simp only [Finset.mem_filter, Finset.mem_union, Finset.mem_range]
    rcases hw with rfl | rfl | rfl | rfl | rfl <;> omega
  rw [e]
  refine IsTop.merge (H p (by omega)) (H (p + w) (by omega)) ?_
  rw [Finset.disjoint_left]
  intro r h1 h2
  rw [Finset.mem_filter] at h1 h2
  have := h1.2.symm.trans h2.2
  omega

/-- The one list left has the sixteen greatest of all 512. -/
theorem isTop_tree (h : ℕ → EReal) : IsTop (Finset.range 512) h (tree max min h 5 0) := by
  have h0 : ∀ p < 2 * 16, IsTop ((Finset.range 512).filter fun r => r % (2 * 16) = p) h (tree max min h 0 p) := by
    intro p hp
    have e : ((Finset.range 512).filter fun r => r % (2 * 16) = p) = (Finset.range 16).image fun k => 32 * k + p := by
      ext r
      simp only [Finset.mem_filter, Finset.mem_image, Finset.mem_range]
      constructor
      · rintro ⟨hr, hm⟩
        exact ⟨r / 32, by omega, by omega⟩
      · rintro ⟨k, hk, rfl⟩
        omega
    rw [e]
    exact isTop_sort h (fun k => 32 * k + p) fun a _ b _ hab => by simpa using hab
  have h1 := isTop_fold h 16 (by decide) _ h0
  have h2 := isTop_fold h 8 (by decide) _ h1
  have h3 := isTop_fold h 4 (by decide) _ h2
  have h4 := isTop_fold h 2 (by decide) _ h3
  have h5 := isTop_fold h 1 (by decide) _ h4 0 (by decide)
  have e : ((Finset.range 512).filter fun r => r % 1 = 0) = Finset.range 512 := by
    ext r
    simp only [Finset.mem_filter, Finset.mem_range]
    omega
  rw [e] at h5
  exact h5

end Cert.Top

namespace Cert.KernelIdeal.K1

open Cert.KernelIdeal Cert.KernelIdeal.Gen Idealize.ShloMosaic Idealize.SL.Sem Idealize.ShloMosaic.ValueIdx

variable {F : FTy → Type} [FloatOps F]

/-- A block's column. -/
def col (v : S8x512x768.Idx → F .f32) (b : Fin 8) (c : Fin 768) : ℕ → F .f32 := fun r => v (ix3 b (Fin.ofNat 512 r) c)

/-- Entry `s` of a column's list at place `p` after `n` foldings. -/
abbrev ent (v : S8x512x768.Idx → F .f32) (n : ℕ) (b : Fin 8) (c : Fin 768) (p s : ℕ) : F .f32 :=
  Top.tree FloatOps.maximumf FloatOps.minimumf (col v b c) n p s

def A0 (v : S8x512x768.Idx → F .f32) (s : ℕ) : FVec F S8x32x768 .f32 := fun x => ent v 0 (x 0) (x 2) (x 1).val s
def A1 (v : S8x512x768.Idx → F .f32) (s : ℕ) : FVec F S8x16x768 .f32 := fun x => ent v 1 (x 0) (x 2) (x 1).val s
def A2 (v : S8x512x768.Idx → F .f32) (s : ℕ) : FVec F S8x8x768 .f32 := fun x => ent v 2 (x 0) (x 2) (x 1).val s
def A3 (v : S8x512x768.Idx → F .f32) (s : ℕ) : FVec F S8x4x768 .f32 := fun x => ent v 3 (x 0) (x 2) (x 1).val s
def A4 (v : S8x512x768.Idx → F .f32) (s : ℕ) : FVec F S8x2x768 .f32 := fun x => ent v 4 (x 0) (x 2) (x 1).val s
def A5 (v : S8x512x768.Idx → F .f32) (s : ℕ) : FVec F S8x1x768 .f32 := fun x => ent v 5 (x 0) (x 2) (x 1).val s

/-- The `k`-th group of thirty-two rows. -/
def rowS (v : S8x512x768.Idx → F .f32) (k : ℕ) : FVec F S8x32x768 .f32 := fun x => col v (x 0) (x 2) (32 * k + (x 1).val)

theorem slice0 (v : FVec F S8x512x768 .f32) (k : ℕ) (hk : k < 16) (o : Fin 3 → ℕ) (h : S8x512x768.Slices o S8x32x768) (ho : o = ![0, 32 * k, 0]) :
    extractStridedSlice S8x32x768 o v h = rowS v k := by
  subst ho
  funext x
  have hx : (x 1).val < 32 := (x 1).isLt
  refine (extractStridedSlice_apply _ _ h x (ix3 (x 0) (Fin.ofNat 512 (32 * k + (x 1).val)) (x 2)) ?_).trans rfl
  intro i
  match i with
  | ⟨0, _⟩ => exact (Nat.zero_add _).symm
  | ⟨1, _⟩ => exact (show (32 * k + (x 1).val) % 512 = 32 * k + (x 1).val from Nat.mod_eq_of_lt (by omega))
  | ⟨2, _⟩ => exact (Nat.zero_add _).symm

theorem stage0 {β : Type*} (v : FVec F S8x512x768 .f32) (k : FVec F S8x32x768 .f32 → FVec F S8x32x768 .f32 → FVec F S8x32x768 .f32 → FVec F S8x32x768 .f32 → FVec F S8x32x768 .f32 → FVec F S8x32x768 .f32 → FVec F S8x32x768 .f32 → FVec F S8x32x768 .f32 → FVec F S8x32x768 .f32 → FVec F S8x32x768 .f32 → FVec F S8x32x768 .f32 → FVec F S8x32x768 .f32 → FVec F S8x32x768 .f32 → FVec F S8x32x768 .f32 → FVec F S8x32x768 .f32 → FVec F S8x32x768 .f32 → β) :
    Top.sortS maximumf minimumf (extractStridedSlice S8x32x768 ![0, 0, 0] v slices_S8x512x768_o0_0_0_S8x32x768) (extractStridedSlice S8x32x768 ![0, 32, 0] v slices_S8x512x768_o0_32_0_S8x32x768) (extractStridedSlice S8x32x768 ![0, 64, 0] v slices_S8x512x768_o0_64_0_S8x32x768) (extractStridedSlice S8x32x768 ![0, 96, 0] v slices_S8x512x768_o0_96_0_S8x32x768) (extractStridedSlice S8x32x768 ![0, 128, 0] v slices_S8x512x768_o0_128_0_S8x32x768) (extractStridedSlice S8x32x768 ![0, 160, 0] v slices_S8x512x768_o0_160_0_S8x32x768) (extractStridedSlice S8x32x768 ![0, 192, 0] v slices_S8x512x768_o0_192_0_S8x32x768) (extractStridedSlice S8x32x768 ![0, 224, 0] v slices_S8x512x768_o0_224_0_S8x32x768) (extractStridedSlice S8x32x768 ![0, 256, 0] v slices_S8x512x768_o0_256_0_S8x32x768) (extractStridedSlice S8x32x768 ![0, 288, 0] v slices_S8x512x768_o0_288_0_S8x32x768) (extractStridedSlice S8x32x768 ![0, 320, 0] v slices_S8x512x768_o0_320_0_S8x32x768) (extractStridedSlice S8x32x768 ![0, 352, 0] v slices_S8x512x768_o0_352_0_S8x32x768) (extractStridedSlice S8x32x768 ![0, 384, 0] v slices_S8x512x768_o0_384_0_S8x32x768) (extractStridedSlice S8x32x768 ![0, 416, 0] v slices_S8x512x768_o0_416_0_S8x32x768) (extractStridedSlice S8x32x768 ![0, 448, 0] v slices_S8x512x768_o0_448_0_S8x32x768) (extractStridedSlice S8x32x768 ![0, 480, 0] v slices_S8x512x768_o0_480_0_S8x32x768) k
      = k (A0 v 0) (A0 v 1) (A0 v 2) (A0 v 3) (A0 v 4) (A0 v 5) (A0 v 6) (A0 v 7) (A0 v 8) (A0 v 9) (A0 v 10) (A0 v 11) (A0 v 12) (A0 v 13) (A0 v 14) (A0 v 15) := by
  rw [show extractStridedSlice S8x32x768 ![0, 0, 0] v slices_S8x512x768_o0_0_0_S8x32x768 = rowS v 0 from slice0 v 0 (by decide) _ _ rfl]
  rw [show extractStridedSlice S8x32x768 ![0, 32, 0] v slices_S8x512x768_o0_32_0_S8x32x768 = rowS v 1 from slice0 v 1 (by decide) _ _ rfl]
  rw [show extractStridedSlice S8x32x768 ![0, 64, 0] v slices_S8x512x768_o0_64_0_S8x32x768 = rowS v 2 from slice0 v 2 (by decide) _ _ rfl]
  rw [show extractStridedSlice S8x32x768 ![0, 96, 0] v slices_S8x512x768_o0_96_0_S8x32x768 = rowS v 3 from slice0 v 3 (by decide) _ _ rfl]
  rw [show extractStridedSlice S8x32x768 ![0, 128, 0] v slices_S8x512x768_o0_128_0_S8x32x768 = rowS v 4 from slice0 v 4 (by decide) _ _ rfl]
  rw [show extractStridedSlice S8x32x768 ![0, 160, 0] v slices_S8x512x768_o0_160_0_S8x32x768 = rowS v 5 from slice0 v 5 (by decide) _ _ rfl]
  rw [show extractStridedSlice S8x32x768 ![0, 192, 0] v slices_S8x512x768_o0_192_0_S8x32x768 = rowS v 6 from slice0 v 6 (by decide) _ _ rfl]
  rw [show extractStridedSlice S8x32x768 ![0, 224, 0] v slices_S8x512x768_o0_224_0_S8x32x768 = rowS v 7 from slice0 v 7 (by decide) _ _ rfl]
  rw [show extractStridedSlice S8x32x768 ![0, 256, 0] v slices_S8x512x768_o0_256_0_S8x32x768 = rowS v 8 from slice0 v 8 (by decide) _ _ rfl]
  rw [show extractStridedSlice S8x32x768 ![0, 288, 0] v slices_S8x512x768_o0_288_0_S8x32x768 = rowS v 9 from slice0 v 9 (by decide) _ _ rfl]
  rw [show extractStridedSlice S8x32x768 ![0, 320, 0] v slices_S8x512x768_o0_320_0_S8x32x768 = rowS v 10 from slice0 v 10 (by decide) _ _ rfl]
  rw [show extractStridedSlice S8x32x768 ![0, 352, 0] v slices_S8x512x768_o0_352_0_S8x32x768 = rowS v 11 from slice0 v 11 (by decide) _ _ rfl]
  rw [show extractStridedSlice S8x32x768 ![0, 384, 0] v slices_S8x512x768_o0_384_0_S8x32x768 = rowS v 12 from slice0 v 12 (by decide) _ _ rfl]
  rw [show extractStridedSlice S8x32x768 ![0, 416, 0] v slices_S8x512x768_o0_416_0_S8x32x768 = rowS v 13 from slice0 v 13 (by decide) _ _ rfl]
  rw [show extractStridedSlice S8x32x768 ![0, 448, 0] v slices_S8x512x768_o0_448_0_S8x32x768 = rowS v 14 from slice0 v 14 (by decide) _ _ rfl]
  rw [show extractStridedSlice S8x32x768 ![0, 480, 0] v slices_S8x512x768_o0_480_0_S8x32x768 = rowS v 15 from slice0 v 15 (by decide) _ _ rfl]
  refine (Top.sortS_fam maximumf minimumf (rowS v) k).trans ?_
  have f : ∀ s, Top.sort16 maximumf minimumf (rowS v) s = A0 v s := fun s => funext fun x =>
    Top.sort16_hom (fun u : FVec F S8x32x768 .f32 => u x) (mx' := FloatOps.maximumf) (mn' := FloatOps.minimumf) (fun _ _ => rfl) (fun _ _ => rfl) (rowS v) s
  simp only [f]

theorem lo1 (v : S8x512x768.Idx → F .f32) (s : ℕ) :
    extractStridedSlice S8x16x768 ![0, 0, 0] (A0 v s) slices_S8x32x768_o0_0_0_S8x16x768 = fun x => ent v 0 (x 0) (x 2) (x 1).val s := by
  funext x
  have hx : (x 1).val < 16 := (x 1).isLt
  refine (extractStridedSlice_apply _ _ _ x (ix3 (x 0) (⟨(x 1).val, by omega⟩ : Fin 32) (x 2)) ?_).trans rfl
  intro i
  match i with
  | ⟨0, _⟩ => exact (Nat.zero_add _).symm
  | ⟨1, _⟩ => exact (Nat.zero_add _).symm
  | ⟨2, _⟩ => exact (Nat.zero_add _).symm

theorem hi1 (v : S8x512x768.Idx → F .f32) (s : ℕ) :
    extractStridedSlice S8x16x768 ![0, 16, 0] (A0 v s) slices_S8x32x768_o0_16_0_S8x16x768 = fun x => ent v 0 (x 0) (x 2) ((x 1).val + 16) s := by
  funext x
  have hx : (x 1).val < 16 := (x 1).isLt
  refine (extractStridedSlice_apply _ _ _ x (ix3 (x 0) (⟨(x 1).val + 16, by omega⟩ : Fin 32) (x 2)) ?_).trans rfl
  intro i
  match i with
  | ⟨0, _⟩ => exact (Nat.zero_add _).symm
  | ⟨1, _⟩ => exact Nat.add_comm _ _
  | ⟨2, _⟩ => exact (Nat.zero_add _).symm

theorem stage1 {β : Type*} (v : S8x512x768.Idx → F .f32) (k : FVec F S8x16x768 .f32 → FVec F S8x16x768 .f32 → FVec F S8x16x768 .f32 → FVec F S8x16x768 .f32 → FVec F S8x16x768 .f32 → FVec F S8x16x768 .f32 → FVec F S8x16x768 .f32 → FVec F S8x16x768 .f32 → FVec F S8x16x768 .f32 → FVec F S8x16x768 .f32 → FVec F S8x16x768 .f32 → FVec F S8x16x768 .f32 → FVec F S8x16x768 .f32 → FVec F S8x16x768 .f32 → FVec F S8x16x768 .f32 → FVec F S8x16x768 .f32 → β) :
    Top.mergeS maximumf minimumf (extractStridedSlice S8x16x768 ![0, 0, 0] (A0 v 0) slices_S8x32x768_o0_0_0_S8x16x768) (extractStridedSlice S8x16x768 ![0, 0, 0] (A0 v 1) slices_S8x32x768_o0_0_0_S8x16x768) (extractStridedSlice S8x16x768 ![0, 0, 0] (A0 v 2) slices_S8x32x768_o0_0_0_S8x16x768) (extractStridedSlice S8x16x768 ![0, 0, 0] (A0 v 3) slices_S8x32x768_o0_0_0_S8x16x768) (extractStridedSlice S8x16x768 ![0, 0, 0] (A0 v 4) slices_S8x32x768_o0_0_0_S8x16x768) (extractStridedSlice S8x16x768 ![0, 0, 0] (A0 v 5) slices_S8x32x768_o0_0_0_S8x16x768) (extractStridedSlice S8x16x768 ![0, 0, 0] (A0 v 6) slices_S8x32x768_o0_0_0_S8x16x768) (extractStridedSlice S8x16x768 ![0, 0, 0] (A0 v 7) slices_S8x32x768_o0_0_0_S8x16x768) (extractStridedSlice S8x16x768 ![0, 0, 0] (A0 v 8) slices_S8x32x768_o0_0_0_S8x16x768) (extractStridedSlice S8x16x768 ![0, 0, 0] (A0 v 9) slices_S8x32x768_o0_0_0_S8x16x768) (extractStridedSlice S8x16x768 ![0, 0, 0] (A0 v 10) slices_S8x32x768_o0_0_0_S8x16x768) (extractStridedSlice S8x16x768 ![0, 0, 0] (A0 v 11) slices_S8x32x768_o0_0_0_S8x16x768) (extractStridedSlice S8x16x768 ![0, 0, 0] (A0 v 12) slices_S8x32x768_o0_0_0_S8x16x768) (extractStridedSlice S8x16x768 ![0, 0, 0] (A0 v 13) slices_S8x32x768_o0_0_0_S8x16x768) (extractStridedSlice S8x16x768 ![0, 0, 0] (A0 v 14) slices_S8x32x768_o0_0_0_S8x16x768) (extractStridedSlice S8x16x768 ![0, 0, 0] (A0 v 15) slices_S8x32x768_o0_0_0_S8x16x768)
      (extractStridedSlice S8x16x768 ![0, 16, 0] (A0 v 0) slices_S8x32x768_o0_16_0_S8x16x768) (extractStridedSlice S8x16x768 ![0, 16, 0] (A0 v 1) slices_S8x32x768_o0_16_0_S8x16x768) (extractStridedSlice S8x16x768 ![0, 16, 0] (A0 v 2) slices_S8x32x768_o0_16_0_S8x16x768) (extractStridedSlice S8x16x768 ![0, 16, 0] (A0 v 3) slices_S8x32x768_o0_16_0_S8x16x768) (extractStridedSlice S8x16x768 ![0, 16, 0] (A0 v 4) slices_S8x32x768_o0_16_0_S8x16x768) (extractStridedSlice S8x16x768 ![0, 16, 0] (A0 v 5) slices_S8x32x768_o0_16_0_S8x16x768) (extractStridedSlice S8x16x768 ![0, 16, 0] (A0 v 6) slices_S8x32x768_o0_16_0_S8x16x768) (extractStridedSlice S8x16x768 ![0, 16, 0] (A0 v 7) slices_S8x32x768_o0_16_0_S8x16x768) (extractStridedSlice S8x16x768 ![0, 16, 0] (A0 v 8) slices_S8x32x768_o0_16_0_S8x16x768) (extractStridedSlice S8x16x768 ![0, 16, 0] (A0 v 9) slices_S8x32x768_o0_16_0_S8x16x768) (extractStridedSlice S8x16x768 ![0, 16, 0] (A0 v 10) slices_S8x32x768_o0_16_0_S8x16x768) (extractStridedSlice S8x16x768 ![0, 16, 0] (A0 v 11) slices_S8x32x768_o0_16_0_S8x16x768) (extractStridedSlice S8x16x768 ![0, 16, 0] (A0 v 12) slices_S8x32x768_o0_16_0_S8x16x768) (extractStridedSlice S8x16x768 ![0, 16, 0] (A0 v 13) slices_S8x32x768_o0_16_0_S8x16x768) (extractStridedSlice S8x16x768 ![0, 16, 0] (A0 v 14) slices_S8x32x768_o0_16_0_S8x16x768) (extractStridedSlice S8x16x768 ![0, 16, 0] (A0 v 15) slices_S8x32x768_o0_16_0_S8x16x768) k
      = k (A1 v 0) (A1 v 1) (A1 v 2) (A1 v 3) (A1 v 4) (A1 v 5) (A1 v 6) (A1 v 7) (A1 v 8) (A1 v 9) (A1 v 10) (A1 v 11) (A1 v 12) (A1 v 13) (A1 v 14) (A1 v 15) := by
  simp only [lo1, hi1]
  refine (Top.mergeS_fam maximumf minimumf (fun s => (fun x => ent v 0 (x 0) (x 2) (x 1).val s : FVec F S8x16x768 .f32))
    (fun s => (fun x => ent v 0 (x 0) (x 2) ((x 1).val + 16) s : FVec F S8x16x768 .f32)) k).trans ?_
  have f : ∀ s, Top.merge maximumf minimumf (fun s => (fun x => ent v 0 (x 0) (x 2) (x 1).val s : FVec F S8x16x768 .f32))
      (fun s => (fun x => ent v 0 (x 0) (x 2) ((x 1).val + 16) s : FVec F S8x16x768 .f32)) s = A1 v s := fun s => funext fun x =>
    Top.merge_hom (fun u : FVec F S8x16x768 .f32 => u x) (mx' := FloatOps.maximumf) (mn' := FloatOps.minimumf) (fun _ _ => rfl) (fun _ _ => rfl) _ _ s
  simp only [f]

theorem lo2 (v : S8x512x768.Idx → F .f32) (s : ℕ) :
    extractStridedSlice S8x8x768 ![0, 0, 0] (A1 v s) slices_S8x16x768_o0_0_0_S8x8x768 = fun x => ent v 1 (x 0) (x 2) (x 1).val s := by
  funext x
  have hx : (x 1).val < 8 := (x 1).isLt
  refine (extractStridedSlice_apply _ _ _ x (ix3 (x 0) (⟨(x 1).val, by omega⟩ : Fin 16) (x 2)) ?_).trans rfl
  intro i
  match i with
  | ⟨0, _⟩ => exact (Nat.zero_add _).symm
  | ⟨1, _⟩ => exact (Nat.zero_add _).symm
  | ⟨2, _⟩ => exact (Nat.zero_add _).symm

theorem hi2 (v : S8x512x768.Idx → F .f32) (s : ℕ) :
    extractStridedSlice S8x8x768 ![0, 8, 0] (A1 v s) slices_S8x16x768_o0_8_0_S8x8x768 = fun x => ent v 1 (x 0) (x 2) ((x 1).val + 8) s := by
  funext x
  have hx : (x 1).val < 8 := (x 1).isLt
  refine (extractStridedSlice_apply _ _ _ x (ix3 (x 0) (⟨(x 1).val + 8, by omega⟩ : Fin 16) (x 2)) ?_).trans rfl
  intro i
  match i with
  | ⟨0, _⟩ => exact (Nat.zero_add _).symm
  | ⟨1, _⟩ => exact Nat.add_comm _ _
  | ⟨2, _⟩ => exact (Nat.zero_add _).symm

theorem stage2 {β : Type*} (v : S8x512x768.Idx → F .f32) (k : FVec F S8x8x768 .f32 → FVec F S8x8x768 .f32 → FVec F S8x8x768 .f32 → FVec F S8x8x768 .f32 → FVec F S8x8x768 .f32 → FVec F S8x8x768 .f32 → FVec F S8x8x768 .f32 → FVec F S8x8x768 .f32 → FVec F S8x8x768 .f32 → FVec F S8x8x768 .f32 → FVec F S8x8x768 .f32 → FVec F S8x8x768 .f32 → FVec F S8x8x768 .f32 → FVec F S8x8x768 .f32 → FVec F S8x8x768 .f32 → FVec F S8x8x768 .f32 → β) :
    Top.mergeS maximumf minimumf (extractStridedSlice S8x8x768 ![0, 0, 0] (A1 v 0) slices_S8x16x768_o0_0_0_S8x8x768) (extractStridedSlice S8x8x768 ![0, 0, 0] (A1 v 1) slices_S8x16x768_o0_0_0_S8x8x768) (extractStridedSlice S8x8x768 ![0, 0, 0] (A1 v 2) slices_S8x16x768_o0_0_0_S8x8x768) (extractStridedSlice S8x8x768 ![0, 0, 0] (A1 v 3) slices_S8x16x768_o0_0_0_S8x8x768) (extractStridedSlice S8x8x768 ![0, 0, 0] (A1 v 4) slices_S8x16x768_o0_0_0_S8x8x768) (extractStridedSlice S8x8x768 ![0, 0, 0] (A1 v 5) slices_S8x16x768_o0_0_0_S8x8x768) (extractStridedSlice S8x8x768 ![0, 0, 0] (A1 v 6) slices_S8x16x768_o0_0_0_S8x8x768) (extractStridedSlice S8x8x768 ![0, 0, 0] (A1 v 7) slices_S8x16x768_o0_0_0_S8x8x768) (extractStridedSlice S8x8x768 ![0, 0, 0] (A1 v 8) slices_S8x16x768_o0_0_0_S8x8x768) (extractStridedSlice S8x8x768 ![0, 0, 0] (A1 v 9) slices_S8x16x768_o0_0_0_S8x8x768) (extractStridedSlice S8x8x768 ![0, 0, 0] (A1 v 10) slices_S8x16x768_o0_0_0_S8x8x768) (extractStridedSlice S8x8x768 ![0, 0, 0] (A1 v 11) slices_S8x16x768_o0_0_0_S8x8x768) (extractStridedSlice S8x8x768 ![0, 0, 0] (A1 v 12) slices_S8x16x768_o0_0_0_S8x8x768) (extractStridedSlice S8x8x768 ![0, 0, 0] (A1 v 13) slices_S8x16x768_o0_0_0_S8x8x768) (extractStridedSlice S8x8x768 ![0, 0, 0] (A1 v 14) slices_S8x16x768_o0_0_0_S8x8x768) (extractStridedSlice S8x8x768 ![0, 0, 0] (A1 v 15) slices_S8x16x768_o0_0_0_S8x8x768)
      (extractStridedSlice S8x8x768 ![0, 8, 0] (A1 v 0) slices_S8x16x768_o0_8_0_S8x8x768) (extractStridedSlice S8x8x768 ![0, 8, 0] (A1 v 1) slices_S8x16x768_o0_8_0_S8x8x768) (extractStridedSlice S8x8x768 ![0, 8, 0] (A1 v 2) slices_S8x16x768_o0_8_0_S8x8x768) (extractStridedSlice S8x8x768 ![0, 8, 0] (A1 v 3) slices_S8x16x768_o0_8_0_S8x8x768) (extractStridedSlice S8x8x768 ![0, 8, 0] (A1 v 4) slices_S8x16x768_o0_8_0_S8x8x768) (extractStridedSlice S8x8x768 ![0, 8, 0] (A1 v 5) slices_S8x16x768_o0_8_0_S8x8x768) (extractStridedSlice S8x8x768 ![0, 8, 0] (A1 v 6) slices_S8x16x768_o0_8_0_S8x8x768) (extractStridedSlice S8x8x768 ![0, 8, 0] (A1 v 7) slices_S8x16x768_o0_8_0_S8x8x768) (extractStridedSlice S8x8x768 ![0, 8, 0] (A1 v 8) slices_S8x16x768_o0_8_0_S8x8x768) (extractStridedSlice S8x8x768 ![0, 8, 0] (A1 v 9) slices_S8x16x768_o0_8_0_S8x8x768) (extractStridedSlice S8x8x768 ![0, 8, 0] (A1 v 10) slices_S8x16x768_o0_8_0_S8x8x768) (extractStridedSlice S8x8x768 ![0, 8, 0] (A1 v 11) slices_S8x16x768_o0_8_0_S8x8x768) (extractStridedSlice S8x8x768 ![0, 8, 0] (A1 v 12) slices_S8x16x768_o0_8_0_S8x8x768) (extractStridedSlice S8x8x768 ![0, 8, 0] (A1 v 13) slices_S8x16x768_o0_8_0_S8x8x768) (extractStridedSlice S8x8x768 ![0, 8, 0] (A1 v 14) slices_S8x16x768_o0_8_0_S8x8x768) (extractStridedSlice S8x8x768 ![0, 8, 0] (A1 v 15) slices_S8x16x768_o0_8_0_S8x8x768) k
      = k (A2 v 0) (A2 v 1) (A2 v 2) (A2 v 3) (A2 v 4) (A2 v 5) (A2 v 6) (A2 v 7) (A2 v 8) (A2 v 9) (A2 v 10) (A2 v 11) (A2 v 12) (A2 v 13) (A2 v 14) (A2 v 15) := by
  simp only [lo2, hi2]
  refine (Top.mergeS_fam maximumf minimumf (fun s => (fun x => ent v 1 (x 0) (x 2) (x 1).val s : FVec F S8x8x768 .f32))
    (fun s => (fun x => ent v 1 (x 0) (x 2) ((x 1).val + 8) s : FVec F S8x8x768 .f32)) k).trans ?_
  have f : ∀ s, Top.merge maximumf minimumf (fun s => (fun x => ent v 1 (x 0) (x 2) (x 1).val s : FVec F S8x8x768 .f32))
      (fun s => (fun x => ent v 1 (x 0) (x 2) ((x 1).val + 8) s : FVec F S8x8x768 .f32)) s = A2 v s := fun s => funext fun x =>
    Top.merge_hom (fun u : FVec F S8x8x768 .f32 => u x) (mx' := FloatOps.maximumf) (mn' := FloatOps.minimumf) (fun _ _ => rfl) (fun _ _ => rfl) _ _ s
  simp only [f]

theorem lo3 (v : S8x512x768.Idx → F .f32) (s : ℕ) :
    extractStridedSlice S8x4x768 ![0, 0, 0] (A2 v s) slices_S8x8x768_o0_0_0_S8x4x768 = fun x => ent v 2 (x 0) (x 2) (x 1).val s := by
  funext x
  have hx : (x 1).val < 4 := (x 1).isLt
  refine (extractStridedSlice_apply _ _ _ x (ix3 (x 0) (⟨(x 1).val, by omega⟩ : Fin 8) (x 2)) ?_).trans rfl
  intro i
  match i with
  | ⟨0, _⟩ => exact (Nat.zero_add _).symm
  | ⟨1, _⟩ => exact (Nat.zero_add _).symm
  | ⟨2, _⟩ => exact (Nat.zero_add _).symm

theorem hi3 (v : S8x512x768.Idx → F .f32) (s : ℕ) :
    extractStridedSlice S8x4x768 ![0, 4, 0] (A2 v s) slices_S8x8x768_o0_4_0_S8x4x768 = fun x => ent v 2 (x 0) (x 2) ((x 1).val + 4) s := by
  funext x
  have hx : (x 1).val < 4 := (x 1).isLt
  refine (extractStridedSlice_apply _ _ _ x (ix3 (x 0) (⟨(x 1).val + 4, by omega⟩ : Fin 8) (x 2)) ?_).trans rfl
  intro i
  match i with
  | ⟨0, _⟩ => exact (Nat.zero_add _).symm
  | ⟨1, _⟩ => exact Nat.add_comm _ _
  | ⟨2, _⟩ => exact (Nat.zero_add _).symm

theorem stage3 {β : Type*} (v : S8x512x768.Idx → F .f32) (k : FVec F S8x4x768 .f32 → FVec F S8x4x768 .f32 → FVec F S8x4x768 .f32 → FVec F S8x4x768 .f32 → FVec F S8x4x768 .f32 → FVec F S8x4x768 .f32 → FVec F S8x4x768 .f32 → FVec F S8x4x768 .f32 → FVec F S8x4x768 .f32 → FVec F S8x4x768 .f32 → FVec F S8x4x768 .f32 → FVec F S8x4x768 .f32 → FVec F S8x4x768 .f32 → FVec F S8x4x768 .f32 → FVec F S8x4x768 .f32 → FVec F S8x4x768 .f32 → β) :
    Top.mergeS maximumf minimumf (extractStridedSlice S8x4x768 ![0, 0, 0] (A2 v 0) slices_S8x8x768_o0_0_0_S8x4x768) (extractStridedSlice S8x4x768 ![0, 0, 0] (A2 v 1) slices_S8x8x768_o0_0_0_S8x4x768) (extractStridedSlice S8x4x768 ![0, 0, 0] (A2 v 2) slices_S8x8x768_o0_0_0_S8x4x768) (extractStridedSlice S8x4x768 ![0, 0, 0] (A2 v 3) slices_S8x8x768_o0_0_0_S8x4x768) (extractStridedSlice S8x4x768 ![0, 0, 0] (A2 v 4) slices_S8x8x768_o0_0_0_S8x4x768) (extractStridedSlice S8x4x768 ![0, 0, 0] (A2 v 5) slices_S8x8x768_o0_0_0_S8x4x768) (extractStridedSlice S8x4x768 ![0, 0, 0] (A2 v 6) slices_S8x8x768_o0_0_0_S8x4x768) (extractStridedSlice S8x4x768 ![0, 0, 0] (A2 v 7) slices_S8x8x768_o0_0_0_S8x4x768) (extractStridedSlice S8x4x768 ![0, 0, 0] (A2 v 8) slices_S8x8x768_o0_0_0_S8x4x768) (extractStridedSlice S8x4x768 ![0, 0, 0] (A2 v 9) slices_S8x8x768_o0_0_0_S8x4x768) (extractStridedSlice S8x4x768 ![0, 0, 0] (A2 v 10) slices_S8x8x768_o0_0_0_S8x4x768) (extractStridedSlice S8x4x768 ![0, 0, 0] (A2 v 11) slices_S8x8x768_o0_0_0_S8x4x768) (extractStridedSlice S8x4x768 ![0, 0, 0] (A2 v 12) slices_S8x8x768_o0_0_0_S8x4x768) (extractStridedSlice S8x4x768 ![0, 0, 0] (A2 v 13) slices_S8x8x768_o0_0_0_S8x4x768) (extractStridedSlice S8x4x768 ![0, 0, 0] (A2 v 14) slices_S8x8x768_o0_0_0_S8x4x768) (extractStridedSlice S8x4x768 ![0, 0, 0] (A2 v 15) slices_S8x8x768_o0_0_0_S8x4x768)
      (extractStridedSlice S8x4x768 ![0, 4, 0] (A2 v 0) slices_S8x8x768_o0_4_0_S8x4x768) (extractStridedSlice S8x4x768 ![0, 4, 0] (A2 v 1) slices_S8x8x768_o0_4_0_S8x4x768) (extractStridedSlice S8x4x768 ![0, 4, 0] (A2 v 2) slices_S8x8x768_o0_4_0_S8x4x768) (extractStridedSlice S8x4x768 ![0, 4, 0] (A2 v 3) slices_S8x8x768_o0_4_0_S8x4x768) (extractStridedSlice S8x4x768 ![0, 4, 0] (A2 v 4) slices_S8x8x768_o0_4_0_S8x4x768) (extractStridedSlice S8x4x768 ![0, 4, 0] (A2 v 5) slices_S8x8x768_o0_4_0_S8x4x768) (extractStridedSlice S8x4x768 ![0, 4, 0] (A2 v 6) slices_S8x8x768_o0_4_0_S8x4x768) (extractStridedSlice S8x4x768 ![0, 4, 0] (A2 v 7) slices_S8x8x768_o0_4_0_S8x4x768) (extractStridedSlice S8x4x768 ![0, 4, 0] (A2 v 8) slices_S8x8x768_o0_4_0_S8x4x768) (extractStridedSlice S8x4x768 ![0, 4, 0] (A2 v 9) slices_S8x8x768_o0_4_0_S8x4x768) (extractStridedSlice S8x4x768 ![0, 4, 0] (A2 v 10) slices_S8x8x768_o0_4_0_S8x4x768) (extractStridedSlice S8x4x768 ![0, 4, 0] (A2 v 11) slices_S8x8x768_o0_4_0_S8x4x768) (extractStridedSlice S8x4x768 ![0, 4, 0] (A2 v 12) slices_S8x8x768_o0_4_0_S8x4x768) (extractStridedSlice S8x4x768 ![0, 4, 0] (A2 v 13) slices_S8x8x768_o0_4_0_S8x4x768) (extractStridedSlice S8x4x768 ![0, 4, 0] (A2 v 14) slices_S8x8x768_o0_4_0_S8x4x768) (extractStridedSlice S8x4x768 ![0, 4, 0] (A2 v 15) slices_S8x8x768_o0_4_0_S8x4x768) k
      = k (A3 v 0) (A3 v 1) (A3 v 2) (A3 v 3) (A3 v 4) (A3 v 5) (A3 v 6) (A3 v 7) (A3 v 8) (A3 v 9) (A3 v 10) (A3 v 11) (A3 v 12) (A3 v 13) (A3 v 14) (A3 v 15) := by
  simp only [lo3, hi3]
  refine (Top.mergeS_fam maximumf minimumf (fun s => (fun x => ent v 2 (x 0) (x 2) (x 1).val s : FVec F S8x4x768 .f32))
    (fun s => (fun x => ent v 2 (x 0) (x 2) ((x 1).val + 4) s : FVec F S8x4x768 .f32)) k).trans ?_
  have f : ∀ s, Top.merge maximumf minimumf (fun s => (fun x => ent v 2 (x 0) (x 2) (x 1).val s : FVec F S8x4x768 .f32))
      (fun s => (fun x => ent v 2 (x 0) (x 2) ((x 1).val + 4) s : FVec F S8x4x768 .f32)) s = A3 v s := fun s => funext fun x =>
    Top.merge_hom (fun u : FVec F S8x4x768 .f32 => u x) (mx' := FloatOps.maximumf) (mn' := FloatOps.minimumf) (fun _ _ => rfl) (fun _ _ => rfl) _ _ s
  simp only [f]

theorem lo4 (v : S8x512x768.Idx → F .f32) (s : ℕ) :
    extractStridedSlice S8x2x768 ![0, 0, 0] (A3 v s) slices_S8x4x768_o0_0_0_S8x2x768 = fun x => ent v 3 (x 0) (x 2) (x 1).val s := by
  funext x
  have hx : (x 1).val < 2 := (x 1).isLt
  refine (extractStridedSlice_apply _ _ _ x (ix3 (x 0) (⟨(x 1).val, by omega⟩ : Fin 4) (x 2)) ?_).trans rfl
  intro i
  match i with
  | ⟨0, _⟩ => exact (Nat.zero_add _).symm
  | ⟨1, _⟩ => exact (Nat.zero_add _).symm
  | ⟨2, _⟩ => exact (Nat.zero_add _).symm

theorem hi4 (v : S8x512x768.Idx → F .f32) (s : ℕ) :
    extractStridedSlice S8x2x768 ![0, 2, 0] (A3 v s) slices_S8x4x768_o0_2_0_S8x2x768 = fun x => ent v 3 (x 0) (x 2) ((x 1).val + 2) s := by
  funext x
  have hx : (x 1).val < 2 := (x 1).isLt
  refine (extractStridedSlice_apply _ _ _ x (ix3 (x 0) (⟨(x 1).val + 2, by omega⟩ : Fin 4) (x 2)) ?_).trans rfl
  intro i
  match i with
  | ⟨0, _⟩ => exact (Nat.zero_add _).symm
  | ⟨1, _⟩ => exact Nat.add_comm _ _
  | ⟨2, _⟩ => exact (Nat.zero_add _).symm

theorem stage4 {β : Type*} (v : S8x512x768.Idx → F .f32) (k : FVec F S8x2x768 .f32 → FVec F S8x2x768 .f32 → FVec F S8x2x768 .f32 → FVec F S8x2x768 .f32 → FVec F S8x2x768 .f32 → FVec F S8x2x768 .f32 → FVec F S8x2x768 .f32 → FVec F S8x2x768 .f32 → FVec F S8x2x768 .f32 → FVec F S8x2x768 .f32 → FVec F S8x2x768 .f32 → FVec F S8x2x768 .f32 → FVec F S8x2x768 .f32 → FVec F S8x2x768 .f32 → FVec F S8x2x768 .f32 → FVec F S8x2x768 .f32 → β) :
    Top.mergeS maximumf minimumf (extractStridedSlice S8x2x768 ![0, 0, 0] (A3 v 0) slices_S8x4x768_o0_0_0_S8x2x768) (extractStridedSlice S8x2x768 ![0, 0, 0] (A3 v 1) slices_S8x4x768_o0_0_0_S8x2x768) (extractStridedSlice S8x2x768 ![0, 0, 0] (A3 v 2) slices_S8x4x768_o0_0_0_S8x2x768) (extractStridedSlice S8x2x768 ![0, 0, 0] (A3 v 3) slices_S8x4x768_o0_0_0_S8x2x768) (extractStridedSlice S8x2x768 ![0, 0, 0] (A3 v 4) slices_S8x4x768_o0_0_0_S8x2x768) (extractStridedSlice S8x2x768 ![0, 0, 0] (A3 v 5) slices_S8x4x768_o0_0_0_S8x2x768) (extractStridedSlice S8x2x768 ![0, 0, 0] (A3 v 6) slices_S8x4x768_o0_0_0_S8x2x768) (extractStridedSlice S8x2x768 ![0, 0, 0] (A3 v 7) slices_S8x4x768_o0_0_0_S8x2x768) (extractStridedSlice S8x2x768 ![0, 0, 0] (A3 v 8) slices_S8x4x768_o0_0_0_S8x2x768) (extractStridedSlice S8x2x768 ![0, 0, 0] (A3 v 9) slices_S8x4x768_o0_0_0_S8x2x768) (extractStridedSlice S8x2x768 ![0, 0, 0] (A3 v 10) slices_S8x4x768_o0_0_0_S8x2x768) (extractStridedSlice S8x2x768 ![0, 0, 0] (A3 v 11) slices_S8x4x768_o0_0_0_S8x2x768) (extractStridedSlice S8x2x768 ![0, 0, 0] (A3 v 12) slices_S8x4x768_o0_0_0_S8x2x768) (extractStridedSlice S8x2x768 ![0, 0, 0] (A3 v 13) slices_S8x4x768_o0_0_0_S8x2x768) (extractStridedSlice S8x2x768 ![0, 0, 0] (A3 v 14) slices_S8x4x768_o0_0_0_S8x2x768) (extractStridedSlice S8x2x768 ![0, 0, 0] (A3 v 15) slices_S8x4x768_o0_0_0_S8x2x768)
      (extractStridedSlice S8x2x768 ![0, 2, 0] (A3 v 0) slices_S8x4x768_o0_2_0_S8x2x768) (extractStridedSlice S8x2x768 ![0, 2, 0] (A3 v 1) slices_S8x4x768_o0_2_0_S8x2x768) (extractStridedSlice S8x2x768 ![0, 2, 0] (A3 v 2) slices_S8x4x768_o0_2_0_S8x2x768) (extractStridedSlice S8x2x768 ![0, 2, 0] (A3 v 3) slices_S8x4x768_o0_2_0_S8x2x768) (extractStridedSlice S8x2x768 ![0, 2, 0] (A3 v 4) slices_S8x4x768_o0_2_0_S8x2x768) (extractStridedSlice S8x2x768 ![0, 2, 0] (A3 v 5) slices_S8x4x768_o0_2_0_S8x2x768) (extractStridedSlice S8x2x768 ![0, 2, 0] (A3 v 6) slices_S8x4x768_o0_2_0_S8x2x768) (extractStridedSlice S8x2x768 ![0, 2, 0] (A3 v 7) slices_S8x4x768_o0_2_0_S8x2x768) (extractStridedSlice S8x2x768 ![0, 2, 0] (A3 v 8) slices_S8x4x768_o0_2_0_S8x2x768) (extractStridedSlice S8x2x768 ![0, 2, 0] (A3 v 9) slices_S8x4x768_o0_2_0_S8x2x768) (extractStridedSlice S8x2x768 ![0, 2, 0] (A3 v 10) slices_S8x4x768_o0_2_0_S8x2x768) (extractStridedSlice S8x2x768 ![0, 2, 0] (A3 v 11) slices_S8x4x768_o0_2_0_S8x2x768) (extractStridedSlice S8x2x768 ![0, 2, 0] (A3 v 12) slices_S8x4x768_o0_2_0_S8x2x768) (extractStridedSlice S8x2x768 ![0, 2, 0] (A3 v 13) slices_S8x4x768_o0_2_0_S8x2x768) (extractStridedSlice S8x2x768 ![0, 2, 0] (A3 v 14) slices_S8x4x768_o0_2_0_S8x2x768) (extractStridedSlice S8x2x768 ![0, 2, 0] (A3 v 15) slices_S8x4x768_o0_2_0_S8x2x768) k
      = k (A4 v 0) (A4 v 1) (A4 v 2) (A4 v 3) (A4 v 4) (A4 v 5) (A4 v 6) (A4 v 7) (A4 v 8) (A4 v 9) (A4 v 10) (A4 v 11) (A4 v 12) (A4 v 13) (A4 v 14) (A4 v 15) := by
  simp only [lo4, hi4]
  refine (Top.mergeS_fam maximumf minimumf (fun s => (fun x => ent v 3 (x 0) (x 2) (x 1).val s : FVec F S8x2x768 .f32))
    (fun s => (fun x => ent v 3 (x 0) (x 2) ((x 1).val + 2) s : FVec F S8x2x768 .f32)) k).trans ?_
  have f : ∀ s, Top.merge maximumf minimumf (fun s => (fun x => ent v 3 (x 0) (x 2) (x 1).val s : FVec F S8x2x768 .f32))
      (fun s => (fun x => ent v 3 (x 0) (x 2) ((x 1).val + 2) s : FVec F S8x2x768 .f32)) s = A4 v s := fun s => funext fun x =>
    Top.merge_hom (fun u : FVec F S8x2x768 .f32 => u x) (mx' := FloatOps.maximumf) (mn' := FloatOps.minimumf) (fun _ _ => rfl) (fun _ _ => rfl) _ _ s
  simp only [f]

theorem lo5 (v : S8x512x768.Idx → F .f32) (s : ℕ) :
    extractStridedSlice S8x1x768 ![0, 0, 0] (A4 v s) slices_S8x2x768_o0_0_0_S8x1x768 = fun x => ent v 4 (x 0) (x 2) (x 1).val s := by
  funext x
  have hx : (x 1).val < 1 := (x 1).isLt
  refine (extractStridedSlice_apply _ _ _ x (ix3 (x 0) (⟨(x 1).val, by omega⟩ : Fin 2) (x 2)) ?_).trans rfl
  intro i
  match i with
  | ⟨0, _⟩ => exact (Nat.zero_add _).symm
  | ⟨1, _⟩ => exact (Nat.zero_add _).symm
  | ⟨2, _⟩ => exact (Nat.zero_add _).symm

theorem hi5 (v : S8x512x768.Idx → F .f32) (s : ℕ) :
    extractStridedSlice S8x1x768 ![0, 1, 0] (A4 v s) slices_S8x2x768_o0_1_0_S8x1x768 = fun x => ent v 4 (x 0) (x 2) ((x 1).val + 1) s := by
  funext x
  have hx : (x 1).val < 1 := (x 1).isLt
  refine (extractStridedSlice_apply _ _ _ x (ix3 (x 0) (⟨(x 1).val + 1, by omega⟩ : Fin 2) (x 2)) ?_).trans rfl
  intro i
  match i with
  | ⟨0, _⟩ => exact (Nat.zero_add _).symm
  | ⟨1, _⟩ => exact Nat.add_comm _ _
  | ⟨2, _⟩ => exact (Nat.zero_add _).symm

theorem stage5 {β : Type*} (v : S8x512x768.Idx → F .f32) (k : FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → β) :
    Top.mergeS maximumf minimumf (extractStridedSlice S8x1x768 ![0, 0, 0] (A4 v 0) slices_S8x2x768_o0_0_0_S8x1x768) (extractStridedSlice S8x1x768 ![0, 0, 0] (A4 v 1) slices_S8x2x768_o0_0_0_S8x1x768) (extractStridedSlice S8x1x768 ![0, 0, 0] (A4 v 2) slices_S8x2x768_o0_0_0_S8x1x768) (extractStridedSlice S8x1x768 ![0, 0, 0] (A4 v 3) slices_S8x2x768_o0_0_0_S8x1x768) (extractStridedSlice S8x1x768 ![0, 0, 0] (A4 v 4) slices_S8x2x768_o0_0_0_S8x1x768) (extractStridedSlice S8x1x768 ![0, 0, 0] (A4 v 5) slices_S8x2x768_o0_0_0_S8x1x768) (extractStridedSlice S8x1x768 ![0, 0, 0] (A4 v 6) slices_S8x2x768_o0_0_0_S8x1x768) (extractStridedSlice S8x1x768 ![0, 0, 0] (A4 v 7) slices_S8x2x768_o0_0_0_S8x1x768) (extractStridedSlice S8x1x768 ![0, 0, 0] (A4 v 8) slices_S8x2x768_o0_0_0_S8x1x768) (extractStridedSlice S8x1x768 ![0, 0, 0] (A4 v 9) slices_S8x2x768_o0_0_0_S8x1x768) (extractStridedSlice S8x1x768 ![0, 0, 0] (A4 v 10) slices_S8x2x768_o0_0_0_S8x1x768) (extractStridedSlice S8x1x768 ![0, 0, 0] (A4 v 11) slices_S8x2x768_o0_0_0_S8x1x768) (extractStridedSlice S8x1x768 ![0, 0, 0] (A4 v 12) slices_S8x2x768_o0_0_0_S8x1x768) (extractStridedSlice S8x1x768 ![0, 0, 0] (A4 v 13) slices_S8x2x768_o0_0_0_S8x1x768) (extractStridedSlice S8x1x768 ![0, 0, 0] (A4 v 14) slices_S8x2x768_o0_0_0_S8x1x768) (extractStridedSlice S8x1x768 ![0, 0, 0] (A4 v 15) slices_S8x2x768_o0_0_0_S8x1x768)
      (extractStridedSlice S8x1x768 ![0, 1, 0] (A4 v 0) slices_S8x2x768_o0_1_0_S8x1x768) (extractStridedSlice S8x1x768 ![0, 1, 0] (A4 v 1) slices_S8x2x768_o0_1_0_S8x1x768) (extractStridedSlice S8x1x768 ![0, 1, 0] (A4 v 2) slices_S8x2x768_o0_1_0_S8x1x768) (extractStridedSlice S8x1x768 ![0, 1, 0] (A4 v 3) slices_S8x2x768_o0_1_0_S8x1x768) (extractStridedSlice S8x1x768 ![0, 1, 0] (A4 v 4) slices_S8x2x768_o0_1_0_S8x1x768) (extractStridedSlice S8x1x768 ![0, 1, 0] (A4 v 5) slices_S8x2x768_o0_1_0_S8x1x768) (extractStridedSlice S8x1x768 ![0, 1, 0] (A4 v 6) slices_S8x2x768_o0_1_0_S8x1x768) (extractStridedSlice S8x1x768 ![0, 1, 0] (A4 v 7) slices_S8x2x768_o0_1_0_S8x1x768) (extractStridedSlice S8x1x768 ![0, 1, 0] (A4 v 8) slices_S8x2x768_o0_1_0_S8x1x768) (extractStridedSlice S8x1x768 ![0, 1, 0] (A4 v 9) slices_S8x2x768_o0_1_0_S8x1x768) (extractStridedSlice S8x1x768 ![0, 1, 0] (A4 v 10) slices_S8x2x768_o0_1_0_S8x1x768) (extractStridedSlice S8x1x768 ![0, 1, 0] (A4 v 11) slices_S8x2x768_o0_1_0_S8x1x768) (extractStridedSlice S8x1x768 ![0, 1, 0] (A4 v 12) slices_S8x2x768_o0_1_0_S8x1x768) (extractStridedSlice S8x1x768 ![0, 1, 0] (A4 v 13) slices_S8x2x768_o0_1_0_S8x1x768) (extractStridedSlice S8x1x768 ![0, 1, 0] (A4 v 14) slices_S8x2x768_o0_1_0_S8x1x768) (extractStridedSlice S8x1x768 ![0, 1, 0] (A4 v 15) slices_S8x2x768_o0_1_0_S8x1x768) k
      = k (A5 v 0) (A5 v 1) (A5 v 2) (A5 v 3) (A5 v 4) (A5 v 5) (A5 v 6) (A5 v 7) (A5 v 8) (A5 v 9) (A5 v 10) (A5 v 11) (A5 v 12) (A5 v 13) (A5 v 14) (A5 v 15) := by
  simp only [lo5, hi5]
  refine (Top.mergeS_fam maximumf minimumf (fun s => (fun x => ent v 4 (x 0) (x 2) (x 1).val s : FVec F S8x1x768 .f32))
    (fun s => (fun x => ent v 4 (x 0) (x 2) ((x 1).val + 1) s : FVec F S8x1x768 .f32)) k).trans ?_
  have f : ∀ s, Top.merge maximumf minimumf (fun s => (fun x => ent v 4 (x 0) (x 2) (x 1).val s : FVec F S8x1x768 .f32))
      (fun s => (fun x => ent v 4 (x 0) (x 2) ((x 1).val + 1) s : FVec F S8x1x768 .f32)) s = A5 v s := fun s => funext fun x =>
    Top.merge_hom (fun u : FVec F S8x1x768 .f32 => u x) (mx' := FloatOps.maximumf) (mn' := FloatOps.minimumf) (fun _ _ => rfl) (fun _ _ => rfl) _ _ s
  simp only [f]

/-- The network hands on the lists. -/
theorem tcNet_eq {β : Type*} (v : FVec F S8x512x768 .f32) (k : FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → FVec F S8x1x768 .f32 → β) :
    tcNet v k = k (A5 v 0) (A5 v 1) (A5 v 2) (A5 v 3) (A5 v 4) (A5 v 5) (A5 v 6) (A5 v 7) (A5 v 8) (A5 v 9) (A5 v 10) (A5 v 11) (A5 v 12) (A5 v 13) (A5 v 14) (A5 v 15) := by
  unfold tcNet
  refine (stage0 v _).trans ?_
  refine (stage1 v _).trans ?_
  refine (stage2 v _).trans ?_
  refine (stage3 v _).trans ?_
  refine (stage4 v _).trans ?_
  exact stage5 v _

/-- The block of lists. -/
def outBlk (v : S8x512x768.Idx → F .f32) : S8x1x16x768.Idx → F .f32 := fun x => ent v 5 (x 0) (x 3) 0 (x 2).val

end Cert.KernelIdeal.K1
-- ==== Proof.K1Body.lean ====
module

public import proofs.«01_k».proof.Proof.K0Common
public import proofs.«01_k».proof.Proof.K1Val
public import Idealize.ShloMosaic.Lib.Memref

/-! The TensorCore kernel's body over its two buffers: the block read, its lists written row by row. -/

@[expose] public section

set_option maxRecDepth 65536

noncomputable section

namespace Cert.KernelIdeal.K1

open Cert.KernelIdeal Cert.KernelIdeal.Gen Cert.KernelIdeal.K0 Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (c : Dev nD)

/-- A TensorCore program takes its resources to `Q`. -/
abbrev mw {α : Type} (p : MP F α) (Q : α → sProp 𝕄) : sProp 𝕄 :=
  wp frame (wpE (defs₀ (F := F)) 𝒱₀ (SparseCore.T c) none) Set.univ p Q

/-- The result's buffer with its first `n` rows written. -/
def upto (G g : S8x1x16x768.Idx → F .f32) (n : ℕ) : S8x1x16x768.Idx → F .f32 := fun x => if (x 2).val < n then G x else g x

/-- One row stored. -/
theorem st_wp (arg2 : Memref sig .tc .vmem S8x1x16x768 .f32) (G g : S8x1x16x768.Idx → F .f32) (n : Fin 16) (v : FVec F S8x1x768 .f32)
    (hv : ∀ (b : Fin 8) (k : Fin 768), v (ix3 b 0 k) = G (ix4 b 0 n k)) (a b : ℕ) (ha : a = n.val) (hb : b = n.val + 1) :
    (owns (SparseCore.T c) arg2 fullShare (upto G g a) : sProp 𝕄)
      ⊢ mw c (st arg2 n v) fun _ => owns (SparseCore.T c) arg2 fullShare (upto G g b) := by
  subst ha hb
  unfold owns
  iintro ⟨%f, %hf, H⟩
  unfold st mw
  simp only [Prog.bind_lift, Prog.lift, Prog.bind_op, Prog.bind_ret]
  iapply (wp_load_rect (defs := defs₀ (F := F)) 𝒱₀ (SparseCore.T c) none (Γ := _) Set.univ (m := arg2)
    (r := Rect.unit (s := S8x1x16x768) ![0, 0, n.val, 0] S8x1x1x768.size (inb_row n)) (q := fullShare) (f := f) (View.set_slice_subset _ _)) $$ H
  iintro H
  iapply (wp_store (defs := defs₀ (F := F)) 𝒱₀ (SparseCore.T c) none Set.univ (m := arg2) (r := Rect.unit (s := S8x1x16x768) ![0, 0, n.val, 0] S8x1x1x768.size (inb_row n)) (f := f) (View.set_slice_subset _ _)) $$ H
  iintro H
  rw [wp_ret]
  imodintro
  iexists _
  isplitr
  swap
  · iexact H
  ipureintro
  funext y
  have h0 : (y 0).val < 8 := (y 0).isLt
  have h1 : (y 1).val < 1 := (y 1).isLt
  have h3 : (y 3).val < 768 := (y 3).isLt
  by_cases hm : (y 2).val = n.val
  · have e := View.read_slice_write_emb (v := arg2.view) (Val := Elt F) (Rect.unit (s := S8x1x16x768) ![0, 0, n.val, 0] S8x1x1x768.size (inb_row n)) f
      (shapeCast S8x1x1x768 (shapeCast S8x768 v shapeCasts_S8x1x768_S8x768) shapeCasts_S8x768_S8x1x1x768) (M := Finset.univ) (x := ix4 (y 0) 0 0 (y 3)) (Finset.mem_univ _)
    have ey : (Rect.unit (s := S8x1x16x768) ![0, 0, n.val, 0] S8x1x1x768.size (inb_row n)).emb (ix4 (y 0) 0 0 (y 3)) = y := by
      apply Rect.emb_eq_of_coords
      intro a
      match a with
      | ⟨0, _⟩ => exact (show (y 0).val = 0 + 1 * (y 0).val by omega)
      | ⟨1, _⟩ => exact (show (y 1).val = 0 + 1 * 0 by omega)
      | ⟨2, _⟩ => exact (show (y 2).val = n.val + 1 * 0 by omega)
      | ⟨3, _⟩ => exact (show (y 3).val = 0 + 1 * (y 3).val by omega)
    rw [ey] at e
    refine e.trans ?_
    refine (shapeCast_apply _ shapeCasts_S8x768_S8x1x1x768 _ (ix2 (y 0) (y 3)) ?_).trans ?_
    · rw [Shape.rowMajor_val_four, Shape.rowMajor_val_two]
      show (y 0).val * 768 + (y 3).val = (((y 0).val * 1 + 0) * 1 + 0) * 768 + (y 3).val
      omega
    refine (shapeCast_apply _ shapeCasts_S8x1x768_S8x768 _ (ix3 (y 0) 0 (y 3)) ?_).trans ?_
    · rw [Shape.rowMajor_val_three, Shape.rowMajor_val_two]
      show ((y 0).val * 1 + 0) * 768 + (y 3).val = (y 0).val * 768 + (y 3).val
      omega
    refine (hv (y 0) (y 3)).trans ?_
    unfold upto
    rw [if_pos (by omega)]
    congr 1
    funext a
    match a with
    | ⟨0, _⟩ => rfl
    | ⟨1, _⟩ => exact Fin.ext (show 0 = (y 1).val by omega)
    | ⟨2, _⟩ => exact Fin.ext hm.symm
    | ⟨3, _⟩ => rfl
  · have e := View.read_slice_write_of_not_mem (v := arg2.view) (Val := Elt F) (Rect.unit (s := S8x1x16x768) ![0, 0, n.val, 0] S8x1x1x768.size (inb_row n)) f
      (shapeCast S8x1x1x768 (shapeCast S8x768 v shapeCasts_S8x1x768_S8x768) shapeCasts_S8x768_S8x1x1x768) (M := Finset.univ) (y := y) (by
        rw [Rect.map_emb_univ]
        intro hmem
        rw [Rect.mem_set_unit] at hmem
        have m2 := hmem 2
        have a1 : n.val ≤ (y 2).val := m2.1
        have a2 : (y 2).val < n.val + 1 := m2.2
        omega)
    refine e.trans ?_
    rw [hf]
    unfold upto
    by_cases hn : (y 2).val < n.val
    · rw [if_pos hn, if_pos (by omega)]
    · rw [if_neg hn, if_neg (by omega)]

/-- One row stored, and what follows. -/
theorem st_then (arg2 : Memref sig .tc .vmem S8x1x16x768 .f32) (G g : S8x1x16x768.Idx → F .f32) (n : Fin 16) (v : FVec F S8x1x768 .f32)
    (hv : ∀ (b : Fin 8) (k : Fin 768), v (ix3 b 0 k) = G (ix4 b 0 n k)) (a b : ℕ) (ha : a = n.val) (hb : b = n.val + 1)
    {α : Type} {k : PUnit → MP F α} {Q : α → sProp 𝕄} :
    (owns (SparseCore.T c) arg2 fullShare (upto G g a) : sProp 𝕄)
      ⊢ iprop((owns (SparseCore.T c) arg2 fullShare (upto G g b) -∗ mw c (k ⟨⟩) Q) -∗ mw c (st arg2 n v >>= k) Q) := by
  iintro H Hk
  unfold mw
  rw [wp_bind]
  iapply (wp_wand frame (wpE (defs₀ (F := F)) 𝒱₀ (SparseCore.T c) none) Set.univ) $$ [H]
  · iapply (st_wp c arg2 G g n v hv a b ha hb) $$ H
  iintro %_u H
  iapply Hk $$ H

theorem ld_val (arg1 : Memref sig .tc .vmem S8x512x768 .f32) (f : arg1.view.ty.Contents (Elt F)) :
    shapeCast S8x512x768 ((arg1.access (Rect.unit (s := S8x512x768) ![0, 0, 0] S8x512x768.size inb_S8x512x768_S8x512x768_0_0_0)).read (Elt F) f)
      shapeCasts_S8x512x768_S8x512x768 = arg1.view.read (Elt F) f := by
  funext x
  refine (shapeCast_apply _ shapeCasts_S8x512x768_S8x512x768 x x rfl).trans ?_
  show arg1.view.read (Elt F) f _ = _
  congr 1
  apply Rect.emb_eq_of_coords
  intro a
  match a with
  | ⟨0, _⟩ => exact (show (x 0).val = 0 + 1 * (x 0).val by omega)
  | ⟨1, _⟩ => exact (show (x 1).val = 0 + 1 * (x 1).val by omega)
  | ⟨2, _⟩ => exact (show (x 2).val = 0 + 1 * (x 2).val by omega)

theorem upto_zero (G g : S8x1x16x768.Idx → F .f32) : upto G g 0 = g := funext fun _ => if_neg (Nat.not_lt_zero _)
theorem upto_all (G g : S8x1x16x768.Idx → F .f32) : upto G g 16 = G := funext fun x => if_pos (x 2).isLt

/-- The sixteen rows stored. -/
theorem rows_wp (arg2 : Memref sig .tc .vmem S8x1x16x768 .f32) (X : S8x512x768.Idx → F .f32) (g : S8x1x16x768.Idx → F .f32) :
    (owns (SparseCore.T c) arg2 fullShare g : sProp 𝕄)
      ⊢ mw c (do
        st arg2 0 (A5 X 0)
        st arg2 1 (A5 X 1)
        st arg2 2 (A5 X 2)
        st arg2 3 (A5 X 3)
        st arg2 4 (A5 X 4)
        st arg2 5 (A5 X 5)
        st arg2 6 (A5 X 6)
        st arg2 7 (A5 X 7)
        st arg2 8 (A5 X 8)
        st arg2 9 (A5 X 9)
        st arg2 10 (A5 X 10)
        st arg2 11 (A5 X 11)
        st arg2 12 (A5 X 12)
        st arg2 13 (A5 X 13)
        st arg2 14 (A5 X 14)
        st arg2 15 (A5 X 15)) fun _ => owns (SparseCore.T c) arg2 fullShare (outBlk X) := by
  refine (Entails.of_eq (congrArg (owns (SparseCore.T c) arg2 fullShare) (upto_zero (outBlk X) g).symm)).trans ?_
  iintro H
  iapply (st_then c arg2 (outBlk X) g 0 (A5 X 0) (fun _ _ => rfl) 0 1 rfl rfl) $$ H
  iintro H
  iapply (st_then c arg2 (outBlk X) g 1 (A5 X 1) (fun _ _ => rfl) 1 2 rfl rfl) $$ H
  iintro H
  iapply (st_then c arg2 (outBlk X) g 2 (A5 X 2) (fun _ _ => rfl) 2 3 rfl rfl) $$ H
  iintro H
  iapply (st_then c arg2 (outBlk X) g 3 (A5 X 3) (fun _ _ => rfl) 3 4 rfl rfl) $$ H
  iintro H
  iapply (st_then c arg2 (outBlk X) g 4 (A5 X 4) (fun _ _ => rfl) 4 5 rfl rfl) $$ H
  iintro H
  iapply (st_then c arg2 (outBlk X) g 5 (A5 X 5) (fun _ _ => rfl) 5 6 rfl rfl) $$ H
  iintro H
  iapply (st_then c arg2 (outBlk X) g 6 (A5 X 6) (fun _ _ => rfl) 6 7 rfl rfl) $$ H
  iintro H
  iapply (st_then c arg2 (outBlk X) g 7 (A5 X 7) (fun _ _ => rfl) 7 8 rfl rfl) $$ H
  iintro H
  iapply (st_then c arg2 (outBlk X) g 8 (A5 X 8) (fun _ _ => rfl) 8 9 rfl rfl) $$ H
  iintro H
  iapply (st_then c arg2 (outBlk X) g 9 (A5 X 9) (fun _ _ => rfl) 9 10 rfl rfl) $$ H
  iintro H
  iapply (st_then c arg2 (outBlk X) g 10 (A5 X 10) (fun _ _ => rfl) 10 11 rfl rfl) $$ H
  iintro H
  iapply (st_then c arg2 (outBlk X) g 11 (A5 X 11) (fun _ _ => rfl) 11 12 rfl rfl) $$ H
  iintro H
  iapply (st_then c arg2 (outBlk X) g 12 (A5 X 12) (fun _ _ => rfl) 12 13 rfl rfl) $$ H
  iintro H
  iapply (st_then c arg2 (outBlk X) g 13 (A5 X 13) (fun _ _ => rfl) 13 14 rfl rfl) $$ H
  iintro H
  iapply (st_then c arg2 (outBlk X) g 14 (A5 X 14) (fun _ _ => rfl) 14 15 rfl rfl) $$ H
  iintro H
  ihave H' := (st_wp c arg2 (outBlk X) g 15 (A5 X 15) (fun _ _ => rfl) 15 16 rfl rfl) $$ H
  rw [upto_all]
  iexact H'

/-- The body leaves the block's lists. -/
theorem body_wp (arg1 : Memref sig .tc .vmem S8x512x768 .f32) (arg2 : Memref sig .tc .vmem S8x1x16x768 .f32) (X : S8x512x768.Idx → F .f32)
    (g : S8x1x16x768.Idx → F .f32) :
    iprop(owns (SparseCore.T c) arg1 fullShare X ∗ owns (SparseCore.T c) arg2 fullShare g : sProp 𝕄)
      ⊢ mw c (body arg1 arg2) fun _ => iprop(owns (SparseCore.T c) arg1 fullShare X ∗ owns (SparseCore.T c) arg2 fullShare (outBlk X)) := by
  iintro ⟨H1, H2⟩
  ihave H1 := (Entails.of_eq (show (owns (SparseCore.T c) arg1 fullShare X : sProp 𝕄) = iprop(∃ f, ⌜arg1.view.read (Elt F) f = X⌝ ∗ (arg1.view.loc (SparseCore.T c) ↦[arg1.view.set]{fullShare} f)) from rfl)) $$ H1
  icases H1 with ⟨%f, %hf, H1⟩
  unfold body mw
  simp only [Prog.bind_lift]
  iapply (wp_load_rect (defs := defs₀ (F := F)) 𝒱₀ (SparseCore.T c) none (Γ := _) Set.univ (m := arg1)
    (r := Rect.unit (s := S8x512x768) ![0, 0, 0] S8x512x768.size inb_S8x512x768_S8x512x768_0_0_0) (q := fullShare) (f := f) (View.set_slice_subset _ _)) $$ H1
  iintro H1
  rw [ld_val, hf, tcNet_eq]
  iapply (wp_wand frame (wpE (defs₀ (F := F)) 𝒱₀ (SparseCore.T c) none) Set.univ) $$ [H2]
  · iapply (rows_wp c arg2 X g) $$ H2
  iintro %_u H2
  isplitl [H1]
  · unfold owns
    iexists f
    isplitr
    · ipureintro; exact hf
    iexact H1
  iexact H2

end Cert.KernelIdeal.K1
-- ==== Proof.K1Region.lean ====
module

public import proofs.«01_k».proof.Proof.K1Body
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameBody
public import Idealize.ShloMosaic.Lib.Pipeline.ValueKit

/-! The TensorCore call: its blocks one after another, and the whole result. -/

@[expose] public section

set_option maxRecDepth 65536

noncomputable section

namespace Cert.KernelIdeal.K1

open Cert.KernelIdeal Cert.KernelIdeal.Gen Cert.KernelIdeal.K0 Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose RegionSeg OwnSemFacts pin)

variable {F : FTy → Type} [FloatOps F]

local notation "𝕄" => MT nD τ sig (HIx 1) (Elt F) ℕ UU ℕ

/-! ## The blocks -/

/-- Where the blocks lie: block `t` of the operand begins at row `512 t`, and block `t` of the result is its row `t`. -/
theorem in_pos (t : Fin cfg1.N) : win1_0.index t 0 * win1_0.size 0 = 0 ∧ win1_0.index t 1 * win1_0.size 1 = 512 * t.val
    ∧ win1_0.index t 2 * win1_0.size 2 = 0 := by
  rcases fin_N1 t with rfl | rfl | rfl | rfl | rfl <;> decide +kernel

theorem out_pos (t : Fin cfg1.N) : win1_1.index t 0 * win1_1.size 0 = 0 ∧ win1_1.index t 1 * win1_1.size 1 = t.val
    ∧ win1_1.index t 2 * win1_1.size 2 = 0 ∧ win1_1.index t 3 * win1_1.size 3 = 0 := by
  rcases fin_N1 t with rfl | rfl | rfl | rfl | rfl <;> decide +kernel

theorem out_size (t : Fin cfg1.N) : win1_1.xsize (grid1.coords t) 0 = 8 ∧ win1_1.xsize (grid1.coords t) 1 = 1
    ∧ win1_1.xsize (grid1.coords t) 2 = 16 ∧ win1_1.xsize (grid1.coords t) 3 = 768 := by
  rcases fin_N1 t with rfl | rfl | rfl | rfl | rfl <;> decide +kernel

/-- Block `t` of the operand. -/
def inBlk (A : S8x4608x768.Idx → F .f32) (t : ℕ) : S8x512x768.Idx → F .f32 :=
  fun y => A (Idealize.ShloMosaic.ValueIdx.ix3 (y 0) (Fin.ofNat 4608 (512 * t + (y 1).val)) (y 2))

/-- The whole result: row `t` has the lists of block `t`. -/
def tcOut (A : S8x4608x768.Idx → F .f32) : S8x5x16x768.Idx → F .f32 :=
  fun x => ent (inBlk A (x 1).val) 5 (x 0) (x 3) 0 (x 2).val

theorem blk_read (c : Dev nD) (A : Buf (Elt F) ((cfg1.win 0).arr.view.loc (c.tc : Thread nD τ))) (t : Fin cfg1.N) :
    ((cfg1.win 0).blk t).view.read (Elt F) A = inBlk A t.val := by
  funext y
  show A ((win1_0.rect t).emb y) = A _
  congr 1
  obtain ⟨e0, e1, e2⟩ := in_pos t
  have ht : t.val < 5 := by have := t.isLt; have h : cfg1.N = 5 := N_1; omega
  have h1 : (y 1 : ℕ) < 512 := (y 1).isLt
  funext a
  apply Fin.ext
  refine (win1_0.rect_emb_val t y a).trans ?_
  match a with
  | ⟨0, _⟩ => show win1_0.index t 0 * win1_0.size 0 + (y 0 : ℕ) = (y 0 : ℕ); rw [e0]; omega
  | ⟨1, _⟩ =>
    show win1_0.index t 1 * win1_0.size 1 + (y 1 : ℕ) = (512 * t.val + (y 1 : ℕ)) % 4608
    rw [e1, Nat.mod_eq_of_lt (by omega)]
  | ⟨2, _⟩ => show win1_0.index t 2 * win1_0.size 2 + (y 2 : ℕ) = (y 2 : ℕ); rw [e2]; omega

/-! ## The call's data -/

variable (A : S8x4608x768.Idx → F .f32) (B : S8x5x16x768.Idx → F .f32)

/-- The level below which everything waited for before the call lies. -/
abbrev before1 : ℕ := 8 * SparseCore.Cfg.Blocks.fst (Q := 1) (N := 1) 1

/-- What the waits before the call have been for. -/
def seen (c : Dev nD) : Set (SemLoc sig × HIx 1) := {p | (K (F := F)).lev (T c, p.1) p.2 ≤ before1}

def dat (c : Dev nD) : Dat τ (Elt F) (HIx 1) ℕ UU ℕ cfg1 c where
  A := fun | 0 => A | 1 => B | ⟨_ + 2, h⟩ => absurd h (Nat.not_lt.2 (Nat.le_add_left _ _))
  after := fun
    | 0 => fun t => inBlk A t.val
    | 1 => fun t => outBlk (inBlk A t.val)
    | ⟨_ + 2, h⟩ => absurd h (Nat.not_lt.2 (Nat.le_add_left _ _))
  Φ := fun _ => iprop(emp)
  q := fun _ => fullShare
  owed := fun _ => 0
  recorded := fun _ => seen (F := F) c

/-- The body finds the operand's block. -/
theorem before_in (c : Dev nD) (t : Fin cfg1.N) (d) : (dat A B c).before 0 t d = inBlk A t.val :=
  ((dat A B c).before_fetched 0 t (fetch1_0 t) d).trans (blk_read c A t)

theorem sound_body (c : Dev nD) (t : Fin cfg1.N) :
    iprop((dat A B c).Φ t.castSucc ∗ (dat A B c).owesAt none t.castSucc
        ∗ (∃ d, owns (c.tc : Thread nD τ) (st1_0 t) fullShare ((dat A B c).before 0 t d))
        ∗ (∃ d, owns (c.tc : Thread nD τ) (st1_1 t) fullShare ((dat A B c).before 1 t d)) : sProp 𝕄)
      ⊢ wp frame (wpE (defs₀ (F := F)) 𝒱₀ (c.tc : Thread nD τ) none) Set.univ (bodyAt1 t) fun _ =>
          iprop((dat A B c).Φ t.succ ∗ (dat A B c).owesAt none t.succ
            ∗ owns (c.tc : Thread nD τ) (st1_0 t) fullShare ((dat A B c).after 0 t)
            ∗ owns (c.tc : Thread nD τ) (st1_1 t) fullShare ((dat A B c).after 1 t)) := by
  simp only [before_in]
  iintro ⟨HΦ, Ho, ⟨%d0, H0⟩, ⟨%d1, H1⟩⟩
  rw [show bodyAt1 (F := F) t = body (win1_0.stage (cfg1.slots t 0)) (win1_1.stage (cfg1.slots t 1)) from body_eq _ _ _ _ _]
  iapply (wp_wand frame (wpE (defs₀ (F := F)) 𝒱₀ (SparseCore.T c) none) Set.univ) $$ [H0 H1]
  · iapply (body_wp c (win1_0.stage (cfg1.slots t 0)) (win1_1.stage (cfg1.slots t 1)) (inBlk A t.val) _)
    isplitl [H0]
    · iexact H0
    iexact H1
  iintro %_u ⟨H0, H1⟩
  isplitl [HΦ]; · unfold dat; iexact HΦ
  isplitl [Ho]; · iexact Ho
  isplitl [H0]; · iexact H0
  iexact H1

theorem defs₀_row (t : Fin cfg1.N) : defs₀ (F := F) .tc cfg1.body (cfg1.bodyArgs t (cfg1.slots t)) = bodyAt1 t := by
  unfold defs₀; rfl

theorem body_obligation (c : Dev nD) : BodyObligation (dat A B c) (defs₀ (F := F)) 𝒱₀ none Set.univ := fun t => by
  rw [bigSep_W1, bigSep_W1, defs₀_row]
  exact triple_restated (sound_body A B c t) rfl .rfl fun _ => .rfl

/-! ## The result -/

theorem cover (i : S8x5x16x768.Idx) : ∃ t : Fin cfg1.N, (cfg1.win 1).flush t = true ∧ i ∈ ((cfg1.win 1).blk t).view.set := by
  have hN : cfg1.N = 5 := N_1
  have h0 : (i 0 : ℕ) < 8 := (i 0).isLt
  have h1 : (i 1 : ℕ) < 5 := (i 1).isLt
  have h2 : (i 2 : ℕ) < 16 := (i 2).isLt
  have h3 : (i 3 : ℕ) < 768 := (i 3).isLt
  obtain ⟨t, ht⟩ : ∃ t : Fin cfg1.N, t.val = (i 1 : ℕ) := ⟨⟨(i 1 : ℕ), h1.trans_eq hN.symm⟩, rfl⟩
  refine ⟨t, flush1_1 t, ?_⟩
  show i ∈ ((View.whole main_v4).slice (win1_1.rect t)).set
  rw [View.set_slice_whole]
  refine (win1_1.mem_rect_iff t i rfl).mpr ?_
  obtain ⟨e0, e1, e2, e3⟩ := out_pos t
  obtain ⟨s0, s1, s2, s3⟩ := out_size t
  intro a
  match a with
  | ⟨0, _⟩ => rw [show (⟨0, _⟩ : Fin 4) = 0 from rfl, e0, s0]; omega
  | ⟨1, _⟩ => rw [show (⟨1, _⟩ : Fin 4) = 1 from rfl, e1, s1]; omega
  | ⟨2, _⟩ => rw [show (⟨2, _⟩ : Fin 4) = 2 from rfl, e2, s2]; omega
  | ⟨3, _⟩ => rw [show (⟨3, _⟩ : Fin 4) = 3 from rfl, e3, s3]; omega

theorem flushed_eq (c : Dev nD) (t : Fin cfg1.N) :
    (dat A B c).flushed 1 t = ((cfg1.win 1).blk t).view.read (Elt F) (tcOut A : Buf (Elt F) ((cfg1.win 1).arr.view.loc (c.tc : Thread nD τ))) := by
  funext y
  show outBlk (inBlk A t.val) y = tcOut A ((win1_1.rect t).emb y)
  obtain ⟨e0, e1, e2, e3⟩ := out_pos t
  have h1 : (y 1 : ℕ) < 1 := (y 1).isLt
  have E0 : (win1_1.rect t).emb y 0 = y 0 := Fin.ext ((win1_1.rect_emb_val t y 0).trans (by rw [e0]; omega))
  have E1 : ((win1_1.rect t).emb y 1 : ℕ) = t.val := (win1_1.rect_emb_val t y 1).trans (by rw [e1]; omega)
  have E2 : ((win1_1.rect t).emb y 2 : ℕ) = y 2 := (win1_1.rect_emb_val t y 2).trans (by rw [e2]; omega)
  have E3 : (win1_1.rect t).emb y 3 = y 3 := Fin.ext ((win1_1.rect_emb_val t y 3).trans (by rw [e3]; omega))
  unfold outBlk tcOut
  rw [E0, E1, E2, E3]

theorem final_out (c : Dev nD) : (dat A B c).arrAt 1 cfg1.N = tcOut A :=
  (dat A B c).arrAt_eq_of_cover 1 (tcOut A : Buf (Elt F) ((cfg1.win 1).arr.view.loc (c.tc : Thread nD τ))) (fun t _ => flushed_eq A B c t) cover

/-! ## The call -/

abbrev adm : (p : Fin 1) → (pcfgs (F := F) p).Adm := fun p => (cfgs p).toPCfg_adm

/-- The two arrays, the result's at `G`. -/
def arrs (c : Dev nD) (G : S8x5x16x768.Idx → F .f32) : sProp 𝕄 :=
  iprop(((T c : Thread nD τ).loc main_v0 ↦{fullShare} A) ∗ ((T c : Thread nD τ).loc main_v4 ↦{fullShare} G))

abbrev dats : (p : Fin 1) → (c : Dev nD) → Dat τ (Elt F) (HIx 1) ℕ UU ℕ (pin (pcfgs (F := F)) adm p) c := fun _ c => dat A B c

theorem arrays_eq (c : Dev nD) (n : ℕ) (G : S8x5x16x768.Idx → F .f32) (h : (dat A B c).arrAt 1 n = G) :
    (dat A B c).arrays ((dat A B c).arrAt · n) = arrs A c G := by
  refine (Pipeline.arrays_eq (pin (pcfgs (F := F)) adm) (dats A B) (p := 0) c arr_whole1 ((dat A B c).share_full fun _ => rfl) _).trans ?_
  refine (bigSep_W1 _).trans ?_
  unfold arrs
  rw [← h, show (dat A B c).arrAt 0 n = A from (dat A B c).arrAt_in 0 rfl n]

theorem owes_in (c : Dev nD) :
    (iprop(∃ W, ⌜(K (F := F)).WBelow (T c) W (before1)⌝ ∗ owes (T c) 0 W) : sProp 𝕄) ⊢ (dat A B c).owesAt none 0 := by
  iintro ⟨%W, %hW, HO⟩
  unfold Dat.owesAt Pipeline.owesWithin Dat.bound
  iexists W
  isplitr
  · ipureintro; exact fun p hp => Or.inl (hW p hp)
  iexact HO

theorem owes_out (c : Dev nD) : (dat A B c).owesAt none (Fin.last cfg1.N)
    ⊢ (iprop(∃ W, ⌜(K (F := F)).WBelow (T c) W (before1)⌝ ∗ owes (T c) 0 W) : sProp 𝕄) := by
  unfold Dat.owesAt Pipeline.owesWithin Dat.bound
  iintro ⟨%W, %hW, HO⟩
  iexists W
  isplitr
  · ipureintro
    intro p hp
    rcases hW hp with h | ⟨w, s, rfl⟩
    · exact h
    · rw [SparseCore.Cfg.lev_none]; exact Nat.zero_le _
  iexact HO

/-- The call: from the operand and any result to the lists. -/
def region : RegionSeg (pcfgs (F := F)) adm (dats A B) none (defs₀ (F := F)) 𝒱₀ (K (F := F)).L (K (F := F)).lev 0 where
  win := launch1.win.to₀
  block_pos := block_pos1
  stage_whole := stage_whole1
  K := PEmpty
  osem k := k.elim
  ho := OwnSemFacts.none _
  hbody c := (body_obligation A B c).loose
  hwaits c := by
    iintro -
    iapply (Pipeline.cellsWaits_of_owed_zero (pin (pcfgs (F := F)) adm) (dats A B) none 0 c fun _ => rfl)
    iempintro
  pre c := iprop(arrs A c B ∗ ∃ W, ⌜(K (F := F)).WBelow (T c) W (before1)⌝ ∗ owes (T c) 0 W)
  post c := iprop(arrs A c (tcOut A) ∗ ∃ W, ⌜(K (F := F)).WBelow (T c) W (before1)⌝ ∗ owes (T c) 0 W)
  X _ := iprop(emp)
  Y _ := iprop(emp)
  Z _ := iprop(emp)
  hentry c := by
    rw [Pipeline.ownSems0_none, Pipeline.prefHeld_of_none _ rfl]
    iintro ⟨⟨Ha, HO⟩, -, -⟩
    imodintro
    isplitl [Ha]
    · rw [arrays_eq A B c 0 B rfl]
      iexact Ha
    isplitr; · iempintro
    isplitl [HO]
    · iapply (owes_in A B c) $$ HO
    isplitr <;> iempintro
  hin c := by
    show _ ⊢ (iprop(emp) : sProp 𝕄)
    rw [Pipeline.prefHeld_of_none _ rfl]
    iintro ⟨-, -, Hr⟩
    iapply (Entails.of_eq (scopedRest1_eq c)) $$ Hr
  hout c := by
    show (iprop(emp) : sProp 𝕄) ⊢ _
    rw [Pipeline.ownSems0_none]
    iintro -
    isplitr; · iempintro
    isplitr; · iempintro
    iapply (Entails.of_eq (scopedRest1_eq c).symm)
    iempintro
  hexit c := by
    iintro ⟨Ha, HO, -, -⟩
    imodintro
    isplitl [Ha]
    · rw [← arrays_eq A B c cfg1.N (tcOut A) (final_out A B c)]
      iexact Ha
    iapply (owes_out A B c) $$ HO

/-- What the launch gives the call. -/
def G (c : Dev nD) : sProp 𝕄 :=
  iprop(Pipeline.cellsGhost (pin (pcfgs (F := F)) adm) EP 0 c ∗ Pipeline.toksInit (pin (pcfgs (F := F)) adm) EP 0 c)

theorem call_wp (c : Dev nD) {α : Type} (k : PUnit → Prog (TpuEff nD τ sig (Elt F) (ΛP (F := F)) .tc) α) (Q : α → sProp 𝕄) :
    iprop((iprop(boundary (T c) ∗ (region A B).post c) -∗ wp frame (wpE (D (F := F)) 𝒱 (T c) none) Set.univ (k ⟨⟩) Q)
        ∗ boundary (T c) ∗ (region A B).pre c ∗ levAts (K (F := F)).L (K (F := F)).lev ∗ G c)
      ⊢ wp frame (wpE (D (F := F)) 𝒱 (T c) none) Set.univ (.op (.customCall (Pipeline.entry 0) ()) k) Q :=
  RegionSeg.wp (pcfgs (F := F)) adm (dats A B) none cellOf_inj EP (defs₀ (F := F)) 𝒱₀ (K (F := F)).L (K (F := F)).lev (region A B) c none
    (fun _ h => nomatch h) k Q

/-- The call as the whole program makes it. -/
theorem lift_wp (c : Dev nD) (Q : sProp 𝕄) :
    wp frame (wpE (D (F := F)) 𝒱 (T c) none) Set.univ (.op (.customCall (Pipeline.entry 0) ()) .ret) (fun _ => Q)
      ⊢ wp frame (wpE ((K (F := F)).defs (D (F := F))) 𝒱 (T c) none) Set.univ
          (Prog.lift (.customCall (SparseCore.inner (Pipeline.entry 0)) ())) fun _ => Q := by
  have h := (K (F := F)).wp_liftProg (D (F := F)) 𝒱 (T c : Thread nD τ) Set.univ none
    (Prog.op (TpuEff.customCall (Pipeline.entry 0) ()) Prog.ret) (fun _ : PUnit => Q)
  exact h

end Cert.KernelIdeal.K1
-- ==== Proof.K0Launch.lean ====
module

public import proofs.«01_k».proof.Proof.K0Out
public import proofs.«01_k».proof.Proof.K1Region
public import Idealize.ShloMosaic.Lib.SparseCore.Ops

/-! The call from its launch: the array lent to every tile at a share of its own, each tile given its column of the
    result; then the TensorCore's reshapes before and after. -/

@[expose] public section

set_option maxRecDepth 65536

noncomputable section

namespace Cert.KernelIdeal.K0

open Cert.KernelIdeal Cert.KernelIdeal.Gen Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

/-! ## Shares -/

/-- The `i`-th of the `2 ^ n` parts of a share. -/
def part : ℕ → PosShare TreeShare → ℕ → PosShare TreeShare
  | 0, q, _ => q
  | n + 1, q, i => if i < 2 ^ n then part n q.left i else part n q.right (i - 2 ^ n)

/-- Elements held at a share are held at all its parts. -/
theorem pts_parts {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{part n q i.val} f := by
  induction n with
  | zero =>
    intro q
    exact (bigSep_univ_of_subsingleton (0 : Fin 1) (Φ := fun i : Fin (2 ^ 0) => (ℓ ↦[I]{part 0 q i.val} f : sProp 𝕄))).symm
  | succ n ih =>
    intro q
    have e : 2 ^ n + 2 ^ n = 2 ^ (n + 1) := by rw [pow_succ]; omega
    have hs := (pointsTo_share (PosShare.mem_left_op_right q) : (ℓ ↦[I]{q} f : sProp 𝕄) ⊣⊢ iprop((ℓ ↦[I]{q.left} f) ∗ ℓ ↦[I]{q.right} f))
    refine (BI.Entails.antisymm hs.1 hs.2).trans ?_
    rw [ih q.left, ih q.right, bigSep_univ_equiv (finSumFinEquiv.trans (finCongr e)) (fun i : Fin (2 ^ (n + 1)) => (ℓ ↦[I]{part (n + 1) q i.val} f : sProp 𝕄)),
      bigSep_univ_sum]
    congr 1
    · refine bigSep_congr fun i _ => ?_
      have h : ((finSumFinEquiv.trans (finCongr e)) (Sum.inl i)).val = i.val := by simp
      rw [h, part, if_pos i.isLt]
    · refine bigSep_congr fun i _ => ?_
      have h : ((finSumFinEquiv.trans (finCongr e)) (Sum.inr i)).val = 2 ^ n + i.val := by simp [Nat.add_comm]
      rw [h, part, if_neg (by omega), Nat.add_sub_cancel_left]

/-! ## The columns of the result -/

/-- The columns of core `c`'s tiles. -/
def coreS (c : ℕ) : Finset S12x32x16x128.Idx := Finset.univ.filter fun y => (y 1).val % 2 = c

theorem mem_colS (w : ℕ) (y : S12x32x16x128.Idx) : y ∈ colS w ↔ (y 1).val = w := by
  unfold colS
  rw [Finset.mem_filter]
  exact ⟨fun h => h.2, fun h => ⟨Finset.mem_univ _, h⟩⟩

theorem mem_coreS (c : ℕ) (y : S12x32x16x128.Idx) : y ∈ coreS c ↔ (y 1).val % 2 = c := by
  unfold coreS
  rw [Finset.mem_filter]
  exact ⟨fun h => h.2, fun h => ⟨Finset.mem_univ _, h⟩⟩

theorem tiles_cover (c : Fin 2) : (Finset.univ : Finset (Fin 16)).biUnion (fun i => colS (2 * i.val + c.val)) = coreS c.val := by
  ext y
  have hc := c.isLt
  have hy : (y 1).val < 32 := (y 1).isLt
  rw [Finset.mem_biUnion, mem_coreS]
  constructor
  · rintro ⟨i, -, h⟩
    rw [mem_colS] at h
    omega
  · intro h
    refine ⟨⟨(y 1).val / 2, by omega⟩, Finset.mem_univ _, ?_⟩
    rw [mem_colS]
    show (y 1).val = 2 * ((y 1).val / 2) + c.val
    omega

theorem tiles_disjoint (c : Fin 2) : ∀ i ∈ (Finset.univ : Finset (Fin 16)), ∀ j ∈ (Finset.univ : Finset (Fin 16)), i ≠ j →
    Disjoint (colS (2 * i.val + c.val)) (colS (2 * j.val + c.val)) := by
  intro i _ j _ hij
  rw [Finset.disjoint_left]
  intro y hi hj
  rw [mem_colS] at hi hj
  exact hij (Fin.ext (by omega))

theorem cores_cover : (Finset.univ : Finset (Fin 2)).biUnion (fun c => coreS c.val) = Finset.univ := by
  ext y
  rw [Finset.mem_biUnion]
  refine ⟨fun _ => Finset.mem_univ _, fun _ => ⟨⟨(y 1).val % 2, Nat.mod_lt _ (by decide)⟩, Finset.mem_univ _, ?_⟩⟩
  rw [mem_coreS]

theorem cores_disjoint : ∀ i ∈ (Finset.univ : Finset (Fin 2)), ∀ j ∈ (Finset.univ : Finset (Fin 2)), i ≠ j →
    Disjoint (coreS i.val) (coreS j.val) := by
  intro i _ j _ hij
  rw [Finset.disjoint_left]
  intro y hi hj
  rw [mem_coreS] at hi hj
  exact hij (Fin.ext (hi.symm.trans hj))

/-! ## What goes to the tiles and comes back -/

variable (m : (ℓ : Loc nD τ sig) → Buf (Elt F) ℓ) (ρ : Dev nD → PrngReg)

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev tLoc (d : Dev nD) : Loc nD τ sig := (SparseCore.T d).loc main_v2
abbrev rLoc (d : Dev nD) : Loc nD τ sig := (SparseCore.T d).loc main_v3
abbrev wLoc (d : Dev nD) : Loc nD τ sig := (SparseCore.T d).loc main_v4

/-- The argument, its frames' tokens in one axis. -/
def inp (d : Dev nD) : S8x4608x768.Idx → F .f32 :=
  shapeCast S8x4608x768 (show S8x8x576x768.Idx → F .f32 from m (aLoc d)) shapeCasts_S8x8x576x768_S8x4608x768

abbrev xP (d : Dev nD) (c : ℕ) : sProp 𝕄 := xLoc d ↦{part 1 fullShare c} inp m d
abbrev xQ (d : Dev nD) (c i : ℕ) : sProp 𝕄 := xLoc d ↦{part 4 (part 1 fullShare c) i} inp m d
abbrev oP (d : Dev nD) (c : ℕ) (g : Buf (Elt F) (oLoc d)) : sProp 𝕄 := oLoc d ↦[coreS c]{fullShare} g
abbrev oQ (d : Dev nD) (c i : ℕ) (g : Buf (Elt F) (oLoc d)) : sProp 𝕄 := oLoc d ↦[colS (2 * i + c)]{fullShare} g

variable [FloatOps F]

/-- The call's result. -/
def res (d : Dev nD) : Buf (Elt F) (oLoc d) := scOut (inp m d)

/-- Each core takes its share of the array and its columns of the result; each tile its own of these. -/
def P : (K (F := F)).Pay (nD := nD) (Val := Elt F) (Name := ℕ) (U := UU) where
  st := fun q d c => match q with | 0 => iprop(xP m d c.val ∗ oP d c.val (m (oLoc d)))
  dn := fun q d c => match q with | 0 => iprop(xP m d c.val ∗ oP d c.val (res m d))
  go := fun q d c i => match q with | 0 => iprop(xQ m d c.val i.val ∗ oQ d c.val i.val (m (oLoc d)))
  td := fun q d c i => match q with | 0 => iprop(xQ m d c.val i.val ∗ oQ d c.val i.val (res m d))
  x := fun _ _ => iprop(emp)

instance P_storable : (P (F := F) m).IsStorable where
  st q d c := match q with
    | 0 => (inferInstance : BI.Storable (upEmb : UEmb _ 𝕄) iprop(xP m d c.val ∗ oP d c.val (m (oLoc d))))
  dn q d c := match q with
    | 0 => (inferInstance : BI.Storable (upEmb : UEmb _ 𝕄) iprop(xP m d c.val ∗ oP d c.val (res m d)))
  go q d c i := match q with
    | 0 => (inferInstance : BI.Storable (upEmb : UEmb _ 𝕄) iprop(xQ m d c.val i.val ∗ oQ d c.val i.val (m (oLoc d))))
  td q d c i := match q with
    | 0 => (inferInstance : BI.Storable (upEmb : UEmb _ 𝕄) iprop(xQ m d c.val i.val ∗ oQ d c.val i.val (res m d)))

/-! ## A tile -/

section Tile

variable (d : Dev nD) (L : grid0.Coords)

abbrev cell0 (d : Dev nD) (c : Fin τ.nSC) (i : Fin τ.nSub) : GSem nD τ sig := (V d c i, .dma cc0_scratch3.sem)
abbrev cell1 (d : Dev nD) (c : Fin τ.nSC) (i : Fin τ.nSub) : GSem nD τ sig := (V d c i, .dma cc0_scratch4.sem)
abbrev cell2 (d : Dev nD) (c : Fin τ.nSC) (i : Fin τ.nSub) : GSem nD τ sig := (V d c i, .dma cc0_scoped0.sem)

omit [FloatOps F] in
theorem sems_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L))) fun g => semVal g 0) := by
  unfold SparseCore.Cfg.ownSems0
  rw [SparseCore.bigSep_erase' ((mem_ownCells (g := cell0 d (cV L) (jV L))).mpr ⟨rfl, by
      show (SemLoc.dma cc0_scratch3.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scratch4.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped0.sem : SemLoc sig).isScoped .scVector = true; decide⟩⟩⟩)]

omit [FloatOps F] in
theorem bufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

set_option maxHeartbeats 2000000 in
theorem tile_wp (hF : (K (F := F)).Facts) (O : CellTallies nD τ sig (HIx 1)) (W : Waits sig (HIx 1)) (hO : ∀ g, O g none = 0) :
    iprop(levAts (K (F := F)).L (K (F := F)).lev ∗ emp
        ∗ (xQ m d (L 0).val (L 1).val ∗ oQ d (L 0).val (L 1).val (m (oLoc d)))
        ∗ scopedBufs (V d (cV L) (jV L)) ∗ scopedSems0 (V d (cV L) (jV L)) ∗ owes (V d (cV L) (jV L)) O W)
      ⊢ tw d L (theBody L)
          fun _ => iprop((xQ m d (L 0).val (L 1).val ∗ oQ d (L 0).val (L 1).val (res m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), sems_V, bufs_V]
  iintro ⟨#Hlv, -, ⟨Hx, Ho⟩, ⟨H0, H1, H2, Hbufs⟩, ⟨Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  unfold tw
  iapply (wp_wand frame (wpE (defs₀ (F := F)) 𝒱₀ (V d (cV L) (jV L)) none) Set.univ) $$ [Hmw Hx Ho H0 H1 H2 Hs0 Hs1 Hs2 HO]
  · iapply (body_wp d L (part 4 (part 1 fullShare (L 0).val) (L 1).val) (inp m d) (m (oLoc d)) O W)
    isplitl [Hmw]; · iexact Hmw
    isplitl [Hx]; · iexact Hx
    isplitl [Ho]; · iexact Ho
    isplitl [H0]; · iexact H0
    isplitl [H1]; · iexact H1
    isplitl [H2]; · iexact H2
    isplitl [Hs0]; · iexact Hs0
    isplitl [Hs1]; · iexact Hs1
    isplitl [Hs2]; · iexact Hs2
    iexact HO
  iintro %_u ⟨⟨Hx, Ho⟩, ⟨H0, H1, H2⟩, ⟨Hs0, Hs1, Hs2⟩, HO⟩
  isplitl [Hx Ho]
  · isplitl [Hx]; · iexact Hx
    iexact Ho
  isplitl [H0 H1 H2 Hbufs]
  · isplitl [H0]; · iexact H0
    isplitl [H1]; · iexact H1
    isplitl [H2]; · iexact H2
    iexact Hbufs
  isplitl [Hs0 Hs1 Hs2 Hsems]
  · isplitl [Hs0]; · iexact Hs0
    isplitl [Hs1]; · iexact Hs1
    isplitl [Hs2]; · iexact Hs2
    iexact Hsems
  iexact HO

/-! ## The obligation of every tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => theBody (coordsV c s)) ⟨⟩ c s := rfl

omit [FloatOps F] in
theorem post_V {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_wp m d (coordsV ⟨_, hci.1⟩ ⟨_, hci.2⟩) hF O W hO).trans (wp_mono frame _ _ fun _ => post_V)

end Tile

/-! ## Splitting among the cores and the tiles -/

omit [FloatOps F] in
theorem xP_tiles (d : Dev nD) (c : ℕ) : xP m d c = bigSep Finset.univ fun i : Fin 16 => xQ m d c i.val :=
  pts_parts (ℓ := xLoc d) Finset.univ (inp m d) 4 (part 1 fullShare c)

omit [FloatOps F] in
theorem oP_tiles (d : Dev nD) (c : Fin 2) (g : Buf (Elt F) (oLoc d)) : (oP d c.val g : sProp 𝕄) = bigSep Finset.univ fun i : Fin 16 => oQ d c.val i.val g := by
  unfold oP oQ
  rw [← pointsTo_biUnion Finset.univ (ℓ := oLoc d) (fun i : Fin 16 => colS (2 * i.val + c.val)) (tiles_disjoint c), tiles_cover c]

omit [FloatOps F] in
theorem x_cores (d : Dev nD) : (xLoc d ↦{fullShare} inp m d : sProp 𝕄) = bigSep Finset.univ fun c : Fin 2 => xP m d c.val :=
  pts_parts (ℓ := xLoc d) Finset.univ (inp m d) 1 fullShare

omit [FloatOps F] in
theorem o_cores (d : Dev nD) (g : Buf (Elt F) (oLoc d)) : (oLoc d ↦{fullShare} g : sProp 𝕄) = bigSep Finset.univ fun c : Fin 2 => oP d c.val g := by
  unfold oP
  rw [← pointsTo_biUnion Finset.univ (ℓ := oLoc d) (fun c : Fin 2 => coreS c.val) cores_disjoint, cores_cover]; try rfl

theorem vecSplit : (K (F := F)).VecSplit' (P m) 0 := by
  intro d c
  have h (g : Buf (Elt F) (oLoc d)) : (iprop(xP m d c.val ∗ oP d c.val g) : sProp 𝕄)
      = bigSep (Finset.univ : Finset (Fin 16)) fun i => iprop(xQ m d c.val i.val ∗ oQ d c.val i.val g) := by
    rw [bigSep_sep', ← xP_tiles, ← oP_tiles d ⟨c.val, c.isLt⟩]
  show iprop(xP m d c.val ∗ oP d c.val (m (oLoc d))) ⊢ |={Set.univ}=> iprop(
      (bigSep (Finset.univ : Finset (Fin 16)) fun i => iprop(xQ m d c.val i.val ∗ oQ d c.val i.val (m (oLoc d))))
      ∗ ((bigSep (Finset.univ : Finset (Fin 16)) fun i => iprop(xQ m d c.val i.val ∗ oQ d c.val i.val (res m d)))
          -∗ iprop(xP m d c.val ∗ oP d c.val (res m d))))
  rw [← h, ← h]
  iintro H; imodintro
  isplitl [H]; · iexact H
  iintro H; iexact H

theorem st_cores (d : Dev nD) : (bigSep Finset.univ fun c : Fin ((K (F := F)).nCore 0) => (P m).st 0 d c)
    = iprop((xLoc d ↦{fullShare} inp m d) ∗ oLoc d ↦{fullShare} m (oLoc d)) := by
  rw [x_cores, o_cores, ← bigSep_sep']; rfl

theorem dn_cores (d : Dev nD) : (bigSep Finset.univ fun c : Fin ((K (F := F)).nCore 0) => (P m).dn 0 d c)
    = iprop((xLoc d ↦{fullShare} inp m d) ∗ oLoc d ↦{fullShare} res m d) := by
  rw [x_cores, o_cores, ← bigSep_sep']; rfl

/-! ## The ghost state at the launch -/

/-- The pipeline's part. -/
def uP : UP := initOf (Pipeline.cells (Pipeline.pin (pcfgs (F := F)) K1.adm) cellOf_inj) (Pipeline.launchToks (Pipeline.pin (pcfgs (F := F)) K1.adm) cellOf_inj)

def u₀ : UU := (initOf (K (F := F)).hsCells (K (F := F)).hsToks, (uP (F := F), 1))

omit [FloatOps F] in
theorem bigSep_empty' {I : Type} (s : Finset I) : (bigSep s fun _ => iprop(emp)) = (iprop(emp) : sProp 𝕄) := bigSep_emp_const s

theorem hG : (BI.own ((EP : Emb UP 𝕄) (uP (F := F))) : sProp 𝕄) ⊢ |==> bigSep Finset.univ fun d : Dev nD => K1.G (F := F) d := by
  unfold uP
  iintro H
  imod (Pipeline.fund_ghost (Pipeline.pin (pcfgs (F := F)) K1.adm) (EP : Emb UP 𝕄) cellOf_inj) $$ H with ⟨Hc, Ht⟩
  imodintro
  unfold K1.G
  rw [bigSep_sep']
  isplitl [Hc]
  · rw [show (bigSep Finset.univ fun d : Dev nD => (Pipeline.cellsGhost (Pipeline.pin (pcfgs (F := F)) K1.adm) EP 0 d : sProp 𝕄))
      = bigSep Finset.univ fun d : Dev nD => bigSep Finset.univ fun p => Pipeline.cellsGhost (Pipeline.pin (pcfgs (F := F)) K1.adm) EP p d from
        bigSep_congr fun d _ => (bigSep_univ_of_subsingleton (0 : Fin 1) (Φ := fun p => (Pipeline.cellsGhost (Pipeline.pin (pcfgs (F := F)) K1.adm) EP p d : sProp 𝕄))).symm]
    iexact Hc
  · rw [show (bigSep Finset.univ fun d : Dev nD => (Pipeline.toksInit (Pipeline.pin (pcfgs (F := F)) K1.adm) EP 0 d : sProp 𝕄))
      = bigSep Finset.univ fun d : Dev nD => bigSep Finset.univ fun p => Pipeline.toksInit (Pipeline.pin (pcfgs (F := F)) K1.adm) EP p d from
        bigSep_congr fun d _ => (bigSep_univ_of_subsingleton (0 : Fin 1) (Φ := fun p => (Pipeline.toksInit (Pipeline.pin (pcfgs (F := F)) K1.adm) EP p d : sProp 𝕄))).symm]
    iexact Ht

theorem hu₀ : (ownU (u₀ (F := F)) : sProp 𝕄)
    ⊢ |={Set.univ}=> iprop(BI.own (EH (initOf (K (F := F)).hsCells (K (F := F)).hsToks)) ∗ (bigSep Finset.univ fun d : Dev nD => K1.G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (uP (F := F), (1 : Counters))) $$ Hu
  icases H with ⟨HH, HR⟩
  ihave H := (own_pair_emb (embR : Emb (UP × Counters) 𝕄) (uP (F := F)) (1 : Counters)) $$ HR
  icases H with ⟨HP, -⟩
  imod (hG (F := F)) $$ [HP] with HG
  · unfold EP; iexact HP
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_empty']
  iempintro

/-! ## The program on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev t' : DevRef τ sig := Proc.devRef .tc (main_v2 : Ref sig .tc)
abbrev r' : DevRef τ sig := Proc.devRef .tc (main_v3 : Ref sig .tc)
abbrev w' : DevRef τ sig := Proc.devRef .tc (main_v4 : Ref sig .tc)

abbrev op1 : HloOp τ sig (Elt F) := StableHlo.reshape main_arg0 main_v0 (rfl : (.f32 : EltTy) = .f32) shapeCasts_S8x8x576x768_S8x4608x768
abbrev op2 : HloOp τ sig (Elt F) := StableHlo.reshape main_v1 main_v2 (rfl : (.f32 : EltTy) = .f32) shapeCasts_S12x32x16x128_S384x16x128
abbrev op3 : HloOp τ sig (Elt F) := StableHlo.reshape main_v2 main_v3 (rfl : (.f32 : EltTy) = .f32) shapeCasts_S384x16x128_S8x6x8x16x128

abbrev S6 : Finset (DevRef τ sig) := {a', x', o', t', r', w'}

omit [FloatOps F] in
theorem held_S6 (d : Dev nD) (W : Valuation τ sig (Elt F)) :
    (held (T d) S6 W : sProp 𝕄) = iprop((aLoc d ↦{fullShare} W a') ∗ (xLoc d ↦{fullShare} W x') ∗ (oLoc d ↦{fullShare} W o')
      ∗ (tLoc d ↦{fullShare} W t') ∗ (rLoc d ↦{fullShare} W r') ∗ wLoc d ↦{fullShare} W w') := by
  unfold held S6
  rw [SparseCore.bigSep_insert' (by decide), SparseCore.bigSep_insert' (by decide), SparseCore.bigSep_insert' (by decide), SparseCore.bigSep_insert' (by decide), SparseCore.bigSep_insert' (by decide), bigSep_singleton]

omit [FloatOps F] in
theorem unscoped_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1)
      ∗ (tLoc d ↦{fullShare} W main_v2) ∗ (rLoc d ↦{fullShare} W main_v3) ∗ wLoc d ↦{fullShare} W main_v4) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide), SparseCore.bigSep_insert' (by decide), SparseCore.bigSep_insert' (by decide), bigSep_singleton]

/-- The arrays at the launch, before the SparseCore's call, after it, and before the TensorCore's. -/
def V0 (d : Dev nD) : Valuation τ sig (Elt F) := fun b => m (d, b)
def V1 (d : Dev nD) : Valuation τ sig (Elt F) := (op1 (F := F)).result (V0 m d)
def V2 (d : Dev nD) : Valuation τ sig (Elt F) := Function.update (V1 m d) o' (res m d)
def V3 (d : Dev nD) : Valuation τ sig (Elt F) := (op3 (F := F)).result ((op2 (F := F)).result (V2 m d))

/-- The SparseCore's lists, as the program returns them. -/
def out (d : Dev nD) : Buf (Elt F) (rLoc d) :=
  shapeCast S8x6x8x16x128 (shapeCast S384x16x128 (show S12x32x16x128.Idx → F .f32 from res m d) shapeCasts_S12x32x16x128_S384x16x128) shapeCasts_S384x16x128_S8x6x8x16x128

/-- The TensorCore's lists. -/
def out2 (d : Dev nD) : Buf (Elt F) (wLoc d) := K1.tcOut (inp m d)

theorem unscoped_held (d : Dev nD) : (unscopedBufs d (fun b => m ((SparseCore.T d).loc b)) : sProp 𝕄) = held (T d) S6 (V0 m d) := by
  rw [unscoped_eq, held_S6]; rfl

theorem V1_a (d : Dev nD) : V1 m d a' = m (aLoc d) := StableHlo.reshape_result_ne _ _ _ _ _ _ _ (by decide)
theorem V1_o (d : Dev nD) : V1 m d o' = m (oLoc d) := StableHlo.reshape_result_ne _ _ _ _ _ _ _ (by decide)
theorem V1_x (d : Dev nD) : V1 m d x' = inp m d := StableHlo.reshape_result _ _ _ _ _ _ _
theorem V2_a (d : Dev nD) : V2 m d a' = m (aLoc d) := (Function.update_of_ne (show a' ≠ o' by decide) _ _).trans (V1_a m d)
theorem V2_x (d : Dev nD) : V2 m d x' = inp m d := (Function.update_of_ne (show x' ≠ o' by decide) _ _).trans (V1_x m d)
theorem V2_t (d : Dev nD) : V2 m d t' = V1 m d t' := Function.update_of_ne (show t' ≠ o' by decide) _ _
theorem V2_r (d : Dev nD) : V2 m d r' = V1 m d r' := Function.update_of_ne (show r' ≠ o' by decide) _ _
theorem V2_w (d : Dev nD) : V2 m d w' = V1 m d w' := Function.update_of_ne (show w' ≠ o' by decide) _ _
theorem V2_o (d : Dev nD) : V2 m d o' = res m d := Function.update_self _ _ _
theorem V3_a (d : Dev nD) : V3 m d a' = m (aLoc d) :=
  (StableHlo.reshape_result_ne _ _ _ _ _ _ _ (by decide)).trans ((StableHlo.reshape_result_ne _ _ _ _ _ _ _ (by decide)).trans (V2_a m d))
theorem V3_x (d : Dev nD) : V3 m d x' = inp m d :=
  (StableHlo.reshape_result_ne _ _ _ _ _ _ _ (by decide)).trans ((StableHlo.reshape_result_ne _ _ _ _ _ _ _ (by decide)).trans (V2_x m d))
theorem V3_w (d : Dev nD) : V3 m d w' = m (wLoc d) :=
  (StableHlo.reshape_result_ne _ _ _ _ _ _ _ (by decide)).trans ((StableHlo.reshape_result_ne _ _ _ _ _ _ _ (by decide)).trans
    ((V2_w m d).trans (StableHlo.reshape_result_ne _ _ _ _ _ _ _ (by decide))))
theorem V3_r (d : Dev nD) : V3 m d r' = out m d := by
  refine (StableHlo.reshape_result _ _ _ _ _ _ _).trans ?_
  have h : (op2 (F := F)).result (V2 m d) t' = shapeCast S384x16x128 (show S12x32x16x128.Idx → F .f32 from res m d) shapeCasts_S12x32x16x128_S384x16x128 := by
    refine (StableHlo.reshape_result _ _ _ _ _ _ _).trans ?_
    rw [V2_o]
    rfl
  rw [h]
  rfl

theorem h1 : (op1 (F := F)).bufs ⊆ S6 := show ({a', x'} : Finset (DevRef τ sig)) ⊆ S6 by decide
theorem h2 : (op2 (F := F)).bufs ⊆ S6 := show ({o', t'} : Finset (DevRef τ sig)) ⊆ S6 by decide
theorem h3 : (op3 (F := F)).bufs ⊆ S6 := show ({t', r'} : Finset (DevRef τ sig)) ⊆ S6 by decide

/-- What the program leaves: the argument unchanged, the two results. -/
abbrev FIN (d : Dev nD) : sProp 𝕄 := iprop((aLoc d ↦{fullShare} m (aLoc d)) ∗ (rLoc d ↦{fullShare} out m d) ∗ wLoc d ↦{fullShare} out2 m d)

/-- What the TensorCore owes after the SparseCore's call, and the rest it knows of the call's cells. -/
def owes1 (d : Dev nD) : sProp 𝕄 := iprop(∃ W, ⌜(K (F := F)).WBelow (T d) W K1.before1⌝ ∗ owes (T d) 0 W)
def rest1 (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem st_open (d : Dev nD) : ((K (F := F)).tcSt EH d 1 : sProp 𝕄) = iprop(owes1 (F := F) d ∗ rest1 (F := F) d) := by
  unfold SparseCore.Cfg.tcSt owes1 rest1
  rw [SparseCore.Cfg.Otc_end _ d le_rfl]

/-- The TensorCore's call in the whole program. -/
theorem call (d : Dev nD) (Q : sProp 𝕄) :
    iprop((iprop(boundary (T d) ∗ (xLoc d ↦{fullShare} inp m d) ∗ (wLoc d ↦{fullShare} out2 m d) ∗ owes1 (F := F) d) -∗ |={Set.univ}=> Q)
        ∗ boundary (T d) ∗ (xLoc d ↦{fullShare} inp m d) ∗ (wLoc d ↦{fullShare} m (wLoc d)) ∗ owes1 (F := F) d ∗ levAts (K (F := F)).L (K (F := F)).lev ∗ K1.G d)
      ⊢ wp frame (wpE ((K (F := F)).defs (D (F := F))) 𝒱 (SparseCore.T d) none) Set.univ (Prog.lift (.customCall (SparseCore.inner (Pipeline.entry 0)) ())) fun _ => Q := by
  have h := K1.call_wp (inp m d) (m (wLoc d)) d .ret (fun _ => Q)
  rw [wp_ret] at h
  refine BIBase.Entails.trans ?_ (h.trans (K1.lift_wp d Q))
  iintro ⟨HK, Hb, Hx, Hw, HO, Hlev, HG⟩
  isplitl [HK]
  · iintro ⟨Hb, H⟩
    ihave H := (Entails.of_eq (show (K1.region (inp m d) (m (wLoc d))).post d
      = iprop(K1.arrs (inp m d) d (K1.tcOut (inp m d)) ∗ owes1 (F := F) d) from rfl)) $$ H
    unfold K1.arrs
    icases H with ⟨⟨Hx, Hw⟩, HO⟩
    iapply HK
    isplitl [Hb]; · iexact Hb
    isplitl [Hx]; · iexact Hx
    isplitl [Hw]; · iexact Hw
    iexact HO
  isplitl [Hb]; · iexact Hb
  isplitl [Hx Hw HO]
  · iapply (Entails.of_eq (show iprop(K1.arrs (inp m d) d (m (wLoc d)) ∗ owes1 (F := F) d) = (K1.region (inp m d) (m (wLoc d))).pre d from rfl))
    unfold K1.arrs
    isplitl [Hx Hw]
    · isplitl [Hx]; · iexact Hx
      iexact Hw
    iexact HO
  isplitl [Hlev]; · iexact Hlev
  iexact HG

theorem hmain (κ : GSem nD τ sig → ℕ) (d : Dev nD) :
    iprop((K (F := F)).ctx EH (P m) κ ∗ (K (F := F)).tcSt EH d 0 ∗ (K (F := F)).tcRes m ρ d ∗ K1.G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := op1) (S := S6) h1 (V := V0 m d)) $$ [Hb Hheld]
  · isplitl [Hb]; · iexact Hb
    iexact Hheld
  iintro ⟨Hb, Hheld⟩
  rw [wp_ret]; imodintro
  ihave Hh := (Entails.of_eq ((show held (T d) S6 ((op1 (F := F)).result (V0 m d)) = held (T d) S6 (V1 m d) from rfl).trans (held_S6 (F := F) d (V1 m d)))) $$ Hheld
  rw [V1_a, V1_o, V1_x]
  icases Hh with ⟨Ha, Hx, Ho, Ht, Hr, Hw⟩
  iapply ((K (F := F)).wp_run (D (F := F)) 𝒱 (EH := EH) (P := P m) κ d 0) $$ [Hst Hx Ho Ha Ht Hr Hw Hb Hts HG]
  isplitr; · iexact Hctx
  isplitl [Hst]; · iexact Hst
  isplitl [Hx Ho]
  · rw [st_cores]
    isplitl [Hx]; · iexact Hx
    iexact Ho
  iintro ⟨Hst, Hdn⟩
  ihave Hdn' := (Entails.of_eq (dn_cores m d)) $$ Hdn
  icases Hdn' with ⟨Hx, Ho⟩
  iapply (wp_hlo_within 𝒱 (SparseCore.T d) none Set.univ (op := op2) (S := S6) h2 (V := V2 m d)) $$ [Hb Hx Ho Ha Ht Hr Hw]
  · isplitl [Hb]; · iexact Hb
    rw [held_S6, V2_a, V2_x, V2_o, V2_t, V2_r, V2_w]
    isplitl [Ha]; · iexact Ha
    isplitl [Hx]; · iexact Hx
    isplitl [Ho]; · iexact Ho
    isplitl [Ht]; · iexact Ht
    isplitl [Hr]; · iexact Hr
    iexact Hw
  iintro ⟨Hb, Hheld⟩
  rw [wp_ret]; imodintro
  iapply (wp_hlo_within 𝒱 (SparseCore.T d) none Set.univ (op := op3) (S := S6) h3 (V := (op2 (F := F)).result (V2 m d))) $$ [Hb Hheld]
  · isplitl [Hb]; · iexact Hb
    iexact Hheld
  iintro ⟨Hb, Hheld⟩
  ihave Hh := (Entails.of_eq ((show held (T d) S6 ((op3 (F := F)).result ((op2 (F := F)).result (V2 m d))) = held (T d) S6 (V3 m d) from rfl).trans (held_S6 (F := F) d (V3 m d)))) $$ Hheld
  rw [V3_a, V3_r, V3_x, V3_w]
  icases Hh with ⟨Ha, Hx, -, -, Hr, Hw⟩
  rw [wp_ret]; imodintro
  ihave Hst := (Entails.of_eq ((show ((K (F := F)).tcSt EH d ((0 : Fin 1).val + 1) : sProp 𝕄) = (K (F := F)).tcSt EH d 1 from rfl).trans (st_open (F := F) d))) $$ Hst
  icases Hst with ⟨HO, Hst⟩
  ihave #Hlev := (SparseCore.Cfg.ctx_levAts κ) $$ Hctx
  iapply (call m d) $$ [Hb Hx Hw HO HG Ha Hr Hst Hts]
  isplitr [Hb Hx Hw HO HG]
  · iintro ⟨Hb, Hx, Hw, HO⟩
    imodintro; imodintro
    isplitl [Hst HO]
    · iapply (Entails.of_eq (st_open (F := F) d).symm)
      isplitl [HO]; · iexact HO
      iexact Hst
    isplitl [Ha Hr Hw]
    · isplitl [Ha]; · iexact Ha
      isplitl [Hr]; · iexact Hr
      iexact Hw
    isplitl [Hb] <;> iassumption
  isplitl [Hb]; · iexact Hb
  isplitl [Hx]; · iexact Hx
  isplitl [Hw]; · iexact Hw
  isplitl [HO]; · iexact HO
  isplitr; · iexact Hlev
  iexact HG

def fq (d : Dev nD) (s' : Phys nD τ sig (Elt F)) : Prop := s'.mem.mem (aLoc d) = m (aLoc d) ∧ s'.mem.mem (rLoc d) = out m d ∧ s'.mem.mem (wLoc d) = out2 m d

theorem hfin (d : Dev nD) (s' : Phys nD τ sig (Elt F)) : iprop(FIN m d ∗ SI s') ⊢ (⌜fq m d s'⌝ : sProp 𝕄) := by
  iintro ⟨⟨Ha, Hr, Hw⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := rLoc d) (I := Finset.univ) (q := fullShare) (f := out m d))) $$ [HSI Hr]
  · isplitl [HSI] <;> iassumption
  icases H with ⟨%h2, HSI, -⟩
  ihave H := (SI_pointsTo_agree (st := s') (ℓ := wLoc d) (I := Finset.univ) (q := fullShare) (f := out2 m d)) $$ [HSI Hw]
  · isplitl [HSI] <;> iassumption
  icases H with %h3
  ipureintro; exact ⟨funext fun i => h1 i (Finset.mem_univ i), funext fun i => h2 i (Finset.mem_univ i), funext fun i => h3 i (Finset.mem_univ i)⟩

/-! ## The run -/

def QC : PUnit × MemSt nD τ sig (Elt F) → Prop := fun r => (∀ c : Dev nD, r.2.mem (aLoc c) = m (aLoc c) ∧ r.2.mem (rLoc c) = out m c ∧ r.2.mem (wLoc c) = out2 m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main K1.G (FIN m) (u₀ (F := F)) (sep_elim_left.trans (hu₀ m)) (hmain m ρ) (fq m) (hfin m) (QC m) (fun _ h hz => ⟨h, hz⟩)

end Cert.KernelIdeal.K0
-- ==== Proof.Equal.lean ====
module

public import proofs.«01_k».proof.Proof.K0Launch
public import proofs.«01_k».proof.Proof.TopK
public import proofs.«01_k».proof.Proof.Gen.ReferenceIdeal.Run

/-! The kernel's result and the reference's, entry by entry. -/

@[expose] public section

set_option maxRecDepth 65536

noncomputable section

namespace Cert.Equal

open Cert.ReferenceIdeal Cert.ReferenceIdeal.Gen Idealize.ShloMosaic.ValueIdx
open Idealize.ShloMosaic hiding ix3 ix4 ix5
open Cert.KernelIdeal.K0 (rowsOf scOut outAt outAt_eq at2)

theorem ofBits_low : Scalar.ofBits (F := Ideal) .f32 0xFF800000#32 = (⊥ : EReal) := by
  show Ideal.ofBits .f32 0xFF800000#32 = ⊥
  simp [Ideal.ofBits, Ideal.ieee]

/-- Places along the last axis. -/
theorem along_last (a b : Fin 8) (c : Fin 768) (e k : Fin 256) :
    Shape.Idx.along (s := S8x8x768x256) (ix4 a b c e) 3 k = ix4 a b c k := by
  funext i
  unfold Shape.Idx.along
  match i with
  | ⟨0, _⟩ => rfl
  | ⟨1, _⟩ => rfl
  | ⟨2, _⟩ => rfl
  | ⟨3, _⟩ => rfl

/-- The host's top-k at an entry: the fibre's entry that the sort puts there. -/
theorem topK_apply (x : S8x8x768x256.Idx → EReal) (a b : Fin 8) (c : Fin 768) (s : Fin 16) :
    (Host.topK S8x8x768x16 3 (FloatOps.cmpfTotal (F := Ideal) (φ := .f32) .gt) x sliceFits_S8x8x768x256_S8x8x768x16).1 (ix4 a b c s)
      = x (ix4 a b c (sortedFrom (fun k k' : Fin 256 => FloatOps.cmpfTotal (F := Ideal) (φ := .f32) .gt (x (ix4 a b c k)) (x (ix4 a b c k')) == 1#1)
          ⟨s.val, by omega⟩)) := by
  unfold Host.topK
  dsimp only
  refine (extractStridedSlice_apply (s := S8x8x768x256) (t := S8x8x768x16) (fun _ => 0) _ sliceFits_S8x8x768x256_S8x8x768x16 (ix4 a b c s) (ix4 a b c (⟨s.val, by omega⟩ : Fin 256)) ?_).trans ?_
  · intro i
    match i with
    | ⟨0, _⟩ => exact (Nat.zero_add _).symm
    | ⟨1, _⟩ => exact (Nat.zero_add _).symm
    | ⟨2, _⟩ => exact (Nat.zero_add _).symm
    | ⟨3, _⟩ => exact (Nat.zero_add _).symm
  · unfold Host.sort2
    rw [dif_pos (show 3 < S8x8x768x256.rank by decide)]
    show x (Shape.Idx.along (s := S8x8x768x256) (ix4 a b c (⟨s.val, by omega⟩ : Fin 256)) 3 (sortedFrom (fun k k' : Fin 256 => FloatOps.cmpfTotal (F := Ideal) (φ := .f32) .gt
      (x (Shape.Idx.along (s := S8x8x768x256) (ix4 a b c (⟨s.val, by omega⟩ : Fin 256)) 3 k))
      (x (Shape.Idx.along (s := S8x8x768x256) (ix4 a b c (⟨s.val, by omega⟩ : Fin 256)) 3 k')) == 1#1) (⟨s.val, by omega⟩ : Fin 256))) = _
    simp only [along_last]
    exact congrArg x (along_last a b c _ _)

/-- The reference's fibres, of the tokens of one frame's chunk. -/
def fib (A : S8x4608x768.Idx → EReal) : S8x8x768x256.Idx → EReal :=
  transpose S8x8x768x256 [0, 1, 3, 2] (shapeCast S8x8x256x768 (extractStridedSlice S8x2048x768 ![0, 2560, 0] A slices_S8x4608x768_S8x2048x768_0_2560_0) shapeCasts_S8x2048x768_S8x8x256x768) transposes_S8x8x256x768_S8x8x768x256_0_1_3_2

theorem fib_apply (A : S8x4608x768.Idx → EReal) (a b : Fin 8) (c : Fin 768) (k : Fin 256) :
    fib A (ix4 a b c k) = A (ix3 a (⟨2560 + (b.val * 256 + k.val), by omega⟩ : Fin 4608) c) := by
  refine (transpose_apply _ _ _ _ (ix4 a b k c) ?_).trans ?_
  · intro i
    match i with
    | ⟨0, _⟩ => rfl
    | ⟨1, _⟩ => rfl
    | ⟨2, _⟩ => rfl
    | ⟨3, _⟩ => rfl
  refine (shapeCast_apply _ _ _ (ix3 a (⟨b.val * 256 + k.val, by omega⟩ : Fin 2048) c) ?_).trans ?_
  · rw [Shape.rowMajor_val_three, Shape.rowMajor_val_four]
    show (a.val * 2048 + (b.val * 256 + k.val)) * 768 + c.val = ((a.val * 8 + b.val) * 256 + k.val) * 768 + c.val
    omega
  refine extractStridedSlice_apply _ _ _ _ _ ?_
  intro i
  match i with
  | ⟨0, _⟩ => exact (Nat.zero_add _).symm
  | ⟨1, _⟩ => rfl
  | ⟨2, _⟩ => exact (Nat.zero_add _).symm

/-- The rows of a task, and the reference's fibre at one of its columns. -/
theorem rows_eq (A : S8x4608x768.Idx → EReal) (b : Fin 8) (g : Fin 6) (u : Fin 8) (l : Fin 128) (k : Fin 256) :
    rowsOf (F := Ideal) A (b.val * 48 + g.val * 8 + u.val) (at2 k.val l.val)
      = fib A (ix4 b u (⟨g.val * 128 + l.val, by omega⟩ : Fin 768) k) := by
  rw [fib_apply]
  unfold rowsOf at2
  congr 1
  have hb := b.isLt; have hg := g.isLt; have hu := u.isLt; have hl := l.isLt; have hk := k.isLt
  funext i
  match i with
  | ⟨0, _⟩ => exact Fin.ext (show (b.val * 48 + g.val * 8 + u.val) / 48 % 8 = b.val by omega)
  | ⟨1, _⟩ => exact Fin.ext (show (2560 + (b.val * 48 + g.val * 8 + u.val) % 8 * 256 + k.val % 256) % 4608 = 2560 + (u.val * 256 + k.val) by omega)
  | ⟨2, _⟩ => exact Fin.ext (show ((b.val * 48 + g.val * 8 + u.val) % 48 / 8 * 128 + l.val % 128) % 768 = g.val * 128 + l.val by omega)

/-- The call's list at an entry is the host's top-k there. -/
theorem list_eq (A : S8x4608x768.Idx → EReal) (b : Fin 8) (g : Fin 6) (u : Fin 8) (s : Fin 16) (l : Fin 128) :
    outAt (F := Ideal) (rowsOf A (b.val * 48 + g.val * 8 + u.val)) s.val l.val
      = (Host.topK S8x8x768x16 3 (FloatOps.cmpfTotal (F := Ideal) (φ := .f32) .gt) (fib A) sliceFits_S8x8x768x256_S8x8x768x16).1
          (ix4 b u (⟨g.val * 128 + l.val, by omega⟩ : Fin 768) s) := by
  rw [outAt_eq, topK_apply, ofBits_low]
  have h1 : Top.IsTop (Finset.range 256) (fun r => rowsOf (F := Ideal) A (b.val * 48 + g.val * 8 + u.val) (at2 r l.val)) _ :=
    Top.acc_isTop (fun r => rowsOf (F := Ideal) A (b.val * 48 + g.val * 8 + u.val) (at2 r l.val)) 16
  have h2 := Top.isTop_sorted 256 (fun r => rowsOf (F := Ideal) A (b.val * 48 + g.val * 8 + u.val) (at2 r l.val))
    (fun i => if hi : i < 256 then rowsOf (F := Ideal) A (b.val * 48 + g.val * 8 + u.val) (at2 (sortedFrom (fun k k' : Fin 256 => FloatOps.cmpfTotal (F := Ideal) (φ := .f32) .gt
      (rowsOf (F := Ideal) A (b.val * 48 + g.val * 8 + u.val) (at2 k.val l.val)) (rowsOf (F := Ideal) A (b.val * 48 + g.val * 8 + u.val) (at2 k'.val l.val)) == 1#1) ⟨i, hi⟩).val l.val) else ⊥)
    (by decide) (fun i hi _ => dif_pos hi)
  refine (h1.unique h2 s.val s.isLt).trans ?_
  show (if hi : s.val < 256 then _ else _) = _
  rw [dif_pos (show s.val < 256 by omega), rows_eq]
  simp only [rows_eq]

/-- The kernel's result is the reference's. -/
theorem out_eq (X : S8x8x576x768.Idx → EReal) :
    shapeCast S8x6x8x16x128 (shapeCast Cert.KernelIdeal.S384x16x128 (scOut (F := Ideal) (shapeCast S8x4608x768 X shapeCasts_S8x8x576x768_S8x4608x768))
        Cert.KernelIdeal.Gen.shapeCasts_S12x32x16x128_S384x16x128) Cert.KernelIdeal.Gen.shapeCasts_S384x16x128_S8x6x8x16x128
      = transpose S8x6x8x16x128 [0, 2, 1, 4, 3] (shapeCast S8x8x6x128x16 ((Host.topK S8x8x768x16 3 (FloatOps.cmpfTotal (F := Ideal) (φ := .f32) .gt)
          (fib (shapeCast S8x4608x768 X shapeCasts_S8x8x576x768_S8x4608x768)) sliceFits_S8x8x768x256_S8x8x768x16).1) shapeCasts_S8x8x768x16_S8x8x6x128x16)
          transposes_S8x8x6x128x16_S8x6x8x16x128_0_2_1_4_3 := by
  generalize shapeCast S8x4608x768 X shapeCasts_S8x8x576x768_S8x4608x768 = A
  funext y
  obtain ⟨b, g, u, s, l, rfl⟩ : ∃ (b : Fin 8) (g : Fin 6) (u : Fin 8) (s : Fin 16) (l : Fin 128), y = ix5 b g u s l :=
    ⟨y 0, y 1, y 2, y 3, y 4, by
      funext i
      match i with
      | ⟨0, _⟩ => rfl
      | ⟨1, _⟩ => rfl
      | ⟨2, _⟩ => rfl
      | ⟨3, _⟩ => rfl
      | ⟨4, _⟩ => rfl⟩
  have hb := b.isLt; have hg := g.isLt; have hu := u.isLt
  refine (shapeCast_apply _ _ _ (ix3 (⟨b.val * 48 + g.val * 8 + u.val, by omega⟩ : Fin 384) s l) ?_).trans ?_
  · rw [Shape.rowMajor_val_three, Shape.rowMajor_val_five]
    show ((b.val * 48 + g.val * 8 + u.val) * 16 + s.val) * 128 + l.val = (((b.val * 6 + g.val) * 8 + u.val) * 16 + s.val) * 128 + l.val
    omega
  refine (shapeCast_apply _ _ _ (ix4 (⟨(b.val * 48 + g.val * 8 + u.val) / 32, by omega⟩ : Fin 12) (⟨(b.val * 48 + g.val * 8 + u.val) % 32, by omega⟩ : Fin 32) s l) ?_).trans ?_
  · rw [Shape.rowMajor_val_three, Shape.rowMajor_val_four]
    show (((b.val * 48 + g.val * 8 + u.val) / 32 * 32 + (b.val * 48 + g.val * 8 + u.val) % 32) * 16 + s.val) * 128 + l.val
      = ((b.val * 48 + g.val * 8 + u.val) * 16 + s.val) * 128 + l.val
    rw [Nat.div_add_mod']
  have hw : (b.val * 48 + g.val * 8 + u.val) / 32 * 32 + (b.val * 48 + g.val * 8 + u.val) % 32 = b.val * 48 + g.val * 8 + u.val := Nat.div_add_mod' _ _
  refine (show _ = outAt (F := Ideal) (rowsOf A ((b.val * 48 + g.val * 8 + u.val) / 32 * 32 + (b.val * 48 + g.val * 8 + u.val) % 32)) s.val l.val from rfl).trans ?_
  rw [hw, list_eq]
  symm
  refine (transpose_apply _ _ _ _ (ix5 b u g l s) ?_).trans ?_
  · intro i
    match i with
    | ⟨0, _⟩ => rfl
    | ⟨1, _⟩ => rfl
    | ⟨2, _⟩ => rfl
    | ⟨3, _⟩ => rfl
    | ⟨4, _⟩ => rfl
  refine shapeCast_apply _ _ _ _ ?_
  rw [Shape.rowMajor_val_four, Shape.rowMajor_val_five]
  show ((b.val * 8 + u.val) * 768 + (g.val * 128 + l.val)) * 16 + s.val = (((b.val * 8 + u.val) * 6 + g.val) * 128 + l.val) * 16 + s.val
  omega

end Cert.Equal
-- ==== Proof.Equal2.lean ====
module

public import proofs.«01_k».proof.Proof.Equal

/-! The TensorCore's lists and the reference's, entry by entry. -/

@[expose] public section

set_option maxRecDepth 65536

noncomputable section

namespace Cert.Equal2

open Cert.ReferenceIdeal Cert.ReferenceIdeal.Gen Idealize.ShloMosaic.ValueIdx
open Idealize.ShloMosaic hiding ix3 ix4 ix5
open Cert.KernelIdeal.K1 (tcOut inBlk ent col)

/-- Places along the last axis. -/
theorem along_last (a : Fin 8) (b : Fin 5) (c : Fin 768) (e k : Fin 512) :
    Shape.Idx.along (s := S8x5x768x512) (ix4 a b c e) 3 k = ix4 a b c k := by
  funext i
  unfold Shape.Idx.along
  match i with
  | ⟨0, _⟩ => rfl
  | ⟨1, _⟩ => rfl
  | ⟨2, _⟩ => rfl
  | ⟨3, _⟩ => rfl

/-- The host's top-k at an entry: the fibre's entry that the sort puts there. -/
theorem topK_apply (x : S8x5x768x512.Idx → EReal) (a : Fin 8) (b : Fin 5) (c : Fin 768) (s : Fin 16) :
    (Host.topK S8x5x768x16 3 (FloatOps.cmpfTotal (F := Ideal) (φ := .f32) .gt) x sliceFits_S8x5x768x512_S8x5x768x16).1 (ix4 a b c s)
      = x (ix4 a b c (sortedFrom (fun k k' : Fin 512 => FloatOps.cmpfTotal (F := Ideal) (φ := .f32) .gt (x (ix4 a b c k)) (x (ix4 a b c k')) == 1#1)
          ⟨s.val, by omega⟩)) := by
  unfold Host.topK
  dsimp only
  refine (extractStridedSlice_apply (s := S8x5x768x512) (t := S8x5x768x16) (fun _ => 0) _ sliceFits_S8x5x768x512_S8x5x768x16 (ix4 a b c s) (ix4 a b c (⟨s.val, by omega⟩ : Fin 512)) ?_).trans ?_
  · intro i
    match i with
    | ⟨0, _⟩ => exact (Nat.zero_add _).symm
    | ⟨1, _⟩ => exact (Nat.zero_add _).symm
    | ⟨2, _⟩ => exact (Nat.zero_add _).symm
    | ⟨3, _⟩ => exact (Nat.zero_add _).symm
  · unfold Host.sort2
    rw [dif_pos (show 3 < S8x5x768x512.rank by decide)]
    show x (Shape.Idx.along (s := S8x5x768x512) (ix4 a b c (⟨s.val, by omega⟩ : Fin 512)) 3 (sortedFrom (fun k k' : Fin 512 => FloatOps.cmpfTotal (F := Ideal) (φ := .f32) .gt
      (x (Shape.Idx.along (s := S8x5x768x512) (ix4 a b c (⟨s.val, by omega⟩ : Fin 512)) 3 k))
      (x (Shape.Idx.along (s := S8x5x768x512) (ix4 a b c (⟨s.val, by omega⟩ : Fin 512)) 3 k')) == 1#1) (⟨s.val, by omega⟩ : Fin 512))) = _
    simp only [along_last]
    exact congrArg x (along_last a b c _ _)

/-- The reference's fibres, of the tokens of one group. -/
def fib (A : S8x4608x768.Idx → EReal) : S8x5x768x512.Idx → EReal :=
  transpose S8x5x768x512 [0, 1, 3, 2] (shapeCast S8x5x512x768 (extractStridedSlice S8x2560x768 ![0, 0, 0] A slices_S8x4608x768_S8x2560x768_0_0_0) shapeCasts_S8x2560x768_S8x5x512x768) transposes_S8x5x512x768_S8x5x768x512_0_1_3_2

theorem fib_apply (A : S8x4608x768.Idx → EReal) (a : Fin 8) (b : Fin 5) (c : Fin 768) (k : Fin 512) :
    fib A (ix4 a b c k) = A (ix3 a (⟨b.val * 512 + k.val, by omega⟩ : Fin 4608) c) := by
  refine (transpose_apply _ _ _ _ (ix4 a b k c) ?_).trans ?_
  · intro i
    match i with
    | ⟨0, _⟩ => rfl
    | ⟨1, _⟩ => rfl
    | ⟨2, _⟩ => rfl
    | ⟨3, _⟩ => rfl
  refine (shapeCast_apply _ _ _ (ix3 a (⟨b.val * 512 + k.val, by omega⟩ : Fin 2560) c) ?_).trans ?_
  · rw [Shape.rowMajor_val_three, Shape.rowMajor_val_four]
    show (a.val * 2560 + (b.val * 512 + k.val)) * 768 + c.val = ((a.val * 5 + b.val) * 512 + k.val) * 768 + c.val
    omega
  refine extractStridedSlice_apply _ _ _ _ _ ?_
  intro i
  match i with
  | ⟨0, _⟩ => exact (Nat.zero_add _).symm
  | ⟨1, _⟩ => exact (Nat.zero_add _).symm
  | ⟨2, _⟩ => exact (Nat.zero_add _).symm

/-- A column of a block is the reference's fibre. -/
theorem col_eq (A : S8x4608x768.Idx → EReal) (a : Fin 8) (b : Fin 5) (c : Fin 768) (k : Fin 512) :
    col (F := Ideal) (inBlk (F := Ideal) A b.val) a c k.val = fib A (ix4 a b c k) := by
  rw [fib_apply]
  unfold col inBlk
  congr 1
  have hb := b.isLt; have hk := k.isLt
  funext i
  match i with
  | ⟨0, _⟩ => rfl
  | ⟨1, _⟩ => exact Fin.ext (show (512 * b.val + k.val % 512) % 4608 = b.val * 512 + k.val by omega)
  | ⟨2, _⟩ => rfl

/-- The call's list at an entry is the host's top-k there. -/
theorem list_eq (A : S8x4608x768.Idx → EReal) (a : Fin 8) (b : Fin 5) (c : Fin 768) (s : Fin 16) :
    ent (F := Ideal) (inBlk (F := Ideal) A b.val) 5 a c 0 s.val
      = (Host.topK S8x5x768x16 3 (FloatOps.cmpfTotal (F := Ideal) (φ := .f32) .gt) (fib A) sliceFits_S8x5x768x512_S8x5x768x16).1 (ix4 a b c s) := by
  rw [topK_apply]
  have h1 : Top.IsTop (Finset.range 512) (col (F := Ideal) (inBlk (F := Ideal) A b.val) a c) _ :=
    Top.isTop_tree (col (F := Ideal) (inBlk (F := Ideal) A b.val) a c)
  have h2 := Top.isTop_sorted 512 (col (F := Ideal) (inBlk (F := Ideal) A b.val) a c)
    (fun i => if hi : i < 512 then col (F := Ideal) (inBlk (F := Ideal) A b.val) a c (sortedFrom (fun k k' : Fin 512 => FloatOps.cmpfTotal (F := Ideal) (φ := .f32) .gt
      (col (F := Ideal) (inBlk (F := Ideal) A b.val) a c k.val) (col (F := Ideal) (inBlk (F := Ideal) A b.val) a c k'.val) == 1#1) ⟨i, hi⟩).val else ⊥)
    (by decide) (fun i hi _ => dif_pos hi)
  refine (h1.unique h2 s.val s.isLt).trans ?_
  show (if hi : s.val < 512 then _ else _) = _
  rw [dif_pos (show s.val < 512 by omega), col_eq]
  simp only [col_eq]

/-- The call's result is the reference's. -/
theorem out_eq (X : S8x8x576x768.Idx → EReal) :
    tcOut (F := Ideal) (shapeCast S8x4608x768 X shapeCasts_S8x8x576x768_S8x4608x768)
      = transpose S8x5x16x768 [0, 1, 3, 2] ((Host.topK S8x5x768x16 3 (FloatOps.cmpfTotal (F := Ideal) (φ := .f32) .gt)
          (fib (shapeCast S8x4608x768 X shapeCasts_S8x8x576x768_S8x4608x768)) sliceFits_S8x5x768x512_S8x5x768x16).1) transposes_S8x5x768x16_S8x5x16x768_0_1_3_2 := by
  generalize shapeCast S8x4608x768 X shapeCasts_S8x8x576x768_S8x4608x768 = A
  funext y
  obtain ⟨a, b, s, c, rfl⟩ : ∃ (a : Fin 8) (b : Fin 5) (s : Fin 16) (c : Fin 768), y = ix4 a b s c :=
    ⟨y 0, y 1, y 2, y 3, by
      funext i
      match i with
      | ⟨0, _⟩ => rfl
      | ⟨1, _⟩ => rfl
      | ⟨2, _⟩ => rfl
      | ⟨3, _⟩ => rfl⟩
  refine (list_eq A a b c s).trans ?_
  symm
  refine transpose_apply _ _ _ _ (ix4 a b c s) ?_
  intro i
  match i with
  | ⟨0, _⟩ => rfl
  | ⟨1, _⟩ => rfl
  | ⟨2, _⟩ => rfl
  | ⟨3, _⟩ => rfl

end Cert.Equal2
-- ==== Proof.Same.lean ====
module

public import proofs.«01_k».proof.Defs
public import proofs.«01_k».proof.Proof.Gen.Kernel
public import proofs.«01_k».proof.Proof.Gen.KernelIdeal

/-! The kernel and the ideal kernel have the same text, so the same table of bodies, compared label by label. -/

@[expose] public section

set_option maxRecDepth 65536

noncomputable section

namespace Cert.Same

open Idealize.ShloMosaic Idealize.SL.Sem
variable {F : FTy → Type} [FloatOps F]
attribute [local instance] Kernel.Gen.facts KernelIdeal.Gen.facts

/-- The kernels' bodies. -/
theorem defs₀_eq : Kernel.defs₀ (F := F) = KernelIdeal.defs₀ (F := F) := by
  funext c ℓ a
  match c, ℓ, a with
  | .tc, 0, _ => rfl
  | .tc, 1, (_, _) => rfl
  | .scScalar _, 0, _ => rfl
  | .scScalar _, 1, _ => rfl
  | .scVector _ _, 0, _ => rfl
  | .scVector _ _, 1, _ => rfl

/-- The whole table: the same library's labels over the same bodies. -/
theorem defs_eq : Kernel.defs (F := F) = KernelIdeal.defs (F := F) :=
  congrArg (fun D => KernelIdeal.sc.defs (Pipeline.defs KernelIdeal.pcfgs D)) defs₀_eq

end Cert.Same

end
-- ==== Proof.MeanVal.lean ====
module

public import proofs.«01_k».proof.Proof.Gen.MeanIdeal.Value
public import proofs.«01_k».proof.Proof.Gen.MeanRefIdeal.Run
public import Idealize.ShloMosaic.Lib.Pipeline.ValueKit
public import Idealize.ShloMosaic.Lib.IdealHost

/-! The mean over the rows: what the accumulated blocks come to, and that it is the reference's mean. -/

@[expose] public section

set_option maxRecDepth 65536

noncomputable section

namespace Cert.MeanEq

open Cert.MeanIdeal Cert.MeanIdeal.Gen Cert.MeanIdeal.Value Idealize.ShloMosaic Idealize.ShloMosaic.TcCoe Idealize.SL.Sem

variable (m : (ℓ : Loc nD τ sig) → Buf (Elt Ideal) ℓ)

/-- The rows as the call takes them. -/
def rows (X : S8x8x576x768.Idx → EReal) : S8x4608x768.Idx → EReal := shapeCast S8x4608x768 X shapeCasts_S8x8x576x768_S8x4608x768

/-- One row's entry, by a row number that may be any natural. -/
def row (X : S8x8x576x768.Idx → EReal) (a : Fin 8) (b : Fin 768) (r : ℕ) : EReal := rows X (ix3 a (⟨r % 4608, Nat.mod_lt _ (by decide)⟩ : Fin 4608) b)

/-- The sum of one block of 512 rows. -/
def part (X : S8x8x576x768.Idx → EReal) (n : ℕ) (i : S8x768.Idx) : EReal := ∑ k ∈ Finset.range 512, row X (i 0) (i 1) (n * 512 + k)

theorem zero_word : Scalar.ofBits (F := Ideal) .f32 0x00000000#32 = (0 : EReal) := by
  show Ideal.ofBits .f32 0x00000000#32 = 0
  simp [Ideal.ofBits, Ideal.ieee]

/-- A block of the rows, at an entry. -/
theorem blk_apply (c : Dev nD) (n : ℕ) (h : n < cfg0.N) (a : Fin 8) (k : Fin 512) (b : Fin 768) :
    iblk m c 0 ⟨n, h⟩ (ix3 a k b) = row (m ((c : Thread nD τ).loc main_arg0)) a b (n * 512 + k.val) := by
  have hN : n < 9 := lt_of_lt_of_eq h N_0
  have e : cc0_transform_0 (grid0.coords ⟨n, h⟩) = ![0, n, 0] :=
    (by decide +kernel : ∀ t : Fin grid0.N, cc0_transform_0 (grid0.coords t) = ![0, t.val, 0]) ⟨n, h⟩
  unfold row rows
  show shapeCast S8x4608x768 _ _ _ = _
  congr 1
  have hk := k.isLt
  funext x
  match x with
  | ⟨0, _⟩ => exact Fin.ext (show cc0_transform_0 (grid0.coords ⟨n, h⟩) 0 * 8 + 1 * a.val = a.val by rw [e]; show 0 * 8 + 1 * a.val = a.val; omega)
  | ⟨1, _⟩ => exact Fin.ext (show cc0_transform_0 (grid0.coords ⟨n, h⟩) 1 * 512 + 1 * k.val = (n * 512 + k.val) % 4608 by rw [e]; show n * 512 + 1 * k.val = _; omega)
  | ⟨2, _⟩ => exact Fin.ext (show cc0_transform_0 (grid0.coords ⟨n, h⟩) 2 * 768 + 1 * b.val = b.val by rw [e]; show 0 * 768 + 1 * b.val = b.val; omega)

/-- Adding a block's sum. -/
theorem pay2_apply (c : Dev nD) (n : ℕ) (h : n < cfg0.N) (acc : S8x768.Idx → EReal) (i : S8x768.Idx) :
    k0_pay2 (F := Ideal) acc (iblk m c 0 ⟨n, h⟩) i = acc i + part (m ((c : Thread nD τ).loc main_arg0)) n i := by
  unfold k0_pay2
  show shapeCast S8x768 acc shapeCasts_S8x768_S8x768 i + multiReduction (F := Ideal) .add [1] S8x768 _ 0x00000000#32 reduces_S8x512x768_S8x768 (.inl rfl) rfl i = _
  rw [shapeCast_self, shapeCast_self]
  refine congrArg (fun z => acc i + z) ((Ideal.multiReduction_add_single _ _ _ _ _ i).trans ?_)
  unfold part
  rw [← Fin.sum_univ_eq_sum_range (fun k => row (m ((c : Thread nD τ).loc main_arg0)) (i 0) (i 1) (n * 512 + k)) 512]
  refine Finset.sum_congr rfl fun k _ => ?_
  rw [← blk_apply m c n h (i 0) k (i 1)]
  congr 1
  funext x
  match x with
  | ⟨0, _⟩ => rfl
  | ⟨1, _⟩ => rfl
  | ⟨2, _⟩ => rfl

theorem inv_eq : Named.named (F := Ideal) κ "inv_t" (φ := .f32) 0x39638E39#32 = ((4608⁻¹ : ℝ) : EReal) :=
  IdealRules.named_const.ideal_named_scalar κ "inv_t" (φ := .f32) 0x39638E39#32 ((4608⁻¹ : ℝ) : EReal) (by unfold κ; rfl)

theorem pay3_apply (v : S8x768.Idx → EReal) (i : S8x768.Idx) : k0_pay3 (F := Ideal) v i = v i * ((4608⁻¹ : ℝ) : EReal) := by
  unfold k0_pay3
  show shapeCast S8x768 v shapeCasts_S8x768_S8x768 i * Named.named (F := Ideal) κ "inv_t" (φ := .f32) 0x39638E39#32 = _
  rw [shapeCast_self, inv_eq]

/-- What the call leaves at an entry: the sum of all its rows, times the reciprocal of their number. -/
theorem result_apply (c : Dev nD) (a : Fin 8) (b : Fin 768) :
    G1 m c (ix2 a b) = (∑ r ∈ Finset.range 4608, row (m ((c : Thread nD τ).loc main_arg0)) a b r) * ((4608⁻¹ : ℝ) : EReal) := by
  have hN : cfg0.N = 9 := N_0
  have ha := a.isLt
  have hb := b.isLt
  have hrun : run1Of (ix2 a b) = 0 := by
    show 1 * (a.val / 8 - 0) + 1 * (b.val / 768 - 0) = 0
    omega
  have hloc : loc1Of (ix2 a b) = ix2 a b := by
    funext x
    match x with
    | ⟨0, _⟩ => exact Fin.ext (Nat.mod_eq_of_lt ha)
    | ⟨1, _⟩ => exact Fin.ext (Nat.mod_eq_of_lt hb)
  unfold G1
  rw [dif_pos (by rw [hrun, hN]; decide), hloc]
  have e : ∀ (p q : ℕ) (hp : p + 8 < cfg0.N) (hq : q + 8 < cfg0.N), p = q →
      Pipeline.accAt (reset1 m c) (step1 m c) p 8 hp = Pipeline.accAt (reset1 m c) (step1 m c) q 8 hq := by
    intro p q hp hq h; subst h; rfl
  rw [e _ 0 _ (by rw [hN]; decide) (by rw [hrun])]
  have h7 : 0 + 7 < cfg0.N := by rw [hN]; decide
  rw [Pipeline.accAt_succ (reset1 m c) (step1 m c) 0 7 (by rw [hN]; decide)]
  unfold step1
  rw [if_neg (by decide), if_pos (by decide), pay3_apply, pay2_apply]
  congr 1
  rw [Pipeline.accAt_add_apply (reset1 m c) _ (fun _ => 0) (part (m ((c : Thread nD τ).loc main_arg0))) 0 7 ?_ ?_ 7 le_rfl h7 (ix2 a b)]
  · rw [zero_add, show (4608 : ℕ) = 9 * 512 from rfl, Finset.sum_range_mul_split 9 512, Finset.sum_range_succ _ 8]
    simp only [zero_add]
    rfl
  · intro h i
    unfold reset1
    rw [pay2_apply]
    congr 1
    exact zero_word
  · intro n h acc i h0 h1
    rw [if_pos (by omega), pay2_apply]

theorem const_apply (t : Shape) (b : BitVec 32) (i : t.Idx) : constant (F := Ideal) t .f32 b i = Ideal.ofBits .f32 b := rfl

theorem spread_apply (b : BitVec 32) (i : Cert.MeanRefIdeal.S8x768.Idx) :
    broadcastInDim Cert.MeanRefIdeal.S8x768 ![] Cert.MeanRefIdeal.Gen.bcast_S_S8x768 (constant (F := Ideal) Cert.MeanRefIdeal.S_ .f32 b) i = Ideal.ofBits .f32 b := rfl

theorem count_word : Ideal.ofBits .f32 0x45900000#32 = ((4608 : ℝ) : EReal) := by
  simp [Ideal.ofBits, Ideal.ieee]
  rw [← EReal.coe_mul]
  norm_num

theorem zero_word' : Ideal.ofBits .f32 0x00000000#32 = (0 : EReal) := zero_word

/-- A division by the number of rows. -/
theorem div_count (x : EReal) : Ideal.div x ((4608 : ℝ) : EReal) = x * ((4608⁻¹ : ℝ) : EReal) := by
  unfold Ideal.div
  rw [if_neg (by intro h; exact absurd (EReal.coe_eq_zero.mp h) (by norm_num)), ← EReal.coe_inv]

/-- The reference's sum at an entry. -/
theorem ref_sum (X : S8x8x576x768.Idx → EReal) (a : Fin 8) (b : Fin 768) :
    Ideal.hostReduceAdd Cert.MeanRefIdeal.Gen.reducesTo_S8x4608x768_S8x768_d1 (rows X) 0 (ix2 a b) = ∑ r ∈ Finset.range 4608, row X a b r := by
  have hd : Cert.MeanRefIdeal.S8x4608x768.Reduces [1] Cert.MeanRefIdeal.S8x768 := by decide
  rw [Ideal.hostReduceAdd_single _ hd, zero_add, ← Fin.sum_univ_eq_sum_range (fun r => row X a b r) 4608]
  refine Finset.sum_congr rfl fun k _ => ?_
  have hk : k.val < 4608 := k.isLt
  unfold row
  refine congrArg (rows X) ?_
  funext x
  match x with
  | ⟨0, _⟩ => rfl
  | ⟨1, _⟩ => exact Fin.ext (Nat.mod_eq_of_lt hk).symm
  | ⟨2, _⟩ => rfl

/-- The call's result is the reference's mean. -/
theorem result_eq (c : Dev nD) :
    G1 m c = Host.divf (Host.reduceAdd (shapeCast Cert.MeanRefIdeal.S8x4608x768 (m ((c : Thread nD τ).loc main_arg0)) Cert.MeanRefIdeal.Gen.shapeCasts_S8x8x576x768_S8x4608x768)
      (constant (F := Ideal) Cert.MeanRefIdeal.S_ .f32 0x00000000#32) Cert.MeanRefIdeal.Gen.reducesTo_S8x4608x768_S8x768_d1 Cert.MeanRefIdeal.Gen.h_S_)
      (broadcastInDim Cert.MeanRefIdeal.S8x768 ![] Cert.MeanRefIdeal.Gen.bcast_S_S8x768 (constant (F := Ideal) Cert.MeanRefIdeal.S_ .f32 0x45900000#32)) := by
  funext i
  obtain ⟨a, b, rfl⟩ : ∃ (a : Fin 8) (b : Fin 768), i = ix2 a b := ⟨i 0, i 1, by
    funext x
    match x with
    | ⟨0, _⟩ => rfl
    | ⟨1, _⟩ => rfl⟩
  rw [result_apply, ← ref_sum, ValueIdx.hostDivf_apply, ValueIdx.hostReduceAdd_apply, spread_apply, const_apply, count_word, zero_word', div_count]
  rfl

end Cert.MeanEq

end
-- ==== Proof.lean ====
module

public import proofs.«01_k».proof.Defs
public import proofs.«01_k».proof.Proof.Equal2
public import proofs.«01_k».proof.Proof.Same
public import proofs.«01_k».proof.Proof.MeanVal
public import proofs.«01_k».proof.Proof.Gen.Kernel
public import proofs.«01_k».proof.Proof.Gen.KernelIdeal
public import proofs.«01_k».proof.Proof.Gen.ReferenceIdeal
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Mean.Frame
public import proofs.«01_k».proof.Proof.Gen.MeanIdeal.Value
public import proofs.«01_k».proof.Proof.Gen.MeanRefIdeal.Run

/-! The lists of the sixteen greatest of each chunk: the kernel's run, the reference's, and that they agree. -/

@[expose] public section

set_option maxRecDepth 65536

noncomputable section

namespace Cert.Proof

open Idealize.ShloMosaic Idealize.SL.Sem

theorem frame_kernel : Cert.quiescent_Kernel := by
  intro m ρ _
  have h : ∀ D, D = Cert.KernelIdeal.defs (F := Bits) →
      θ_run D (Cert.KernelIdeal.threads (F := Bits)) ⟨m, fun _ => 0, ρ⟩
        (fun r => (∀ c : Dev Cert.KernelIdeal.nD, r.2.mem (Cert.KernelIdeal.K0.aLoc c) = m (Cert.KernelIdeal.K0.aLoc c)) ∧ r.2.sem = fun _ => 0) := by
    rintro D rfl
    exact (θ_run Cert.KernelIdeal.defs _ _).mono (fun _ h => ⟨fun c => (h.1 c).1, h.2⟩) (Cert.KernelIdeal.K0.run_main (F := Bits) m ρ)
  exact h _ Cert.Same.defs_eq

theorem frame_ideal : Cert.quiescent_KernelIdeal := fun m ρ _ =>
  (θ_run Cert.KernelIdeal.defs _ _).mono (fun _ h => ⟨fun c => (h.1 c).1, h.2⟩) (Cert.KernelIdeal.K0.run_main (F := Ideal) m ρ)

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem equal : Cert.algebraic_KernelIdeal_ReferenceIdeal := by
  intro m ρ m' ρ' _ ha
  refine ⟨fun c => Cert.KernelIdeal.K0.out (F := Ideal) m c, fun c => Cert.KernelIdeal.K0.out2 (F := Ideal) m c, ?_, ?_⟩
  · exact (θ_run Cert.KernelIdeal.defs _ _).mono (fun _ h c => ⟨(h.1 c).2.1, (h.1 c).2.2, (h.1 c).1⟩) (Cert.KernelIdeal.K0.run_main (F := Ideal) m ρ)
  · refine (θ_run Cert.ReferenceIdeal.defs _ _).mono (fun _ h c => ⟨(h c).1.trans ?_, (h c).2.1.trans ?_, (h c).2.2⟩) (Cert.ReferenceIdeal.Value.run (F := Ideal) m' ρ')
    · rw [ha c]
      exact (Cert.Equal.out_eq (m (Cert.KernelIdeal.K0.aLoc c))).symm
    · rw [ha c]
      exact (Cert.Equal2.out_eq (m (Cert.KernelIdeal.K0.aLoc c))).symm

theorem mean_frame_kernel : Cert.quiescent_Mean := fun m ρ _ => Cert.Mean.Gen.frame m ρ

theorem mean_frame_ideal : Cert.quiescent_MeanIdeal := fun m ρ _ => Cert.MeanIdeal.Gen.frame m ρ

theorem mean_frame_reference : Cert.quiescent_MeanRefIdeal := fun m ρ _ =>
  (θ_run Cert.MeanRefIdeal.defs _ _).mono (fun r h => ⟨fun c => (h c).2, sem_eq_zero_of_no_sems (by decide) r.2⟩)
    (Cert.MeanRefIdeal.Value.run (F := Ideal) m ρ)

theorem mean_preserves : Cert.preserves_Mean_MeanIdeal :=
  IdealRules.named_const.statement Cert.MeanIdeal.κ "inv_t" .f32 0x39638E39#32 ((4608⁻¹ : ℝ) : EReal) (by unfold Cert.MeanIdeal.κ; rfl)

theorem mean_equal : Cert.algebraic_MeanIdeal_MeanRefIdeal := by
  intro m ρ m' ρ' _ ha
  refine ⟨fun c => Cert.MeanIdeal.Value.G1 (F := Ideal) m c, Cert.MeanIdeal.Value.run (F := Ideal) m ρ, ?_⟩
  refine (θ_run Cert.MeanRefIdeal.defs _ _).mono (fun _ h c => ⟨(h c).1.trans ?_, (h c).2⟩) (Cert.MeanRefIdeal.Value.run (F := Ideal) m' ρ')
  rw [ha c]
  exact (Cert.MeanEq.result_eq m c).symm

theorem claim : Cert.Claim :=
  ⟨Cert.Kernel.Gen.facts, Cert.KernelIdeal.Gen.facts, Cert.ReferenceIdeal.Gen.facts, Cert.Mean.Gen.facts, Cert.MeanIdeal.Gen.facts, Cert.MeanRefIdeal.Gen.facts,
    Cert.Proof.frame_kernel, Cert.Proof.frame_ideal, Cert.Proof.frame_reference,
    Cert.Proof.mean_frame_kernel, Cert.Proof.mean_frame_ideal, Cert.Proof.mean_frame_reference,
    trivial, Cert.Proof.equal, Cert.Proof.mean_preserves, Cert.Proof.mean_equal⟩

end Cert.Proof

end
